-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.1 = (fun _ => 1#1)
    ∧ (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.1 = (fun _ => 1#1)
    ∧ (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384x13 : Shape := ⟨2, ![16384, 13]⟩
abbrev S16384x26 : Shape := ⟨2, ![16384, 26]⟩
abbrev S26x100000x16 : Shape := ⟨3, ![26, 100000, 16]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : FVec F S16384x13 .f32) (main_arg1 : IVec S16384x26 32) (main_arg2 : FVec F S26x100000x16 .f32) (main_arg3 : FVec F S429x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_arg13 : FVec F S128 .f32) (main_arg14 : FVec F S128 .f32) (main_arg15 : FVec F S128x1 .f32) (main_arg16 : FVec F S1 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  main_v4
-- ==== Pre_in_range_finite.lean ====
abbrev S16384x13 : Shape := ⟨2, ![16384, 13]⟩
abbrev S16384x26 : Shape := ⟨2, ![16384, 26]⟩
abbrev S26x100000x16 : Shape := ⟨3, ![26, 100000, 16]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S16384x26 : S_.BroadcastsInDim S16384x26 (![] : Fin 0 → Fin S16384x26.rank)
  bcast_S_S16384x13 : S_.BroadcastsInDim S16384x13 (![] : Fin 0 → Fin S16384x13.rank)
  bcast_S_S26x100000x16 : S_.BroadcastsInDim S26x100000x16 (![] : Fin 0 → Fin S26x100000x16.rank)
  bcast_S_S429x512 : S_.BroadcastsInDim S429x512 (![] : Fin 0 → Fin S429x512.rank)
  bcast_S_S512 : S_.BroadcastsInDim S512 (![] : Fin 0 → Fin S512.rank)
  bcast_S_S512x256 : S_.BroadcastsInDim S512x256 (![] : Fin 0 → Fin S512x256.rank)
  bcast_S_S256 : S_.BroadcastsInDim S256 (![] : Fin 0 → Fin S256.rank)
  bcast_S_S256x128 : S_.BroadcastsInDim S256x128 (![] : Fin 0 → Fin S256x128.rank)
  bcast_S_S128 : S_.BroadcastsInDim S128 (![] : Fin 0 → Fin S128.rank)

variable [Facts]

def fn_part2 {F : FTy → Type} [FloatOps F] (main_arg12 : FVec F S128 .f32) (main_arg13 : FVec F S128 .f32) (main_v4 : IVec S16384x26 1) (main_v7 : IVec S16384x13 1) (main_v10 : IVec S26x100000x16 1) (main_v13 : IVec S429x512 1) (main_v16 : IVec S512 1) (main_v19 : IVec S512 1) (main_v22 : IVec S512 1) (main_v25 : IVec S512x256 1) (main_v28 : IVec S256 1) (main_v31 : IVec S256 1) (main_v34 : IVec S256 1) (main_v35 : FVec F S256x128 .f32) : IVec S16384x26 1 × IVec S16384x13 1 × IVec S26x100000x16 1 × IVec S429x512 1 × IVec S512 1 × IVec S512 1 × IVec S512 1 × IVec S512x256 1 × IVec S256 1 × IVec S256 1 × IVec S256 1 × IVec S256x128 1 × IVec S128 1 × IVec S128 1 :=
  let main_cst_10 : FVec F S_ .f32 := constant S_ .f32 0x7F800000#32
  let main_v36 : FVec F S256x128 .f32 := broadcastInDim S256x128 ![] bcast_S_S256x128 main_cst_10
  let main_v37 : IVec S256x128 1 := cmpf .olt main_v35 main_v36
  let main_v38 : FVec F S128 .f32 := Host.absf main_arg12
  let main_cst_11 : FVec F S_ .f32 := constant S_ .f32 0x7F800000#32
  let main_v39 : FVec F S128 .f32 := broadcastInDim S128 ![] bcast_S_S128 main_cst_11
  let main_v40 : IVec S128 1 := cmpf .olt main_v38 main_v39
  let main_v41 : FVec F S128 .f32 := Host.absf main_arg13
  let main_cst_12 : FVec F S_ .f32 := constant S_ .f32 0x7F800000#32
  let main_v42 : FVec F S128 .f32 := broadcastInDim S128 ![] bcast_S_S128 main_cst_12
  let main_v43 : IVec S128 1 := cmpf .olt main_v41 main_v42
  (main_v4, main_v7, main_v10, main_v13, main_v16, main_v19, main_v22, main_v25, main_v28, main_v31, main_v34, main_v37, main_v40, main_v43)

def fn_part1 {F : FTy → Type} [FloatOps F] (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_arg13 : FVec F S128 .f32) (main_v4 : IVec S16384x26 1) (main_v7 : IVec S16384x13 1) (main_v10 : IVec S26x100000x16 1) (main_v13 : IVec S429x512 1) (main_v16 : IVec S512 1) (main_v17 : FVec F S512 .f32) : IVec S16384x26 1 × IVec S16384x13 1 × IVec S26x100000x16 1 × IVec S429x512 1 × IVec S512 1 × IVec S512 1 × IVec S512 1 × IVec S512x256 1 × IVec S256 1 × IVec S256 1 × IVec S256 1 × IVec S256x128 1 × IVec S128 1 × IVec S128 1 :=
  let main_cst_4 : FVec F S_ .f32 := constant S_ .f32 0x7F800000#32
  let main_v18 : FVec F S512 .f32 := broadcastInDim S512 ![] bcast_S_S512 main_cst_4
  let main_v19 : IVec S512 1 := cmpf .olt main_v17 main_v18
  let main_v20 : FVec F S512 .f32 := Host.absf main_arg6
  let main_cst_5 : FVec F S_ .f32 := constant S_ .f32 0x7F800000#32
  let main_v21 : FVec F S512 .f32 := broadcastInDim S512 ![] bcast_S_S512 main_cst_5
  let main_v22 : IVec S512 1 := cmpf .olt main_v20 main_v21
  let main_v23 : FVec F S512x256 .f32 := Host.absf main_arg7
  let main_cst_6 : FVec F S_ .f32 := constant S_ .f32 0x7F800000#32
  let main_v24 : FVec F S512x256 .f32 := broadcastInDim S512x256 ![] bcast_S_S512x256 main_cst_6
  let main_v25 : IVec S512x256 1 := cmpf .olt main_v23 main_v24
  let main_v26 : FVec F S256 .f32 := Host.absf main_arg8
  let main_cst_7 : FVec F S_ .f32 := constant S_ .f32 0x7F800000#32
  let main_v27 : FVec F S256 .f32 := broadcastInDim S256 ![] bcast_S_S256 main_cst_7
  let main_v28 : IVec S256 1 := cmpf .olt main_v26 main_v27
  let main_v29 : FVec F S256 .f32 := Host.absf main_arg9
  let main_cst_8 : FVec F S_ .f32 := constant S_ .f32 0x7F800000#32
  let main_v30 : FVec F S256 .f32 := broadcastInDim S256 ![] bcast_S_S256 main_cst_8
  let main_v31 : IVec S256 1 := cmpf .olt main_v29 main_v30
  let main_v32 : FVec F S256 .f32 := Host.absf main_arg10
  let main_cst_9 : FVec F S_ .f32 := constant S_ .f32 0x7F800000#32
  let main_v33 : FVec F S256 .f32 := broadcastInDim S256 ![] bcast_S_S256 main_cst_9
  let main_v34 : IVec S256 1 := cmpf .olt main_v32 main_v33
  let main_v35 : FVec F S256x128 .f32 := Host.absf main_arg11
  fn_part2 (F := F) main_arg12 main_arg13 main_v4 main_v7 main_v10 main_v13 main_v16 main_v19 main_v22 main_v25 main_v28 main_v31 main_v34 main_v35

def fn {F : FTy → Type} [FloatOps F] (main_arg0 : FVec F S16384x13 .f32) (main_arg1 : IVec S16384x26 32) (main_arg2 : FVec F S26x100000x16 .f32) (main_arg3 : FVec F S429x512 .f32) (main_arg4 : FVec F S512 .f32) (main_arg5 : FVec F S512 .f32) (main_arg6 : FVec F S512 .f32) (main_arg7 : FVec F S512x256 .f32) (main_arg8 : FVec F S256 .f32) (main_arg9 : FVec F S256 .f32) (main_arg10 : FVec F S256 .f32) (main_arg11 : FVec F S256x128 .f32) (main_arg12 : FVec F S128 .f32) (main_arg13 : FVec F S128 .f32) (main_arg14 : FVec F S128 .f32) (main_arg15 : FVec F S128x1 .f32) (main_arg16 : FVec F S1 .f32) : IVec S16384x26 1 × IVec S16384x13 1 × IVec S26x100000x16 1 × IVec S429x512 1 × IVec S512 1 × IVec S512 1 × IVec S512 1 × IVec S512x256 1 × IVec S256 1 × IVec S256 1 × IVec S256 1 × IVec S256x128 1 × IVec S128 1 × IVec S128 1 :=
  let main_c : IVec S_ 32 := constantI S_ 32 0#32
  let main_v0 : IVec S16384x26 32 := broadcastInDim S16384x26 ![] bcast_S_S16384x26 main_c
  let main_v1 : IVec S16384x26 1 := cmpi .sge main_arg1 main_v0
  let main_c_0 : IVec S_ 32 := constantI S_ 32 100000#32
  let main_v2 : IVec S16384x26 32 := broadcastInDim S16384x26 ![] bcast_S_S16384x26 main_c_0
  let main_v3 : IVec S16384x26 1 := cmpi .slt main_arg1 main_v2
  let main_v4 : IVec S16384x26 1 := andi main_v1 main_v3
  let main_v5 : FVec F S16384x13 .f32 := Host.absf main_arg0
  let main_cst : FVec F S_ .f32 := constant S_ .f32 0x7F800000#32
  let main_v6 : FVec F S16384x13 .f32 := broadcastInDim S16384x13 ![] bcast_S_S16384x13 main_cst
  let main_v7 : IVec S16384x13 1 := cmpf .olt main_v5 main_v6
  let main_v8 : FVec F S26x100000x16 .f32 := Host.absf main_arg2
  let main_cst_1 : FVec F S_ .f32 := constant S_ .f32 0x7F800000#32
  let main_v9 : FVec F S26x100000x16 .f32 := broadcastInDim S26x100000x16 ![] bcast_S_S26x100000x16 main_cst_1
  let main_v10 : IVec S26x100000x16 1 := cmpf .olt main_v8 main_v9
  let main_v11 : FVec F S429x512 .f32 := Host.absf main_arg3
  let main_cst_2 : FVec F S_ .f32 := constant S_ .f32 0x7F800000#32
  let main_v12 : FVec F S429x512 .f32 := broadcastInDim S429x512 ![] bcast_S_S429x512 main_cst_2
  let main_v13 : IVec S429x512 1 := cmpf .olt main_v11 main_v12
  let main_v14 : FVec F S512 .f32 := Host.absf main_arg4
  let main_cst_3 : FVec F S_ .f32 := constant S_ .f32 0x7F800000#32
  let main_v15 : FVec F S512 .f32 := broadcastInDim S512 ![] bcast_S_S512 main_cst_3
  let main_v16 : IVec S512 1 := cmpf .olt main_v14 main_v15
  let main_v17 : FVec F S512 .f32 := Host.absf main_arg5
  fn_part1 (F := F) main_arg6 main_arg7 main_arg8 main_arg9 main_arg10 main_arg11 main_arg12 main_arg13 main_v4 main_v7 main_v10 main_v13 main_v16 main_v17
-- ==== Kernel.lean ====
abbrev S16384x13 : Shape := ⟨2, ![16384, 13]⟩
abbrev S16384x26 : Shape := ⟨2, ![16384, 26]⟩
abbrev S26x100000x16 : Shape := ⟨3, ![26, 100000, 16]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S_ : Shape := ⟨0, ![]⟩
abbrev S1x26 : Shape := ⟨2, ![1, 26]⟩
abbrev S1x425984 : Shape := ⟨2, ![1, 425984]⟩
abbrev S2600000x16 : Shape := ⟨2, ![2600000, 16]⟩
abbrev S425984x16 : Shape := ⟨2, ![425984, 16]⟩
abbrev S2x1x128 : Shape := ⟨3, ![2, 1, 128]⟩
abbrev S2 : Shape := ⟨1, ![2]⟩
abbrev S2x128x16 : Shape := ⟨3, ![2, 128, 16]⟩
abbrev S1x1x128 : Shape := ⟨3, ![1, 1, 128]⟩
abbrev S1x128 : Shape := ⟨2, ![1, 128]⟩
abbrev S1x128x16 : Shape := ⟨3, ![1, 128, 16]⟩
abbrev S128x16 : Shape := ⟨2, ![128, 16]⟩
abbrev S16384x416 : Shape := ⟨2, ![16384, 416]⟩
abbrev S13x512 : Shape := ⟨2, ![13, 512]⟩
abbrev S416x512 : Shape := ⟨2, ![416, 512]⟩
abbrev S1x512 : Shape := ⟨2, ![1, 512]⟩
abbrev S16384x512 : Shape := ⟨2, ![16384, 512]⟩
abbrev S2x512 : Shape := ⟨2, ![2, 512]⟩
abbrev S512x13 : Shape := ⟨2, ![512, 13]⟩
abbrev S512x416 : Shape := ⟨2, ![512, 416]⟩
abbrev S512x512 : Shape := ⟨2, ![512, 512]⟩
abbrev S1x256 : Shape := ⟨2, ![1, 256]⟩
abbrev S16384x256 : Shape := ⟨2, ![16384, 256]⟩
abbrev S2x256 : Shape := ⟨2, ![2, 256]⟩
abbrev S16384x128 : Shape := ⟨2, ![16384, 128]⟩
abbrev S2x128 : Shape := ⟨2, ![2, 128]⟩
abbrev S512x128 : Shape := ⟨2, ![512, 128]⟩
abbrev S1x1 : Shape := ⟨2, ![1, 1]⟩
abbrev S16384x1 : Shape := ⟨2, ![16384, 1]⟩
abbrev S512x1 : Shape := ⟨2, ![512, 1]⟩

abbrev nBuf : Table → Nat
  | .hbm => 47
  | .local .tc .vmem => 39
  | .local .scVector .vmem => 2
  | _ => 0

abbrev bufTy : (tb : Table) → Fin (nBuf tb) → BufTy
  | .hbm, ⟨0, _⟩ => ⟨S16384x13, .f32⟩
  | .hbm, ⟨1, _⟩ => ⟨S16384x26, .i32⟩
  | .hbm, ⟨2, _⟩ => ⟨S26x100000x16, .f32⟩
  | .hbm, ⟨3, _⟩ => ⟨S429x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S26, .i32⟩
  | .hbm, ⟨18, _⟩ => ⟨S_, .i32⟩
  | .hbm, ⟨19, _⟩ => ⟨S26, .i32⟩
  | .hbm, ⟨20, _⟩ => ⟨S26, .i32⟩
  | .hbm, ⟨21, _⟩ => ⟨S1x26, .i32⟩
  | .hbm, ⟨22, _⟩ => ⟨S16384x26, .i32⟩
  | .hbm, ⟨23, _⟩ => ⟨S16384x26, .i32⟩
  | .hbm, ⟨24, _⟩ => ⟨S1x425984, .i32⟩
  | .hbm, ⟨25, _⟩ => ⟨S2600000x16, .f32⟩
  | .hbm, ⟨26, _⟩ => ⟨S425984x16, .f32⟩
  | .hbm, ⟨27, _⟩ => ⟨S16384x416, .f32⟩
  | .hbm, ⟨28, _⟩ => ⟨S13x512, .f32⟩
  | .hbm, ⟨29, _⟩ => ⟨S416x512, .f32⟩
  | .hbm, ⟨30, _⟩ => ⟨S1x512, .f32⟩
  | .hbm, ⟨31, _⟩ => ⟨S16384x512, .f32⟩
  | .hbm, ⟨32, _⟩ => ⟨S2x512, .f32⟩
  | .hbm, ⟨33, _⟩ => ⟨S1x512, .f32⟩
  | .hbm, ⟨34, _⟩ => ⟨S1x512, .f32⟩
  | .hbm, ⟨35, _⟩ => ⟨S1x256, .f32⟩
  | .hbm, ⟨36, _⟩ => ⟨S16384x256, .f32⟩
  | .hbm, ⟨37, _⟩ => ⟨S2x256, .f32⟩
  | .hbm, ⟨38, _⟩ => ⟨S1x256, .f32⟩
  | .hbm, ⟨39, _⟩ => ⟨S1x256, .f32⟩
  | .hbm, ⟨40, _⟩ => ⟨S1x128, .f32⟩
  | .hbm, ⟨41, _⟩ => ⟨S16384x128, .f32⟩
  | .hbm, ⟨42, _⟩ => ⟨S2x128, .f32⟩
  | .hbm, ⟨43, _⟩ => ⟨S1x128, .f32⟩
  | .hbm, ⟨44, _⟩ => ⟨S1x128, .f32⟩
  | .hbm, ⟨45, _⟩ => ⟨S1x1, .f32⟩
  | .hbm, ⟨46, _⟩ => ⟨S16384x1, .f32⟩
  | .local .tc .vmem, ⟨0, _⟩ => ⟨S512x13, .f32⟩
  | .local .tc .vmem, ⟨1, _⟩ => ⟨S512x13, .f32⟩
  | .local .tc .vmem, ⟨2, _⟩ => ⟨S512x416, .f32⟩
  | .local .tc .vmem, ⟨3, _⟩ => ⟨S512x416, .f32⟩
  | .local .tc .vmem, ⟨4, _⟩ => ⟨S13x512, .f32⟩
  | .local .tc .vmem, ⟨5, _⟩ => ⟨S416x512, .f32⟩
  | .local .tc .vmem, ⟨6, _⟩ => ⟨S1x512, .f32⟩
  | .local .tc .vmem, ⟨7, _⟩ => ⟨S512x512, .f32⟩
  | .local .tc .vmem, ⟨8, _⟩ => ⟨S512x512, .f32⟩
  | .local .tc .vmem, ⟨9, _⟩ => ⟨S2x512, .f32⟩
  | .local .tc .vmem, ⟨10, _⟩ => ⟨S512x512, .f32⟩
  | .local .tc .vmem, ⟨11, _⟩ => ⟨S512x512, .f32⟩
  | .local .tc .vmem, ⟨12, _⟩ => ⟨S2x512, .f32⟩
  | .local .tc .vmem, ⟨13, _⟩ => ⟨S1x512, .f32⟩
  | .local .tc .vmem, ⟨14, _⟩ => ⟨S1x512, .f32⟩
  | .local .tc .vmem, ⟨15, _⟩ => ⟨S512x256, .f32⟩
  | .local .tc .vmem, ⟨16, _⟩ => ⟨S1x256, .f32⟩
  | .local .tc .vmem, ⟨17, _⟩ => ⟨S512x256, .f32⟩
  | .local .tc .vmem, ⟨18, _⟩ => ⟨S512x256, .f32⟩
  | .local .tc .vmem, ⟨19, _⟩ => ⟨S2x256, .f32⟩
  | .local .tc .vmem, ⟨20, _⟩ => ⟨S512x256, .f32⟩
  | .local .tc .vmem, ⟨21, _⟩ => ⟨S512x256, .f32⟩
  | .local .tc .vmem, ⟨22, _⟩ => ⟨S2x256, .f32⟩
  | .local .tc .vmem, ⟨23, _⟩ => ⟨S1x256, .f32⟩
  | .local .tc .vmem, ⟨24, _⟩ => ⟨S1x256, .f32⟩
  | .local .tc .vmem, ⟨25, _⟩ => ⟨S256x128, .f32⟩
  | .local .tc .vmem, ⟨26, _⟩ => ⟨S1x128, .f32⟩
  | .local .tc .vmem, ⟨27, _⟩ => ⟨S512x128, .f32⟩
  | .local .tc .vmem, ⟨28, _⟩ => ⟨S512x128, .f32⟩
  | .local .tc .vmem, ⟨29, _⟩ => ⟨S2x128, .f32⟩
  | .local .tc .vmem, ⟨30, _⟩ => ⟨S512x128, .f32⟩
  | .local .tc .vmem, ⟨31, _⟩ => ⟨S512x128, .f32⟩
  | .local .tc .vmem, ⟨32, _⟩ => ⟨S2x128, .f32⟩
  | .local .tc .vmem, ⟨33, _⟩ => ⟨S1x128, .f32⟩
  | .local .tc .vmem, ⟨34, _⟩ => ⟨S1x128, .f32⟩
  | .local .tc .vmem, ⟨35, _⟩ => ⟨S128x1, .f32⟩
  | .local .tc .vmem, ⟨36, _⟩ => ⟨S1x1, .f32⟩
  | .local .tc .vmem, ⟨37, _⟩ => ⟨S512x1, .f32⟩
  | .local .tc .vmem, ⟨38, _⟩ => ⟨S512x1, .f32⟩
  | .local .scVector .vmem, ⟨0, _⟩ => ⟨S2x1x128, .i32⟩
  | .local .scVector .vmem, ⟨1, _⟩ => ⟨S2x128x16, .f32⟩
  | _, _ => ⟨S16384x13, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v7_scv : Ref sig .scVector := ⟨.hbm, 25, rfl⟩
abbrev main_v6_scv : Ref sig .scVector := ⟨.hbm, 24, rfl⟩
abbrev main_v8_scv : Ref sig .scVector := ⟨.hbm, 26, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg5_1 : Ref sig .tc := ⟨.vmem, 8, rfl⟩
abbrev cc1_stg6_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc2_stg7_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg6_1 : Ref sig .tc := ⟨.vmem, 28, rfl⟩
abbrev cc3_stg7_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg6_1 : Ref sig .tc := ⟨.vmem, 38, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc2_sem7_0 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc3_sem7_0 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c104_i32_27_r0 : BitVec 32 := 104#32
  let v32_r0 : BitVec 32 := Scalar.addi c0_i32_26_r0 c104_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c104_i32_62_r0 : BitVec 32 := 104#32
  let v74_r0 : BitVec 1 := Scalar.cmpi .eq v73_r0 c104_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c103_i32_68_r0 : BitVec 32 := 103#32
  let v83_r0 : BitVec 1 := Scalar.cmpi .sge arg5_r0 c103_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c104_i32_62_r0 : BitVec 32 := 104#32
  let v74_r0 : BitVec 1 := Scalar.cmpi .eq v73_r0 c104_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c103_i32_59_r0 : BitVec 32 := 103#32
  let v70_r0 : BitVec 32 := Scalar.select v69_r0 c103_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x16.size a ≤ S2x128x16.size a)
theorem k0_off10_inb : ∀ (arg8_r0 : BitVec 32) (k0_hw2 : k0_chk2 arg8_r0), ∀ a, (k0_off10 arg8_r0) a + S1x128x16.size a ≤ S2x128x16.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c104_i32_62_r0 : BitVec 32 := 104#32
  let v74_r0 : BitVec 1 := Scalar.cmpi .eq v73_r0 c104_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c103_i32_55_r0 : BitVec 32 := 103#32
  let v65_r0 : BitVec 1 := Scalar.cmpi .eq arg5_r0 c103_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c103_i32_59_r0 : BitVec 32 := 103#32
  let v70_r0 : BitVec 32 := Scalar.select v69_r0 c103_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c103_i32_59_r0 : BitVec 32 := 103#32
  let v70_r0 : BitVec 32 := Scalar.select v69_r0 c103_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x425984.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x425984.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x16.size a ≤ S2x128x16.size a) ∧
  (∀ (k0_h5 : k0_cond5 i k0_t1 arg10_r0 = 1#1), ∀ a, (k0_off13 i arg10_r0) a + S128x16.size a ≤ S425984x16.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x16.size a ≤ S2x128x16.size a) ∧
  (∀ (k0_h7 : k0_cond7 i k0_t1 arg10_r0 = 1#1), ∀ a, (k0_off16 i arg10_r0) a + S128x16.size a ≤ S425984x16.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x425984.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x425984.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x16.size a ≤ S2x128x16.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x16.size a ≤ S425984x16.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x16.size a ≤ S2x128x16.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x16.size a ≤ S425984x16.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c103_i32_33_r0 : BitVec 32 := 103#32
  let v37_r0 : BitVec 32 := Scalar.select v36_r0 c103_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c104_i32 : BitVec 32 := 104#32
  let v4 : BitVec 32 := Scalar.muli v3 c104_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x16.size a ≤ S425984x16.size a)
theorem k0_off19_inb : ∀ (i : grid0.Coords) (v33_4_r0 : BitVec 32) (k0_hw5 : k0_chk5 i v33_4_r0), ∀ a, (k0_off19 i v33_4_r0) a + S128x16.size a ≤ S425984x16.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x16.size a ≤ S2x128x16.size a) ∧
  (∀ a, (k0_off20 v33_3_r0) a + S1.size a ≤ S2.size a) ∧
  (∀ a, (k0_off21 v33_3_r0) a + S1x128x16.size a ≤ S2x128x16.size a)
theorem k0_off18_inb : ∀ (v33_3_r0 : BitVec 32) (k0_hw4 : k0_chk4 v33_3_r0), ∀ a, (k0_off18 v33_3_r0) a + S1x128x16.size a ≤ S2x128x16.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x16.size a ≤ S2x128x16.size a := fun v33_3_r0 k0_hw4 => k0_hw4.2.2

abbrev grid1 : Pipeline.Grid := ⟨1, ![32], ![false]⟩

def k1_cond1 (i : grid1.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_14 : BitVec 32 := 0#32
  let v23 : BitVec 1 := Scalar.cmpi .ne v22 c0_i32_14
  v23

def k1_cond2 (i : grid1.Coords) : BitVec 1 :=
  let arg0 : BitVec 32 := BitVec.ofNat 32 (i 0).val
  let c0_i32_15 : BitVec 32 := 0#32
  let v24 : BitVec 1 := Scalar.cmpi .ne arg0 c0_i32_15
  let v25 : BitVec 32 := Scalar.extui v24
  let c0_i32_16 : BitVec 32 := 0#32
  let v26 : BitVec 1 := Scalar.cmpi .ne v25 c0_i32_16
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x13 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x416 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S13x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S416x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![32], ![false]⟩

def k2_cond1 (i : grid2.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k2_cond2 (i : grid2.Coords) : BitVec 1 :=
  let arg0 : BitVec 32 := BitVec.ofNat 32 (i 0).val
  let c0_i32_20 : BitVec 32 := 0#32
  let v44 : BitVec 1 := Scalar.cmpi .ne arg0 c0_i32_20
  let v45 : BitVec 32 := Scalar.extui v44
  let c0_i32_21 : BitVec 32 := 0#32
  let v46 : BitVec 1 := Scalar.cmpi .ne v45 c0_i32_21
  v46

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![32], ![false]⟩

def k3_cond1 (i : grid3.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k3_cond2 (i : grid3.Coords) : BitVec 1 :=
  let arg0 : BitVec 32 := BitVec.ofNat 32 (i 0).val
  let c0_i32_20 : BitVec 32 := 0#32
  let v44 : BitVec 1 := Scalar.cmpi .ne arg0 c0_i32_20
  let v45 : BitVec 32 := Scalar.extui v44
  let c0_i32_21 : BitVec 32 := 0#32
  let v46 : BitVec 1 := Scalar.cmpi .ne v45 c0_i32_21
  v46

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S2x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x13 : Shape := ⟨2, ![16384, 13]⟩
abbrev S16384x26 : Shape := ⟨2, ![16384, 26]⟩
abbrev S26x100000x16 : Shape := ⟨3, ![26, 100000, 16]⟩
abbrev S429x512 : Shape := ⟨2, ![429, 512]⟩
abbrev S512 : Shape := ⟨1, ![512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩
abbrev S26x16384 : Shape := ⟨2, ![26, 16384]⟩
abbrev S26x16384x1 : Shape := ⟨3, ![26, 16384, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x1 : Shape := ⟨2, ![16384, 1]⟩
abbrev S1x1 : Shape := ⟨2, ![1, 1]⟩

abbrev nBuf : Space → Nat
  | .hbm => 187
  | .vmem => 0
  | .smem => 0
  | _ => 0

abbrev hbmTy0_0 (i : Nat) : BufTy := match i % 128 with
  | 0 => ⟨S16384x13, .f32⟩
  | 1 => ⟨S16384x26, .i32⟩
  | 2 => ⟨S26x100000x16, .f32⟩
  | 3 => ⟨S429x512, .f32⟩
  | 4 => ⟨S512, .f32⟩
  | 5 => ⟨S512, .f32⟩
  | 6 => ⟨S512, .f32⟩
  | 7 => ⟨S512x256, .f32⟩
  | 8 => ⟨S256, .f32⟩
  | 9 => ⟨S256, .f32⟩
  | 10 => ⟨S256, .f32⟩
  | 11 => ⟨S256x128, .f32⟩
  | 12 => ⟨S128, .f32⟩
  | 13 => ⟨S128, .f32⟩
  | 14 => ⟨S128, .f32⟩
  | 15 => ⟨S128x1, .f32⟩
  | 16 => ⟨S1, .f32⟩
  | 17 => ⟨S_, .i32⟩
  | 18 => ⟨S16384x26, .i32⟩
  | 19 => ⟨S16384x26, .i1⟩
  | 20 => ⟨S_, .i32⟩
  | 21 => ⟨S16384x26, .i32⟩
  | 22 => ⟨S16384x26, .i32⟩
  | 23 => ⟨S16384x26, .i32⟩
  | 24 => ⟨S26x16384, .i32⟩
  | 25 => ⟨S26x16384x1, .i32⟩
  | 26 => ⟨S26x16384x16, .f32⟩
  | 27 => ⟨S16384x26x16, .f32⟩
  | 28 => ⟨S16384x416, .f32⟩
  | 29 => ⟨S16384x429, .f32⟩
  | 30 => ⟨S16384x512, .f32⟩
  | 31 => ⟨S1x512, .f32⟩
  | 32 => ⟨S16384x512, .f32⟩
  | 33 => ⟨S16384x512, .f32⟩
  | 34 => ⟨S_, .f32⟩
  | 35 => ⟨S512, .f32⟩
  | 36 => ⟨S_, .f32⟩
  | 37 => ⟨S512, .f32⟩
  | 38 => ⟨S512, .f32⟩
  | 39 => ⟨S_, .i32⟩
  | 40 => ⟨S_, .f32⟩
  | 41 => ⟨S512, .f32⟩
  | 42 => ⟨S1x512, .f32⟩
  | 43 => ⟨S_, .f32⟩
  | 44 => ⟨S1x512, .f32⟩
  | 45 => ⟨S1x512, .f32⟩
  | 46 => ⟨S16384x512, .f32⟩
  | 47 => ⟨S16384x512, .f32⟩
  | 48 => ⟨S16384x512, .f32⟩
  | 49 => ⟨S_, .f32⟩
  | 50 => ⟨S_, .f32⟩
  | 51 => ⟨S_, .f32⟩
  | 52 => ⟨S_, .f32⟩
  | 53 => ⟨S512, .f32⟩
  | 54 => ⟨S512, .f32⟩
  | 55 => ⟨S512, .f32⟩
  | 56 => ⟨S_, .f32⟩
  | 57 => ⟨S_, .i1⟩
  | 58 => ⟨S_, .f32⟩
  | 59 => ⟨S_, .f32⟩
  | 60 => ⟨S512, .f32⟩
  | 61 => ⟨S512, .f32⟩
  | 62 => ⟨S1x512, .f32⟩
  | 63 => ⟨S16384x512, .f32⟩
  | 64 => ⟨S16384x512, .f32⟩
  | 65 => ⟨S_, .f32⟩
  | 66 => ⟨S512, .f32⟩
  | 67 => ⟨S512, .f32⟩
  | 68 => ⟨S512, .f32⟩
  | 69 => ⟨S1x512, .f32⟩
  | 70 => ⟨S16384x512, .f32⟩
  | 71 => ⟨S16384x512, .f32⟩
  | 72 => ⟨S1x512, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S16384x256, .f32⟩
  | 82 => ⟨S1x256, .f32⟩
  | 83 => ⟨S16384x256, .f32⟩
  | 84 => ⟨S16384x256, .f32⟩
  | 85 => ⟨S_, .f32⟩
  | 86 => ⟨S256, .f32⟩
  | 87 => ⟨S_, .f32⟩
  | 88 => ⟨S256, .f32⟩
  | 89 => ⟨S256, .f32⟩
  | 90 => ⟨S_, .i32⟩
  | 91 => ⟨S_, .f32⟩
  | 92 => ⟨S256, .f32⟩
  | 93 => ⟨S1x256, .f32⟩
  | 94 => ⟨S_, .f32⟩
  | 95 => ⟨S1x256, .f32⟩
  | 96 => ⟨S1x256, .f32⟩
  | 97 => ⟨S16384x256, .f32⟩
  | 98 => ⟨S16384x256, .f32⟩
  | 99 => ⟨S16384x256, .f32⟩
  | 100 => ⟨S_, .f32⟩
  | 101 => ⟨S_, .f32⟩
  | 102 => ⟨S_, .f32⟩
  | 103 => ⟨S_, .f32⟩
  | 104 => ⟨S256, .f32⟩
  | 105 => ⟨S256, .f32⟩
  | 106 => ⟨S256, .f32⟩
  | 107 => ⟨S_, .f32⟩
  | 108 => ⟨S_, .i1⟩
  | 109 => ⟨S_, .f32⟩
  | 110 => ⟨S_, .f32⟩
  | 111 => ⟨S256, .f32⟩
  | 112 => ⟨S256, .f32⟩
  | 113 => ⟨S1x256, .f32⟩
  | 114 => ⟨S16384x256, .f32⟩
  | 115 => ⟨S16384x256, .f32⟩
  | 116 => ⟨S_, .f32⟩
  | 117 => ⟨S256, .f32⟩
  | 118 => ⟨S256, .f32⟩
  | 119 => ⟨S256, .f32⟩
  | 120 => ⟨S1x256, .f32⟩
  | 121 => ⟨S16384x256, .f32⟩
  | 122 => ⟨S16384x256, .f32⟩
  | 123 => ⟨S1x256, .f32⟩
  | 124 => ⟨S16384x256, .f32⟩
  | 125 => ⟨S16384x256, .f32⟩
  | 126 => ⟨S1x256, .f32⟩
  | 127 => ⟨S16384x256, .f32⟩
  | _ => ⟨S16384x13, .f32⟩

abbrev hbmTy0_1 (i : Nat) : BufTy := match i % 128 with
  | 0 => ⟨S16384x256, .f32⟩
  | 1 => ⟨S_, .f32⟩
  | 2 => ⟨S16384x256, .f32⟩
  | 3 => ⟨S16384x256, .f32⟩
  | 4 => ⟨S16384x128, .f32⟩
  | 5 => ⟨S1x128, .f32⟩
  | 6 => ⟨S16384x128, .f32⟩
  | 7 => ⟨S16384x128, .f32⟩
  | 8 => ⟨S_, .f32⟩
  | 9 => ⟨S128, .f32⟩
  | 10 => ⟨S_, .f32⟩
  | 11 => ⟨S128, .f32⟩
  | 12 => ⟨S128, .f32⟩
  | 13 => ⟨S_, .i32⟩
  | 14 => ⟨S_, .f32⟩
  | 15 => ⟨S128, .f32⟩
  | 16 => ⟨S1x128, .f32⟩
  | 17 => ⟨S_, .f32⟩
  | 18 => ⟨S1x128, .f32⟩
  | 19 => ⟨S1x128, .f32⟩
  | 20 => ⟨S16384x128, .f32⟩
  | 21 => ⟨S16384x128, .f32⟩
  | 22 => ⟨S16384x128, .f32⟩
  | 23 => ⟨S_, .f32⟩
  | 24 => ⟨S_, .f32⟩
  | 25 => ⟨S_, .f32⟩
  | 26 => ⟨S_, .f32⟩
  | 27 => ⟨S128, .f32⟩
  | 28 => ⟨S128, .f32⟩
  | 29 => ⟨S128, .f32⟩
  | 30 => ⟨S_, .f32⟩
  | 31 => ⟨S_, .i1⟩
  | 32 => ⟨S_, .f32⟩
  | 33 => ⟨S_, .f32⟩
  | 34 => ⟨S128, .f32⟩
  | 35 => ⟨S128, .f32⟩
  | 36 => ⟨S1x128, .f32⟩
  | 37 => ⟨S16384x128, .f32⟩
  | 38 => ⟨S16384x128, .f32⟩
  | 39 => ⟨S_, .f32⟩
  | 40 => ⟨S128, .f32⟩
  | 41 => ⟨S128, .f32⟩
  | 42 => ⟨S128, .f32⟩
  | 43 => ⟨S1x128, .f32⟩
  | 44 => ⟨S16384x128, .f32⟩
  | 45 => ⟨S16384x128, .f32⟩
  | 46 => ⟨S1x128, .f32⟩
  | 47 => ⟨S16384x128, .f32⟩
  | 48 => ⟨S16384x128, .f32⟩
  | 49 => ⟨S1x128, .f32⟩
  | 50 => ⟨S16384x128, .f32⟩
  | 51 => ⟨S16384x128, .f32⟩
  | 52 => ⟨S_, .f32⟩
  | 53 => ⟨S16384x128, .f32⟩
  | 54 => ⟨S16384x128, .f32⟩
  | 55 => ⟨S16384x1, .f32⟩
  | 56 => ⟨S1x1, .f32⟩
  | 57 => ⟨S16384x1, .f32⟩
  | 58 => ⟨S16384x1, .f32⟩
  | _ => ⟨S16384x13, .f32⟩

abbrev hbmTy (i : Nat) : BufTy := match i / 128 with
  | 0 => hbmTy0_0 i
  | 1 => hbmTy0_1 i
  | _ => ⟨S16384x13, .f32⟩

abbrev bufTy : (tb : Table) → Fin (tcTables nBuf tb) → BufTy
  | .hbm, ⟨i, _⟩ => hbmTy i
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_3 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_call1_cst : Ref sig .tc := ⟨.hbm, 78, rfl⟩
abbrev main_call1_v0 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_4 : Ref sig .tc := ⟨.hbm, 85, rfl⟩
abbrev main_v39 : Ref sig .tc := ⟨.hbm, 86, rfl⟩
abbrev main_cst_5 : Ref sig .tc := ⟨.hbm, 87, rfl⟩
abbrev main_v40 : Ref sig .tc := ⟨.hbm, 88, rfl⟩
abbrev main_v41 : Ref sig .tc := ⟨.hbm, 89, rfl⟩
abbrev main_c_6 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_7 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_call3_cst : Ref sig .tc := ⟨.hbm, 129, rfl⟩
abbrev main_call3_v0 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_cst_8 : Ref sig .tc := ⟨.hbm, 136, rfl⟩
abbrev main_v63 : Ref sig .tc := ⟨.hbm, 137, rfl⟩
abbrev main_cst_9 : Ref sig .tc := ⟨.hbm, 138, rfl⟩
abbrev main_v64 : Ref sig .tc := ⟨.hbm, 139, rfl⟩
abbrev main_v65 : Ref sig .tc := ⟨.hbm, 140, rfl⟩
abbrev main_c_10 : Ref sig .tc := ⟨.hbm, 141, rfl⟩
abbrev main_call4_cst : Ref sig .tc := ⟨.hbm, 142, rfl⟩
abbrev main_call4_v0 : Ref sig .tc := ⟨.hbm, 143, rfl⟩
abbrev main_call4_v1 : Ref sig .tc := ⟨.hbm, 144, rfl⟩
abbrev main_call4_cst_0 : Ref sig .tc := ⟨.hbm, 145, rfl⟩
abbrev main_call4_v2 : Ref sig .tc := ⟨.hbm, 146, rfl⟩
abbrev main_call4_v3 : Ref sig .tc := ⟨.hbm, 147, rfl⟩
abbrev main_call4_v4 : Ref sig .tc := ⟨.hbm, 148, rfl⟩
abbrev main_call4_v5 : Ref sig .tc := ⟨.hbm, 149, rfl⟩
abbrev main_call4_v6 : Ref sig .tc := ⟨.hbm, 150, rfl⟩
abbrev main_call4_v7 : Ref sig .tc := ⟨.hbm, 151, rfl⟩
abbrev main_call4_cst_1 : Ref sig .tc := ⟨.hbm, 152, rfl⟩
abbrev main_call4_v8 : Ref sig .tc := ⟨.hbm, 153, rfl⟩
abbrev main_call4_cst_2 : Ref sig .tc := ⟨.hbm, 154, rfl⟩
abbrev main_call4_v9 : Ref sig .tc := ⟨.hbm, 155, rfl⟩
abbrev main_call4_v10 : Ref sig .tc := ⟨.hbm, 156, rfl⟩
abbrev main_call4_v11 : Ref sig .tc := ⟨.hbm, 157, rfl⟩
abbrev main_call4_cst_3 : Ref sig .tc := ⟨.hbm, 158, rfl⟩
abbrev main_call4_v12 : Ref sig .tc := ⟨.hbm, 159, rfl⟩
abbrev main_call4_cst_4 : Ref sig .tc := ⟨.hbm, 160, rfl⟩
abbrev main_call4_call0_v0 : Ref sig .tc := ⟨.hbm, 161, rfl⟩
abbrev main_call4_call0_v1 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_cst_11 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_v81 : Ref sig .tc := ⟨.hbm, 179, rfl⟩
abbrev main_call5_cst : Ref sig .tc := ⟨.hbm, 180, rfl⟩
abbrev main_call5_v0 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩

abbrev nD : Nat := 1
abbrev τ : Topo := Topo.v7x

variable {F : FTy → Type} [FloatOps F]
-- ==== Proof.ScKI.Res.lean ====
/-
  The ghost state of the whole program: the gather call's handshakes, the four pipelined calls' transfers, and the
  counters of the tiles' copies.
-/
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.SparseCore.Threads
public import Idealize.ShloMosaic.Lib.SparseCore.Quiescent
public import Idealize.ShloMosaic.Lib.Pipeline.TableIdle
public import Idealize.ShloMosaic.Lib.Pipeline.RegionArraysS
public import Idealize.ShloMosaic.Lib.Pipeline.Value
public import Idealize.ShloMosaic.Lib.Pipeline.FrameBody
public import Idealize.ShloMosaic.Lib.VecWindow
public import Idealize.ShloMosaic.Lib.LaneScatter.Tiles

@[expose] public section

set_option maxRecDepth 16384

noncomputable section

namespace Cert.Proof.ScKI

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The handshakes' rounds. -/
abbrev UH : Type := URounds (GSem nD τ sig) ℕ
/-- The pipelines' rounds. -/
abbrev UP : Type := URounds (GSem nD τ sig) Unit
abbrev UU : Type := (UH × UP) × Counters

local notation "𝕄" => MT nD τ sig (HIx 1) (Elt F) ℕ UU ℕ

/-- Where the handshakes' rounds lie. -/
def EH : Emb UH (MT nD τ sig (HIx 1) (Elt F) ℕ UU ℕ) :=
  (Emb.inl : Emb UH (UH × UP)).trans embL
/-- Where the pipelines' rounds lie. -/
def EP : Emb UP (MT nD τ sig (HIx 1) (Elt F) ℕ UU ℕ) :=
  (Emb.inr : Emb UP (UH × UP)).trans embL

instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-- A pair of the two rounds is owned part by part. -/
theorem own_rounds (a : UH) (b : UP) : (ownU (((a, b), 1) : UU) : sProp 𝕄) ⊢ iprop(BI.own (EH a) ∗ BI.own (EP b)) := by
  iintro Hu
  ihave H := (ownU_pair (a, b) (1 : Counters)) $$ Hu
  icases H with ⟨H, -⟩
  iapply (own_pair_emb (embL : Emb (UH × UP) 𝕄) a b) $$ H

end Cert.Proof.ScKI

end
-- ==== Proof.ScKI.Geom.lean ====
/-
  The gather call's pieces: the two slots of each double buffer, the blocks of 128 indices and of 128 rows that
  a tile's trips move, the words the loop carries, and what the pieces read.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.ScKI

open Cert.KernelIdeal Cert.KernelIdeal.Gen
open Idealize.ShloMosaic
open Idealize.ShloMosaic.SparseCore (S V T)

/-! ## The buffers -/

abbrev tabM : Memref sig .scVector .hbm S2600000x16 .f32 := Memref.whole main_v7_scv
abbrev idxM : Memref sig .scVector .hbm S1x425984 .i32 := Memref.whole main_v6_scv
abbrev outM : Memref sig .scVector .hbm S425984x16 .f32 := Memref.whole main_v8_scv
abbrev ibM : Memref sig .scVector .vmem S2x1x128 .i32 := Memref.whole cc0_scoped0
abbrev rbM : Memref sig .scVector .vmem S2x128x16 .f32 := Memref.whole cc0_scoped2

/-- A tile makes 104 trips. -/
theorem trips_eq : k0_t1_loop.trips = 104 := by decide

/-! ## Slots -/

/-- The slot that trip `t` uses. -/
def slot (t : ℕ) : Fin 2 := ⟨t % 2, Nat.mod_lt _ (by omega)⟩

/-- The slots alternate. -/
theorem slot_two (t : ℕ) : slot (t + 2) = slot t := Fin.ext (by simp [slot])
/-- The slot before is the slot after. -/
theorem slot_pred (t : ℕ) (h : 1 ≤ t) : slot (t - 1) = slot (t + 1) :=
  Fin.ext (by simp only [slot]; omega)
/-- Consecutive slots differ. -/
theorem slot_ne (t : ℕ) : slot t ≠ slot (t + 1) := fun h => by
  have := congrArg Fin.val h; simp only [slot] at this; omega

/-- A slot lies within its buffer. -/
theorem ib_inb (p : Fin 2) : ∀ a, (![p.val, 0, 0] : Fin 3 → ℕ) a + S1x1x128.size a ≤ S2x1x128.size a := by
  revert p; decide +kernel
/-- A slot lies within its buffer. -/
theorem rb_inb (p : Fin 2) : ∀ a, (![p.val, 0, 0] : Fin 3 → ℕ) a + S1x128x16.size a ≤ S2x128x16.size a := by
  revert p; decide +kernel
/-- A slot lies within its buffer. -/
theorem sm_inb (p : Fin 2) : ∀ a, (![p.val] : Fin 1 → ℕ) a + S1.size a ≤ S2.size a := by
  revert p; decide +kernel

/-- Slot `p` of the index buffer, as a copy names it. -/
abbrev ibS (p : Fin 2) : Memref sig .scVector .vmem S1x128 .i32 :=
  (ibM.slice (Rect.unit (s := S2x1x128) ![p.val, 0, 0] S1x1x128.size (ib_inb p)) (fun _ => rfl)).squeeze S1x128 squeezes_S1x1x128_S1x128
/-- The same slot as the gather's list of offsets. -/
abbrev ibL (p : Fin 2) : Memref sig .scVector .vmem S128 .i32 :=
  ((ibS p).slice (Rect.unit (s := S1x128) ![0, 0] S1x128.size inb_S1x128_S1x128_0_0) (fun _ => rfl)).squeeze S128 squeezes_S1x128_S128
/-- Slot `p` of the row buffer. -/
abbrev rbS (p : Fin 2) : Memref sig .scVector .vmem S128x16 .f32 :=
  (rbM.slice (Rect.unit (s := S2x128x16) ![p.val, 0, 0] S1x128x16.size (rb_inb p)) (fun _ => rfl)).squeeze S128x16 squeezes_S1x128x16_S128x16
/-- The whole table, as the gather names it. -/
abbrev tabS : Memref sig .scVector .hbm S2600000x16 .f32 :=
  tabM.slice (Rect.unit (s := S2600000x16) ![0, 0] S2600000x16.size inb_S2600000x16_S2600000x16_0_0) (fun _ => rfl)
/-- The cells of the copies in and of the copies out. -/
abbrev inS (p : Fin 2) : DmaSem sig := ((cc0_scoped1.slice (Rect.unit (s := S2) ![p.val] S1.size (sm_inb p))).squeeze S_ squeezes_S1_S_).sem
abbrev outS (p : Fin 2) : DmaSem sig := ((cc0_scoped3.slice (Rect.unit (s := S2) ![p.val] S1.size (sm_inb p))).squeeze S_ squeezes_S1_S_).sem

/-- A slice of the index buffer whose offset is a slot's is that slot. -/
theorem ibS_of (o : Fin 3 → ℕ) (hb) (p : Fin 2) (h : o = ![p.val, 0, 0]) :
    (ibM.slice (Rect.unit (s := S2x1x128) o S1x1x128.size hb) (fun _ => rfl)).squeeze S1x128 squeezes_S1x1x128_S1x128 = ibS p := by subst h; rfl
/-- A slice of the index buffer whose offset is a slot's is that slot. -/
theorem ibL_of (o : Fin 3 → ℕ) (hb) (p : Fin 2) (h : o = ![p.val, 0, 0]) :
    (((ibM.slice (Rect.unit (s := S2x1x128) o S1x1x128.size hb) (fun _ => rfl)).squeeze S1x128 squeezes_S1x1x128_S1x128).slice
      (Rect.unit (s := S1x128) ![0, 0] S1x128.size inb_S1x128_S1x128_0_0) (fun _ => rfl)).squeeze S128 squeezes_S1x128_S128 = ibL p := by subst h; rfl
/-- A slice of the row buffer whose offset is a slot's is that slot. -/
theorem rbS_of (o : Fin 3 → ℕ) (hb) (p : Fin 2) (h : o = ![p.val, 0, 0]) :
    (rbM.slice (Rect.unit (s := S2x128x16) o S1x128x16.size hb) (fun _ => rfl)).squeeze S128x16 squeezes_S1x128x16_S128x16 = rbS p := by subst h; rfl
/-- A semaphore whose offset is a slot's is that slot's. -/
theorem inS_of (o : Fin 1 → ℕ) (hb) (p : Fin 2) (h : o = ![p.val]) :
    ((cc0_scoped1.slice (Rect.unit (s := S2) o S1.size hb)).squeeze S_ squeezes_S1_S_).sem = inS p := by subst h; rfl
/-- A semaphore whose offset is a slot's is that slot's. -/
theorem outS_of (o : Fin 1 → ℕ) (hb) (p : Fin 2) (h : o = ![p.val]) :
    ((cc0_scoped3.slice (Rect.unit (s := S2) o S1.size hb)).squeeze S_ squeezes_S1_S_).sem = outS p := by subst h; rfl

/-! ## Blocks -/

/-- The first row that the tile at `i` writes. -/
def base (i : grid0.Coords) : ℕ := 13312 * (i 1).val + 212992 * (i 0).val

/-- A tile's rows end within the array. -/
theorem base_le (i : grid0.Coords) : base i + 13312 ≤ 425984 := by
  have h0 : (i 0).val < 2 := (i 0).isLt
  have h1 : (i 1).val < 16 := (i 1).isLt
  unfold base; omega

/-- A block lies within its array. -/
theorem xb_inb (i : grid0.Coords) (t : ℕ) (ht : t < 104) :
    ∀ a, (![0, base i + 128 * t] : Fin 2 → ℕ) a + S1x128.size a ≤ S1x425984.size a := by
  have := base_le i
  intro a
  match a with
  | 0 => show 0 + 1 ≤ 1; omega
  | 1 => show base i + 128 * t + 128 ≤ 425984; omega
/-- A block lies within its array. -/
theorem ob_inb (i : grid0.Coords) (t : ℕ) (ht : t < 104) :
    ∀ a, (![base i + 128 * t, 0] : Fin 2 → ℕ) a + S128x16.size a ≤ S425984x16.size a := by
  have := base_le i
  intro a
  match a with
  | 0 => show base i + 128 * t + 128 ≤ 425984; omega
  | 1 => show 0 + 16 ≤ 16; omega

/-- Block `t` of the tile's indices. -/
abbrev xB (i : grid0.Coords) (t : ℕ) (ht : t < 104) : Memref sig .scVector .hbm S1x128 .i32 :=
  idxM.slice (Rect.unit (s := S1x425984) ![0, base i + 128 * t] S1x128.size (xb_inb i t ht)) (fun _ => rfl)
/-- Block `t` of the tile's rows. -/
abbrev oB (i : grid0.Coords) (t : ℕ) (ht : t < 104) : Memref sig .scVector .hbm S128x16 .f32 :=
  outM.slice (Rect.unit (s := S425984x16) ![base i + 128 * t, 0] S128x16.size (ob_inb i t ht)) (fun _ => rfl)

/-- A slice of the indices whose offset is a block's is that block. -/
theorem xB_of (i : grid0.Coords) (t : ℕ) (ht : t < 104) (o : Fin 2 → ℕ) (hb) (h : o = ![0, base i + 128 * t]) :
    idxM.slice (Rect.unit (s := S1x425984) o S1x128.size hb) (fun _ => rfl) = xB i t ht := by subst h; rfl
/-- A slice of the output whose offset is a block's is that block. -/
theorem oB_of (i : grid0.Coords) (t : ℕ) (ht : t < 104) (o : Fin 2 → ℕ) (hb) (h : o = ![base i + 128 * t, 0]) :
    outM.slice (Rect.unit (s := S425984x16) o S128x16.size hb) (fun _ => rfl) = oB i t ht := by subst h; rfl

/-! ## The words the loop carries -/

abbrev c6 (t : ℕ) : BitVec 32 := BitVec.ofNat 32 (min (t + 1) 104)
abbrev c7 (t : ℕ) : BitVec 32 := BitVec.ofNat 32 t
abbrev c9 (t : ℕ) : BitVec 32 := BitVec.ofNat 32 (t - 1)
abbrev c10 (t : ℕ) : BitVec 32 := BitVec.ofNat 32 (if t = 104 then 0 else t)

/-- What this offset of the program comes to. -/
theorem off3_eq : k0_off3 = ![(slot 0).val] := by decide +kernel
/-- What this offset of the program comes to. -/
theorem off1_eq : k0_off1 = ![(slot 0).val, 0, 0] := by decide +kernel
/-- What this offset of the program comes to. -/
theorem off2_eq : ∀ i : grid0.Coords, k0_off2 i = ![0, base i + 128 * 0] := by decide +kernel
/-- What this offset of the program comes to. -/
theorem off4_eq : ∀ t : Fin 103, k0_off4 (c6 t) = ![(slot (t + 1)).val, 0, 0] := by decide +kernel
/-- What this offset of the program comes to. -/
theorem off5_eq : ∀ (i : grid0.Coords) (t : Fin 103), k0_off5 i (c10 t) = ![0, base i + 128 * (t.val + 1)] := by decide +kernel
/-- What this offset of the program comes to. -/
theorem off6_eq : ∀ t : Fin 103, k0_off6 (c6 t) = ![(slot (t + 1)).val] := by decide +kernel
/-- What this offset of the program comes to. -/
theorem off7_eq : ∀ t : Fin 104, k0_off7 (c7 t) = ![(slot t).val, 0, 0] := by decide +kernel
/-- What this offset of the program comes to. -/
theorem off9_eq : ∀ t : Fin 104, k0_off9 (c7 t) = ![(slot t).val] := by decide +kernel
/-- What this offset of the program comes to. -/
theorem off10_eq : ∀ t : Fin 104, k0_off10 (c7 t) = ![(slot t).val, 0, 0] := by decide +kernel
/-- What this offset of the program comes to. -/
theorem off11_eq : ∀ t : Fin 104, k0_off11 (c7 t) = ![(slot t).val, 0, 0] := by decide +kernel
/-- What this offset of the program comes to. -/
theorem off12_eq : ∀ t : Fin 104, k0_off12 (c7 t) = ![(slot t).val, 0, 0] := by decide +kernel
/-- What this offset of the program comes to. -/
theorem off13_eq : ∀ (i : grid0.Coords) (t : Fin 104), k0_off13 i (c10 t) = ![base i + 128 * t.val, 0] := by decide +kernel
/-- What this offset of the program comes to. -/
theorem off14_eq : ∀ t : Fin 104, k0_off14 (c7 t) = ![(slot t).val] := by decide +kernel
/-- What this offset of the program comes to. -/
theorem off15_eq : ∀ t : Fin 103, k0_off15 (c9 (t + 1)) = ![(slot t).val, 0, 0] := by decide +kernel
/-- What this offset of the program comes to. -/
theorem off17_eq : ∀ t : Fin 103, k0_off17 (c9 (t + 1)) = ![(slot t).val] := by decide +kernel
/-- This bounds check of the program holds on every trip it is made. -/
theorem chk1 : ∀ (i : grid0.Coords) (t : Fin k0_t1_loop.trips), k0_chk1 i t (c6 t) (c7 t) (c7 t) (c9 t) (c10 t) := by decide +kernel
/-- This bounds check of the program holds on every trip it is made. -/
theorem chk2 : ∀ t : Fin 104, k0_chk2 (c7 t) := by decide +kernel
/-- This bounds check of the program holds on every trip it is made. -/
theorem chk3 : ∀ t : Fin 104, k0_chk3 (c7 t) := by decide +kernel
/-- This bounds check of the program holds on every trip it is made. -/
theorem chk4 : k0_chk4 (c9 104) := by decide +kernel
/-- This bounds check of the program holds on every trip it is made. -/
theorem chk5 : ∀ i : grid0.Coords, k0_chk5 i (c10 104) := by decide +kernel
/-- The next block is fetched on every trip but the last. -/
theorem cond1_iff : ∀ (i : grid0.Coords) (t : Fin k0_t1_loop.trips), k0_cond1 i t (c10 t) = 1#1 ↔ t.val < 103 := by decide +kernel
/-- This condition holds on every trip. -/
theorem cond2_eq : ∀ (i : grid0.Coords) (t : Fin k0_t1_loop.trips), k0_cond2 i t (c10 t) = 1#1 := by decide +kernel
/-- This condition holds on every trip. -/
theorem cond5_eq : ∀ (i : grid0.Coords) (t : Fin k0_t1_loop.trips), k0_cond5 i t (c10 t) = 1#1 := by decide +kernel
/-- The block before is waited for on every trip but the first. -/
theorem cond7_iff : ∀ (i : grid0.Coords) (t : Fin k0_t1_loop.trips), k0_cond7 i t (c10 t) = 1#1 ↔ 1 ≤ t.val := by decide +kernel

end Cert.Proof.ScKI

end
-- ==== Proof.ScKI.Vals.lean ====
/-
  What the gather's copies leave: a slot of the index buffer with a block of the indices in it lists them, a slot of
  the row buffer after the gather holds the rows they name, and the copy out puts those where they belong.
-/
module

public import proofs.«01_k».proof.Proof.ScKI.Geom

@[expose] public section

set_option maxRecDepth 16384

noncomputable section

namespace Cert.Proof.ScKI

open Cert.KernelIdeal Cert.KernelIdeal.Gen
open Idealize.ShloMosaic
open Idealize.ShloMosaic.SparseCore (S V T)

variable {F : FTy → Type}

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

abbrev XBuf (F : FTy → Type) : Type := S1x425984.Idx → Elt F .i32
abbrev TBuf (F : FTy → Type) : Type := S2600000x16.Idx → Elt F .f32
abbrev OBuf (F : FTy → Type) : Type := S425984x16.Idx → Elt F .f32
abbrev IbBuf (F : FTy → Type) : Type := S2x1x128.Idx → Elt F .i32
abbrev RbBuf (F : FTy → Type) : Type := S2x128x16.Idx → Elt F .f32

/-- The word at place `n` of the index array. -/
def word (xi : XBuf F) (n : ℕ) : BitVec 32 := if h : n < 425984 then xi (ix2 (0 : Fin 1) ⟨n, h⟩) else 0

/-- The gathered rows: row `n` is the table's row that word `n` names. -/
def gath (xi : XBuf F) (xt : TBuf F) : OBuf F :=
  fun j => xt (ix2 (⟨(word xi (j 0).val).toNat % 2600000, Nat.mod_lt _ (by omega)⟩ : Fin 2600000) (j 1 : Fin 16))

/-- A slot's list is block `t` of the indices. -/
def Lists (i : grid0.Coords) (t : ℕ) (p : Fin 2) (xi : XBuf F) (f : IbBuf F) : Prop :=
  ∀ x : S128.Idx, (ibL p).view.read (Elt F) f x = word xi (base i + 128 * t + (x 0).val)

/-- The list's element `x` is the slot's element `(0, x)`. -/
theorem ibL_emb (p : Fin 2) (x : S128.Idx) : (ibL p).view.emb x = (ibS p).view.emb (ix2 (0 : Fin 1) (x 0 : Fin 128)) := by
  show (ibS p).view.emb ((Rect.unit (s := S1x128) ![0, 0] S1x128.size inb_S1x128_S1x128_0_0).emb (Shape.reshapeEquiv squeezes_S1x128_S128.numel_eq x)) = _
  congr 1
  have e : Shape.reshapeEquiv squeezes_S1x128_S128.numel_eq x = ix2 (0 : Fin 1) (x 0 : Fin 128) :=
    Shape.reshapeEquiv_eq_of_rowMajor _ (by
      refine (Shape.rowMajor_val_two (d := ![1, 128]) (ix2 (0 : Fin 1) (x 0 : Fin 128))).trans (Eq.trans ?_ (Shape.rowMajor_val_one (d := ![128]) x).symm)
      show 0 * 128 + (x 0).val = (x 0).val
      omega)
  rw [e]
  funext a
  apply Fin.ext
  match a with
  | 0 => rfl
  | 1 => show 0 + 1 * (x 0).val = (x 0).val; omega

/-- After the copy lands, the slot lists the block's indices. -/
theorem lists_landed (i : grid0.Coords) (t : ℕ) (ht : t < 104) (p : Fin 2) (xi : XBuf F) (f : IbBuf F) :
    Lists i t p xi ((ibS p).view.write (Elt F) f ((xB i t ht).view.read (Elt F) xi) Finset.univ) := by
  intro x
  have hb := base_le i
  have hx : (x 0).val < 128 := (x 0).isLt
  show (ibS p).view.write (Elt F) f ((xB i t ht).view.read (Elt F) xi) Finset.univ ((ibL p).view.emb x) = _
  rw [ibL_emb, View.write_emb_of_mem _ _ (Finset.mem_univ _)]
  show xi ((xB i t ht).view.emb (ix2 (0 : Fin 1) (x 0 : Fin 128))) = _
  unfold word
  rw [dif_pos (show base i + 128 * t + (x 0).val < 425984 by omega)]
  congr 1
  funext a
  apply Fin.ext
  match a with
  | 0 => rfl
  | 1 => show (base i + 128 * t) + 1 * (x 0).val = base i + 128 * t + (x 0).val; omega

/-- Listed indices name rows of the table. -/
theorem lists_lt {i : grid0.Coords} {t : ℕ} {p : Fin 2} {xi : XBuf F} {f : IbBuf F} (h : Lists i t p xi f)
    (hx : ∀ j, (xi j).toNat < 2600000) (x : S128.Idx) :
    ((ibL p).view.read (Elt F) f x).toNat < S2600000x16.size gathers_S2600000x16_S128x16.axis := by
  rw [h x]; unfold word
  split
  · exact hx _
  · show (0 : BitVec 32).toNat < 2600000
    decide

/-- The gather's payload at `z`: the table's row the list names. -/
theorem payload_eq {i : grid0.Coords} {t : ℕ} (ht : t < 104) {p : Fin 2} {xi : XBuf F} (xt : TBuf F) {f : IbBuf F} (h : Lists i t p xi f)
    (hn : S128.numel = S128x16.size gathers_S2600000x16_S128x16.axis')
    (hin : ∀ x, ((ibL p).view.read (Elt F) f x).toNat < S2600000x16.size gathers_S2600000x16_S128x16.axis) (z : S128x16.Idx) :
    SparseCore.gatherPayload gathers_S2600000x16_S128x16 (tabS.view.read (Elt F) xt) (SparseCore.rows ((ibL p).view.read (Elt F) f) hn hin) z
      = gath xi xt ((oB i t ht).view.emb z) := by
  show xt (tabS.view.emb (gathers_S2600000x16_S128x16.idx (SparseCore.rows ((ibL p).view.read (Elt F) f) hn hin) z)) = _
  unfold gath
  congr 1
  have hz0 : (((oB i t ht).view.emb z) 0).val = base i + 128 * t + (z 0).val := by
    show (base i + 128 * t) + 1 * (z 0).val = _; omega
  have hz1 : (((oB i t ht).view.emb z) 1).val = (z 1).val := by
    show 0 + 1 * (z 1).val = _; omega
  have hrow : (gathers_S2600000x16_S128x16.idx (SparseCore.rows ((ibL p).view.read (Elt F) f) hn hin) z 0).val
      = (word xi (base i + 128 * t + (z 0).val)).toNat := by
    have e0 : (S128.rowMajor.symm ((z 0 : Fin 128).cast hn.symm)) = (ix1 (z 0 : Fin 128) : S128.Idx) := by
      rw [Equiv.symm_apply_eq]
      exact Fin.ext (Shape.rowMajor_val_one (d := ![128]) (ix1 (z 0 : Fin 128))).symm
    have := h (S128.rowMajor.symm ((z 0 : Fin 128).cast hn.symm))
    show ((ibL p).view.read (Elt F) f (S128.rowMajor.symm ((z 0 : Fin 128).cast hn.symm))).toNat = _
    rw [this, e0]
    rfl
  funext a
  apply Fin.ext
  match a with
  | 0 =>
    show 0 + 1 * (gathers_S2600000x16_S128x16.idx (SparseCore.rows ((ibL p).view.read (Elt F) f) hn hin) z 0).val
      = (word xi (((oB i t ht).view.emb z) 0).val).toNat % 2600000
    rw [hz0, ← hrow]
    have hl : (gathers_S2600000x16_S128x16.idx (SparseCore.rows ((ibL p).view.read (Elt F) f) hn hin) z 0).val < 2600000 :=
      (gathers_S2600000x16_S128x16.idx (SparseCore.rows ((ibL p).view.read (Elt F) f) hn hin) z 0).isLt
    omega
  | 1 =>
    show 0 + 1 * (gathers_S2600000x16_S128x16.idx (SparseCore.rows ((ibL p).view.read (Elt F) f) hn hin) z 1).val = (((oB i t ht).view.emb z) 1).val
    rw [hz1]
    show 0 + 1 * (z 1).val = (z 1).val
    omega

/-- Copying out a row buffer whose slot holds the payload puts the gathered rows in block `t`. -/
theorem out_landed (i : grid0.Coords) (t : ℕ) (ht : t < 104) (p : Fin 2) (xi : XBuf F) (xt : TBuf F) (r : RbBuf F) (fo : OBuf F)
    (hr : ∀ z, (rbS p).view.read (Elt F) r z = gath xi xt ((oB i t ht).view.emb z)) :
    ∀ j ∈ (oB i t ht).view.set, (oB i t ht).view.write (Elt F) fo ((rbS p).view.read (Elt F) r) Finset.univ j = gath xi xt j := by
  intro j hj
  obtain ⟨z, -, rfl⟩ := Finset.mem_map.mp hj
  rw [View.write_emb_of_mem _ _ (Finset.mem_univ _)]
  exact hr z

/-! ## The tile's rows, those done and those ahead -/

/-- The tile's rows from block `t` on. -/
def ahead (i : grid0.Coords) (t : ℕ) : Finset S425984x16.Idx :=
  Finset.univ.filter fun j => base i + 128 * t ≤ (j 0).val ∧ (j 0).val < base i + 13312
/-- The tile's rows below block `t`. -/
def done (i : grid0.Coords) (t : ℕ) : Finset S425984x16.Idx :=
  Finset.univ.filter fun j => base i ≤ (j 0).val ∧ (j 0).val < base i + 128 * t

/-- Which rows a block of the output holds. -/
theorem mem_oB (i : grid0.Coords) (t : ℕ) (ht : t < 104) (j : S425984x16.Idx) :
    j ∈ (oB i t ht).view.set ↔ base i + 128 * t ≤ (j 0).val ∧ (j 0).val < base i + 128 * t + 128 := by
  have e : (oB i t ht).view.set = (Rect.unit (s := S425984x16) ![base i + 128 * t, 0] S128x16.size (ob_inb i t ht)).set := by
    show ((View.whole (main_v8_scv : Ref sig .scVector)).slice _).set = _
    rw [View.set_slice]; exact Finset.map_refl
  rw [e, Rect.mem_set_unit]
  constructor
  · intro h; exact h 0
  · intro h a
    match a with
    | 0 => exact h
    | 1 => exact ⟨Nat.zero_le _, by show (j 1).val < 0 + 16; have : (j 1).val < 16 := (j 1).isLt; omega⟩

/-- The block of a trip is still ahead. -/
theorem oB_sub (i : grid0.Coords) (t : ℕ) (ht : t < 104) : (oB i t ht).view.set ⊆ ahead i t := by
  intro j hj
  have := (mem_oB i t ht j).mp hj
  exact Finset.mem_filter.mpr ⟨Finset.mem_univ _, this.1, by omega⟩

/-- Without it, what is ahead is what is ahead at the next trip. -/
theorem ahead_succ (i : grid0.Coords) (t : ℕ) (ht : t < 104) : ahead i t \ (oB i t ht).view.set = ahead i (t + 1) := by
  ext j
  rw [Finset.mem_sdiff, mem_oB]
  simp only [ahead, Finset.mem_filter, Finset.mem_univ, true_and]
  omega

/-- Nothing is done at the start. -/
theorem done_zero (i : grid0.Coords) : done i 0 = ∅ := by
  ext j
  simp only [done, Finset.mem_filter, Finset.mem_univ, true_and, Finset.notMem_empty, iff_false]
  omega

/-- The block of a trip is not done. -/
theorem done_disj (i : grid0.Coords) (t : ℕ) (ht : t < 104) : Disjoint (done i t) (oB i t ht).view.set := by
  rw [Finset.disjoint_left]
  intro j h1 h2
  have h2 := (mem_oB i t ht j).mp h2
  simp only [done, Finset.mem_filter, Finset.mem_univ, true_and] at h1
  omega

/-- With it, what is done is what is done at the next trip. -/
theorem done_succ (i : grid0.Coords) (t : ℕ) (ht : t < 104) : done i t ∪ (oB i t ht).view.set = done i (t + 1) := by
  ext j
  rw [Finset.mem_union, mem_oB]
  simp only [done, Finset.mem_filter, Finset.mem_univ, true_and]
  omega

/-- What is ahead at the start is what is done at the end. -/
theorem ahead_zero (i : grid0.Coords) : ahead i 0 = done i 104 := by
  ext j
  simp only [ahead, done, Finset.mem_filter, Finset.mem_univ, true_and]
  omega

/-! ## The two slots of each buffer -/

/-- Which elements a slot holds. -/
theorem mem_ibS (p : Fin 2) (j : S2x1x128.Idx) : j ∈ (ibS p).view.set ↔ (j 0).val = p.val := by
  have e : (ibS p).view.set = (Rect.unit (s := S2x1x128) ![p.val, 0, 0] S1x1x128.size (ib_inb p)).set := by
    show (((View.whole (cc0_scoped0 : Ref sig .scVector)).slice _).reshape _ _).set = _
    rw [View.set_reshape, View.set_slice]; exact Finset.map_refl
  rw [e, Rect.mem_set_unit]
  constructor
  · intro h
    have h0 : p.val ≤ (j 0).val ∧ (j 0).val < p.val + 1 := h 0
    omega
  · intro h a
    match a with
    | 0 => show p.val ≤ (j 0).val ∧ (j 0).val < p.val + 1; omega
    | 1 => exact ⟨Nat.zero_le _, by show (j 1).val < 0 + 1; have : (j 1).val < 1 := (j 1).isLt; omega⟩
    | 2 => exact ⟨Nat.zero_le _, by show (j 2).val < 0 + 128; have : (j 2).val < 128 := (j 2).isLt; omega⟩

/-- Which elements a slot holds. -/
theorem mem_rbS (p : Fin 2) (j : S2x128x16.Idx) : j ∈ (rbS p).view.set ↔ (j 0).val = p.val := by
  have e : (rbS p).view.set = (Rect.unit (s := S2x128x16) ![p.val, 0, 0] S1x128x16.size (rb_inb p)).set := by
    show (((View.whole (cc0_scoped2 : Ref sig .scVector)).slice _).reshape _ _).set = _
    rw [View.set_reshape, View.set_slice]; exact Finset.map_refl
  rw [e, Rect.mem_set_unit]
  constructor
  · intro h
    have h0 : p.val ≤ (j 0).val ∧ (j 0).val < p.val + 1 := h 0
    omega
  · intro h a
    match a with
    | 0 => show p.val ≤ (j 0).val ∧ (j 0).val < p.val + 1; omega
    | 1 => exact ⟨Nat.zero_le _, by show (j 1).val < 0 + 128; have : (j 1).val < 128 := (j 1).isLt; omega⟩
    | 2 => exact ⟨Nat.zero_le _, by show (j 2).val < 0 + 16; have : (j 2).val < 16 := (j 2).isLt; omega⟩

/-- The list of a slot is the whole slot. -/
theorem set_ibL (p : Fin 2) : (ibL p).view.set = (ibS p).view.set := by
  show (((ibS p).view.slice _).reshape _ _).set = _
  rw [View.set_reshape, View.set_slice]
  rw [show (Rect.unit (s := S1x128) ![0, 0] S1x128.size inb_S1x128_S1x128_0_0).set = Finset.univ from by
    ext j
    rw [Rect.mem_set_unit]
    refine ⟨fun _ => Finset.mem_univ _, fun _ a => ?_⟩
    match a with
    | 0 => exact ⟨Nat.zero_le _, by show (j 0).val < 0 + 1; have : (j 0).val < 1 := (j 0).isLt; omega⟩
    | 1 => exact ⟨Nat.zero_le _, by show (j 1).val < 0 + 128; have : (j 1).val < 128 := (j 1).isLt; omega⟩]
  rfl

/-- The two slots are disjoint. -/
theorem ib_disj : Disjoint (ibS 0).view.set (ibS 1).view.set := by
  rw [Finset.disjoint_left]
  intro j h1 h2
  have h1 := (mem_ibS 0 j).mp h1
  have h2 := (mem_ibS 1 j).mp h2
  simp at h1 h2; omega
/-- The two slots cover the buffer. -/
theorem ib_cover : (ibS 0).view.set ∪ (ibS 1).view.set = Finset.univ := by
  ext j
  have h : (j 0).val < 2 := (j 0).isLt
  rw [Finset.mem_union, mem_ibS, mem_ibS]
  refine ⟨fun _ => Finset.mem_univ _, fun _ => ?_⟩
  show (j 0).val = 0 ∨ (j 0).val = 1
  omega
/-- The two slots are disjoint. -/
theorem rb_disj : Disjoint (rbS 0).view.set (rbS 1).view.set := by
  rw [Finset.disjoint_left]
  intro j h1 h2
  have h1 := (mem_rbS 0 j).mp h1
  have h2 := (mem_rbS 1 j).mp h2
  simp at h1 h2; omega
/-- The two slots cover the buffer. -/
theorem rb_cover : (rbS 0).view.set ∪ (rbS 1).view.set = Finset.univ := by
  ext j
  have h : (j 0).val < 2 := (j 0).isLt
  rw [Finset.mem_union, mem_rbS, mem_rbS]
  refine ⟨fun _ => Finset.mem_univ _, fun _ => ?_⟩
  show (j 0).val = 0 ∨ (j 0).val = 1
  omega

end Cert.Proof.ScKI

end
-- ==== Proof.ScKI.Ops.lean ====
/-
  The gather's copies, one lemma each: a copy of a block of indices into a slot, its wait, the gather of a slot's
  rows, the copy of a row slot out, its wait.
-/
module

public import proofs.«01_k».proof.Proof.ScKI.Vals

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]

/-- A resource kept beside a copy in flight is delivered with what the copy delivers. -/
theorem flight_frame {c : Thread nD τ} {sm : SemLoc sig} {N : ℕ} {D X : sProp 𝕄} :
    iprop(Transfers.Flight EC c sm none N D ∗ X) ⊢ (Transfers.Flight EC c sm none N iprop(D ∗ X) : sProp 𝕄) := by
  unfold Transfers.Flight
  iintro ⟨⟨⟨%R, HR, %hcap, %hpeek⟩, Hcred⟩, HX⟩
  isplitr [Hcred]
  · iexists iprop(R ∗ X)
    isplitl [HR HX]
    · isplitl [HR]; · iexact HR
      iexact HX
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD]; · iexact HD
      iexact HX
    · ipureintro
      intro K
      refine BIBase.Entails.trans ?_ (hpeek K)
      iintro ⟨⟨HR, HX⟩, HK⟩
      isplitl [HR]; · iexact HR
      iintro HR
      iapply HK
      isplitl [HR]; · iexact HR
      iexact HX
  · iexact Hcred

/-! ## What a tile holds -/

section Hold

variable (d : Dev nD) (i : grid0.Coords) (qx qt : PosShare TreeShare) (xi : XBuf F) (xt : TBuf F)

abbrev xLoc : Loc nD τ sig := idxM.view.loc (thr d i)
abbrev tLoc : Loc nD τ sig := tabM.view.loc (thr d i)
abbrev oLoc : Loc nD τ sig := outM.view.loc (thr d i)
abbrev ibLoc : Loc nD τ sig := ibM.view.loc (thr d i)
abbrev rbLoc : Loc nD τ sig := rbM.view.loc (thr d i)

/-- The share of the index array kept for slot `p`. -/
abbrev qs (p : Fin 2) : PosShare TreeShare := pieceOf qx 2 (by omega) p

abbrev xSh (p : Fin 2) : sProp 𝕄 := xLoc d i ↦{qs qx p} xi
abbrev ibAny (p : Fin 2) : sProp 𝕄 := iprop(∃ f : IbBuf F, ibLoc d i ↦[(ibS p).view.set]{fullShare} f)
abbrev rbAny (p : Fin 2) : sProp 𝕄 := iprop(∃ f : RbBuf F, rbLoc d i ↦[(rbS p).view.set]{fullShare} f)
/-- A slot of the index buffer with no copy under way. -/
abbrev inIdle (p : Fin 2) : sProp 𝕄 := iprop(ibAny d i p ∗ semVal (thr d i, SemLoc.dma (inS p)) 0 ∗ xSh d i qx xi p)
/-- What the copy of block `t` of the indices delivers. -/
abbrev inDel (t : ℕ) : sProp 𝕄 :=
  iprop((∃ f : IbBuf F, ⌜Lists i t (slot t) xi f⌝ ∗ ibLoc d i ↦[(ibS (slot t)).view.set]{fullShare} f) ∗ xSh d i qx xi (slot t))
abbrev inFl (t : ℕ) : sProp 𝕄 :=
  Transfers.Flight EC (thr d i) (SemLoc.dma (inS (slot t))) none (ibS (slot t)).view.dmaCredit (inDel d i qx xi t)
abbrev outIdle (p : Fin 2) : sProp 𝕄 := iprop(rbAny d i p ∗ semVal (thr d i, SemLoc.dma (outS p)) 0)
/-- What the copy of block `t` of the rows out delivers. -/
abbrev outDel (t : ℕ) (ht : t < 104) : sProp 𝕄 :=
  iprop((oLoc d i ↦[(oB i t ht).view.set]{fullShare} gath xi xt) ∗ rbAny d i (slot t))
abbrev outFl (t : ℕ) (ht : t < 104) : sProp 𝕄 :=
  Transfers.Flight EC (thr d i) (SemLoc.dma (outS (slot t))) none (oB i t ht).view.dmaCredit (outDel d i xi xt t ht)

end Hold

section Rules

variable [FloatOps F] (d : Dev nD) (i : grid0.Coords) (qx qt : PosShare TreeShare) (xi : XBuf F) (xt : TBuf F)
variable {α : Type}

/-- The weakest precondition of a piece of the tile's program. -/
abbrev WP (p : Prog (TpuEff nD τ sig (Elt F) Λ₀ (.scVector (cV i) (jV i))) α) (Q : α → sProp 𝕄) : sProp 𝕄 :=
  wp frame (wpE (defs₀ (F := F)) Variants.none (thr d i) none) Set.univ p Q

/-- The copy of a block of indices into its slot is issued. -/
theorem op_in (t : ℕ) (ht : t < 104) {src : Memref sig .scVector .hbm S1x128 .i32} {dst : Memref sig .scVector .vmem S1x128 .i32} {sm : DmaSem sig}
    (es : src = xB i t ht) (ed : dst = ibS (slot t)) (em : sm = inS (slot t))
    {h1 h2 h3} {k : PUnit → Prog (TpuEff nD τ sig (Elt F) Λ₀ (.scVector (cV i) (jV i))) α} {Q : α → sProp 𝕄} :
    (inIdle d i qx xi (slot t) : sProp 𝕄) ⊢ iprop((inFl EC d i qx xi t -∗ WP d i (k ⟨⟩) Q)
      -∗ WP d i (.op (.enqueueDma src (.here dst) (.dma sm) h1 h2 h3) k) Q) := by
  subst es ed em
  iintro ⟨⟨%f, Hb⟩, Hs, Hx⟩ Hk
  ihave Hx := (pointsTo_split_subset (q := qs qx (slot t)) (f := xi) (S := Finset.univ) (Finset.subset_univ (xB i t ht).view.set)).1 $$ Hx
  icases Hx with ⟨Hx, Hxr⟩
  iapply (Transfers.wp_dmaLocal EC Variants.none (thr d i) none (src := xB i t ht) (dst := ibS (slot t)) (fs := xi) (none : HIx 1) (ibS (slot t)).view.dmaCredit rfl (View.dmaCredit_pos _ (by decide)) (Finset.Subset.refl _)) $$ [Hx Hb Hs]
  · isplitl [Hx]; · iexact Hx
    isplitl [Hb]; · iexact Hb
    iexact Hs
  iintro Hfl
  iapply Hk
  ihave Hfl := (flight_frame EC) $$ [Hfl Hxr]
  · isplitl [Hfl]; · iexact Hfl
    iexact Hxr
  iapply (Transfers.Flight_mono EC (thr d i) (D' := inDel d i qx xi t) ?_) $$ Hfl
  iintro ⟨⟨Hb, Hx⟩, Hxr⟩
  isplitl [Hb]
  · iexists ((ibS (slot t)).view.write (Elt F) f ((xB i t ht).view.read (Elt F) xi) Finset.univ)
    isplitr
    · ipureintro; exact lists_landed i t ht (slot t) xi f
    · iexact Hb
  · iapply (pointsTo_split_subset (q := qs qx (slot t)) (f := xi) (S := Finset.univ) (Finset.subset_univ (xB i t ht).view.set)).2
    isplitl [Hx]; · iexact Hx
    iexact Hxr

/-- It is waited for. -/
theorem op_inWait (t : ℕ) {src : Memref sig .scVector .hbm S1x128 .i32} {dst : Memref sig .scVector .vmem S1x128 .i32} {sm : DmaSem sig}
    (ed : dst = ibS (slot t)) (em : sm = inS (slot t)) {O : CellTallies nD τ sig (HIx 1)} {W : Waits sig (HIx 1)}
    {h1 h2} {k : PUnit → Prog (TpuEff nD τ sig (Elt F) Λ₀ (.scVector (cV i) (jV i))) α} {Q : α → sProp 𝕄} :
    iprop(inFl EC d i qx xi t ∗ owes (thr d i) O W ∗ MayWait (thr d i) (SemLoc.dma (inS (slot t))) none O)
      ⊢ iprop((inDel d i qx xi t ∗ semVal (thr d i, SemLoc.dma (inS (slot t))) 0 ∗ owes (thr d i) O (insert (SemLoc.dma (inS (slot t)), none) W) -∗ WP d i (k ⟨⟩) Q)
      -∗ WP d i (.op (.waitDma2 sm src dst h1 h2) k) Q) := by
  subst ed em
  exact Transfers.wp_waitLocalO EC Variants.none (thr d i) none (none : HIx 1) rfl

/-- The gather of a block's rows into its slot is issued. -/
theorem op_gather (t : ℕ) (ht : t < 104) {src : Memref sig .scVector .hbm S2600000x16 .f32} {dst : Memref sig .scVector .vmem S128x16 .f32}
    {offs : Memref sig .scVector .vmem S128 .i32}
    (hx : ∀ j, (xi j).toNat < 2600000)
    (es : src = tabS) (ed : dst = rbS (slot t)) (eo : offs = ibL (slot t)) {f : IbBuf F} (hl : Lists i t (slot t) xi f)
    {hp hn h1 h2 h3 h4} {k : PUnit → Prog (TpuEff nD τ sig (Elt F) Λ₀ (.scVector (cV i) (jV i))) α} {Q : α → sProp 𝕄} :
    iprop((tLoc d i ↦{qt} xt) ∗ rbAny d i (slot t) ∗ (ibLoc d i ↦[(ibS (slot t)).view.set]{fullShare} f) ∗ semVal (thr d i, SemLoc.dma cc0_scoped4.sem) 0)
      ⊢ iprop((Transfers.Flight EC (thr d i) (SemLoc.dma cc0_scoped4.sem) none (rbS (slot t)).view.dmaCredit
          iprop((∃ r : RbBuf F, ⌜∀ z, (rbS (slot t)).view.read (Elt F) r z = gath xi xt ((oB i t ht).view.emb z)⌝ ∗ rbLoc d i ↦[(rbS (slot t)).view.set]{fullShare} r)
            ∗ (tLoc d i ↦{qt} xt) ∗ (ibLoc d i ↦[(ibS (slot t)).view.set]{fullShare} f)) -∗ WP d i (k ⟨⟩) Q)
      -∗ WP d i (SparseCore.enqueueIndirectGather hp src dst gathers_S2600000x16_S128x16 offs hn cc0_scoped4.sem h1 h2 h3 h4 >>= k) Q) := by
  subst es ed eo
  iintro ⟨Ht, ⟨%r, Hr⟩, Hb, Hs⟩ Hk
  have hN : ∀ p : Fin 2, ∀ h : S2600000x16.Gathers 0 S128x16, ∑ j, ((rbS p).slice (S128x16.rowRect h.axis' j) (S128x16.stride_rowRect h.axis' j)).view.dmaCredit
      = (rbS p).view.dmaCredit := by decide
  ihave Ht := (pointsTo_split_subset (q := qt) (f := xt) (S := Finset.univ) (Finset.subset_univ tabS.view.set)).1 $$ Ht
  icases Ht with ⟨Ht, Htr⟩
  ihave Hb := (Entails.of_eq (show (ibLoc d i ↦[(ibS (slot t)).view.set]{fullShare} f : sProp 𝕄) = (ibLoc d i ↦[(ibL (slot t)).view.set]{fullShare} f) by rw [set_ibL])) $$ Hb
  iapply (SparseCore.wp_indirectGatherLocal EC Variants.none (thr d i) none (src := tabS) (dst := rbS (slot t)) (offs := ibL (slot t)) (fs := xt) (fd := r) (fo := f) (hg := gathers_S2600000x16_S128x16) (none : HIx 1)
      (rbS (slot t)).view.dmaCredit (hN _ _) (by decide) (lists_lt hl hx)) $$ [Ht Hr Hb Hs]
  · isplitl [Ht]; · iexact Ht
    isplitl [Hr]; · iexact Hr
    isplitl [Hb]; · iexact Hb
    iexact Hs
  iintro Hfl
  iapply Hk
  ihave Hfl := (flight_frame EC) $$ [Hfl Htr]
  · isplitl [Hfl]; · iexact Hfl
    iexact Htr
  iapply (Transfers.Flight_mono EC (thr d i) (D' := iprop((∃ r : RbBuf F, ⌜∀ z, (rbS (slot t)).view.read (Elt F) r z = gath xi xt ((oB i t ht).view.emb z)⌝ ∗ rbLoc d i ↦[(rbS (slot t)).view.set]{fullShare} r)
            ∗ (tLoc d i ↦{qt} xt) ∗ (ibLoc d i ↦[(ibS (slot t)).view.set]{fullShare} f))) ?_) $$ Hfl
  iintro ⟨⟨Hr, Ht, Hb⟩, Htr⟩
  isplitl [Hr]
  · iexists ((rbS (slot t)).view.write (Elt F) r (SparseCore.gatherPayload gathers_S2600000x16_S128x16 (tabS.view.read (Elt F) xt)
      (SparseCore.rows ((ibL (slot t)).view.read (Elt F) f) hn (lists_lt hl hx))) Finset.univ)
    isplitr
    · ipureintro
      intro z
      exact (congrFun (View.read_write_univ _ _) z).trans (payload_eq ht xt hl _ _ z)
    · iexact Hr
  isplitl [Ht Htr]
  · iapply (pointsTo_split_subset (q := qt) (f := xt) (S := Finset.univ) (Finset.subset_univ tabS.view.set)).2
    isplitl [Ht]; · iexact Ht
    iexact Htr
  · iapply (Entails.of_eq (show (ibLoc d i ↦[(ibS (slot t)).view.set]{fullShare} f : sProp 𝕄) = (ibLoc d i ↦[(ibL (slot t)).view.set]{fullShare} f) by rw [set_ibL]).symm) $$ Hb

/-- It is waited for. -/
theorem op_gatherWait (t : ℕ) {src : Memref sig .scVector .hbm S2600000x16 .f32} {dst : Memref sig .scVector .vmem S128x16 .f32}
    (ed : dst = rbS (slot t)) {O : CellTallies nD τ sig (HIx 1)} {W : Waits sig (HIx 1)} {D : sProp 𝕄}
    {h1 h2} {k : PUnit → Prog (TpuEff nD τ sig (Elt F) Λ₀ (.scVector (cV i) (jV i))) α} {Q : α → sProp 𝕄} :
    iprop(Transfers.Flight EC (thr d i) (SemLoc.dma cc0_scoped4.sem) none (rbS (slot t)).view.dmaCredit D ∗ owes (thr d i) O W
        ∗ MayWait (thr d i) (SemLoc.dma cc0_scoped4.sem) none O)
      ⊢ iprop((D ∗ semVal (thr d i, SemLoc.dma cc0_scoped4.sem) 0 ∗ owes (thr d i) O (insert (SemLoc.dma cc0_scoped4.sem, none) W) -∗ WP d i (k ⟨⟩) Q)
      -∗ WP d i (.op (.waitDma2 cc0_scoped4.sem src dst h1 h2) k) Q) := by
  subst ed
  exact Transfers.wp_waitLocalO EC Variants.none (thr d i) none (none : HIx 1) rfl

/-- The copy of a block's rows to the output is issued. -/
theorem op_out (t : ℕ) (ht : t < 104) {src : Memref sig .scVector .vmem S128x16 .f32} {dst : Memref sig .scVector .hbm S128x16 .f32} {sm : DmaSem sig}
    (es : src = rbS (slot t)) (ed : dst = oB i t ht) (em : sm = outS (slot t)) {r : RbBuf F} {fo : OBuf F}
    (hr : ∀ z, (rbS (slot t)).view.read (Elt F) r z = gath xi xt ((oB i t ht).view.emb z))
    {h1 h2 h3} {k : PUnit → Prog (TpuEff nD τ sig (Elt F) Λ₀ (.scVector (cV i) (jV i))) α} {Q : α → sProp 𝕄} :
    iprop((rbLoc d i ↦[(rbS (slot t)).view.set]{fullShare} r) ∗ (oLoc d i ↦[ahead i t]{fullShare} fo) ∗ semVal (thr d i, SemLoc.dma (outS (slot t))) 0)
      ⊢ iprop((outFl EC d i xi xt t ht ∗ (oLoc d i ↦[ahead i (t + 1)]{fullShare} fo) -∗ WP d i (k ⟨⟩) Q)
      -∗ WP d i (.op (.enqueueDma src (.here dst) (.dma sm) h1 h2 h3) k) Q) := by
  subst es ed em
  iintro ⟨Hr, Ho, Hs⟩ Hk
  ihave Ho := (pointsTo_split_subset (q := fullShare) (f := fo) (S := ahead i t) (oB_sub i t ht)).1 $$ Ho
  icases Ho with ⟨Ho, Hor⟩
  iapply (Transfers.wp_dmaLocal EC Variants.none (thr d i) none (src := rbS (slot t)) (dst := oB i t ht) (fs := r) (fd := fo) (none : HIx 1) (oB i t ht).view.dmaCredit rfl (View.dmaCredit_pos _ (by decide)) (Finset.Subset.refl _)) $$ [Hr Ho Hs]
  · isplitl [Hr]; · iexact Hr
    isplitl [Ho]; · iexact Ho
    iexact Hs
  iintro Hfl
  iapply Hk
  isplitl [Hfl]
  · iapply (Transfers.Flight_mono EC (thr d i) (D' := outDel d i xi xt t ht) ?_) $$ Hfl
    iintro ⟨Ho, Hr⟩
    isplitl [Ho]
    · iapply (Entails.of_eq (pointsTo_congr (out_landed i t ht (slot t) xi xt r fo hr))) $$ Ho
    · iexists _; iexact Hr
  · iapply (Entails.of_eq (show (oLoc d i ↦[ahead i t \ (oB i t ht).view.set]{fullShare} fo : sProp 𝕄) = (oLoc d i ↦[ahead i (t + 1)]{fullShare} fo) by rw [ahead_succ])) $$ Hor

/-- It is waited for. -/
theorem op_outWait (t : ℕ) (ht : t < 104) {src : Memref sig .scVector .vmem S128x16 .f32} {o : Fin 2 → ℕ} {hb : ∀ a, o a + S128x16.size a ≤ S425984x16.size a} {sm : DmaSem sig}
    (em : sm = outS (slot t)) {O : CellTallies nD τ sig (HIx 1)} {W : Waits sig (HIx 1)}
    {h1 h2} {k : PUnit → Prog (TpuEff nD τ sig (Elt F) Λ₀ (.scVector (cV i) (jV i))) α} {Q : α → sProp 𝕄} :
    iprop(outFl EC d i xi xt t ht ∗ owes (thr d i) O W ∗ MayWait (thr d i) (SemLoc.dma (outS (slot t))) none O)
      ⊢ iprop((outDel d i xi xt t ht ∗ semVal (thr d i, SemLoc.dma (outS (slot t))) 0 ∗ owes (thr d i) O (insert (SemLoc.dma (outS (slot t)), none) W) -∗ WP d i (k ⟨⟩) Q)
      -∗ WP d i (.op (.waitDma2 sm src (outM.slice (Rect.unit (s := S425984x16) o S128x16.size hb) (fun _ => rfl)) h1 h2) k) Q) := by
  have ed : (outM.slice (Rect.unit (s := S425984x16) o S128x16.size hb) (fun _ => rfl)).view.dmaCredit = (oB i t ht).view.dmaCredit := rfl
  subst em
  exact Transfers.wp_waitLocalO EC Variants.none (thr d i) none (none : HIx 1) ed

end Rules

end Cert.Proof.ScKI

end
-- ==== Proof.ScKI.Tile.lean ====
/-
  The tile's program: the first copy of indices, the 104 trips, the last wait. The trips' invariant says which copies
  are under way and that the blocks of rows already out are the gathered rows.
-/
module

public import proofs.«01_k».proof.Proof.ScKI.Ops

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (i : grid0.Coords) (qx qt : PosShare TreeShare) (xi : XBuf F) (xt : TBuf F) (fo : OBuf F)

/-- The index slot of trip `t`: its block under way; after the last trip nothing. -/
def inAt (t : ℕ) : sProp 𝕄 := if t < 104 then inFl EC d i qx xi t else inIdle d i qx xi (slot t)
/-- The row slot of the trip before `t`: its block under way out, the blocks before that one done; before the first trip nothing. -/
def outPrev (t : ℕ) : sProp 𝕄 :=
  if h : 1 ≤ t ∧ t - 1 < 104 then iprop(outFl EC d i xi xt (t - 1) h.2 ∗ (oLoc d i ↦[done i (t - 1)]{fullShare} gath xi xt)) else outIdle d i (slot (t + 1))
/-- What is recorded of the waits. -/
def owing (O : CellTallies nD τ sig (HIx 1)) (W : Waits sig (HIx 1)) : sProp 𝕄 :=
  iprop(∃ W', ⌜∀ p ∈ W', p ∈ W ∨ p.2 = none⌝ ∗ owes (thr d i) O W')

/-- The words the loop carries into trip `t`. -/
abbrev carry (t : ℕ) : BitVec 32 × BitVec 32 × BitVec 32 × BitVec 32 × BitVec 32 := (c6 t, c7 t, c7 t, c9 t, c10 t)

/-- What the tile holds before trip `t`. -/
def Held (O : CellTallies nD τ sig (HIx 1)) (W : Waits sig (HIx 1)) (t : ℕ) : sProp 𝕄 :=
  iprop(inAt EC d i qx xi t ∗ inIdle d i qx xi (slot (t + 1)) ∗ outPrev EC d i xi xt t ∗ outIdle d i (slot t)
    ∗ (oLoc d i ↦[ahead i t]{fullShare} fo) ∗ semVal (thr d i, SemLoc.dma cc0_scoped4.sem) 0 ∗ (tLoc d i ↦{qt} xt) ∗ owing d i O W
    ∗ Transfers.MayWaits (thr d i) (none : HIx 1) O)

/-- The trips' invariant. -/
def Inv (O : CellTallies nD τ sig (HIx 1)) (W : Waits sig (HIx 1)) (t : ℕ) (acc : BitVec 32 × BitVec 32 × BitVec 32 × BitVec 32 × BitVec 32) : sProp 𝕄 :=
  iprop(⌜acc = carry t⌝ ∗ Held EC d i qx qt xi xt fo O W t)

variable [FloatOps F]

/-- Before the last trip the next block's indices are in flight. -/
theorem inAt_lt (t : ℕ) (h : t < 104) : (inAt EC d i qx xi t : sProp 𝕄) = inFl EC d i qx xi t := if_pos h
/-- After it their slot is idle. -/
theorem inAt_ge (t : ℕ) (h : ¬ t < 104) : (inAt EC d i qx xi t : sProp 𝕄) = inIdle d i qx xi (slot t) := if_neg h
/-- At the first trip no output is in flight. -/
theorem outPrev_zero : (outPrev EC d i xi xt 0 : sProp 𝕄) = outIdle d i (slot 1) := dif_neg (by omega)
/-- After it the block before is in flight, and the ones before that are done. -/
theorem outPrev_succ (t : ℕ) (h : t < 104) :
    (outPrev EC d i xi xt (t + 1) : sProp 𝕄) = iprop(outFl EC d i xi xt t h ∗ (oLoc d i ↦[done i t]{fullShare} gath xi xt)) :=
  dif_pos (show 1 ≤ t + 1 ∧ t + 1 - 1 < 104 from ⟨by omega, h⟩)

/-- After it the block before is in flight, and the ones before that are done. -/
theorem outPrev_pos (t : ℕ) (h : 1 ≤ t) (h' : t - 1 < 104) :
    (outPrev EC d i xi xt t : sProp 𝕄) = iprop(outFl EC d i xi xt (t - 1) h' ∗ (oLoc d i ↦[done i (t - 1)]{fullShare} gath xi xt)) :=
  dif_pos (show 1 ≤ t ∧ t - 1 < 104 from ⟨h, h'⟩)
/-- At the first trip no output is in flight. -/
theorem outPrev_neg (t : ℕ) (h : ¬ 1 ≤ t) : (outPrev EC d i xi xt t : sProp 𝕄) = outIdle d i (slot (t + 1)) := dif_neg (fun h' => h h'.1)

/-- A block that came out joins the blocks done. -/
theorem done_join (t : ℕ) (h : 1 ≤ t) (h' : t - 1 < 104) :
    iprop((oLoc d i ↦[done i (t - 1)]{fullShare} gath xi xt) ∗ (oLoc d i ↦[(oB i (t - 1) h').view.set]{fullShare} gath xi xt))
      ⊢ (oLoc d i ↦[done i t]{fullShare} gath xi xt : sProp 𝕄) := by
  have e : done i t = done i (t - 1) ∪ (oB i (t - 1) h').view.set := by
    exact (congrArg (done i) (show t = t - 1 + 1 by omega)).trans (done_succ i (t - 1) h').symm
  rw [e]
  exact (pointsTo_union (done_disj i (t - 1) h')).2

/-- At the first trip the slot is idle and nothing is done. -/
theorem prev_none (t : ℕ) (h : ¬ 1 ≤ t) :
    (outPrev EC d i xi xt t : sProp 𝕄) ⊢ iprop(outIdle d i (slot (t + 1)) ∗ (oLoc d i ↦[done i t]{fullShare} gath xi xt)) := by
  rw [outPrev_neg EC d i xi xt t h]
  obtain rfl : t = 0 := by omega
  rw [done_zero, pointsTo_empty]
  exact Laws.sep_emp.2

omit [FloatOps F] in
/-- One more wait of this kind may be recorded. -/
theorem owing_insert {W W' : Waits sig (HIx 1)} (h : ∀ p ∈ W', p ∈ W ∨ p.2 = none) (sm : SemLoc sig) :
    ∀ p ∈ insert (sm, (none : HIx 1)) W', p ∈ W ∨ p.2 = none := fun p hp => by
  rcases Finset.mem_insert.mp hp with hp | hp
  · exact .inr (hp ▸ rfl)
  · exact h p hp

omit [FloatOps F] in
/-- What a tile owes, from its recorded waits. -/
theorem owing_intro {O : CellTallies nD τ sig (HIx 1)} {W W' : Waits sig (HIx 1)} (h : ∀ p ∈ W', p ∈ W ∨ p.2 = none) :
    (owes (thr d i) O W' : sProp 𝕄) ⊢ owing d i O W := by
  unfold owing
  iintro H
  iexists W'
  isplitr; · ipureintro; exact h
  iexact H

/-- The base block of the tile, as a word. -/
abbrev w4 (i : grid0.Coords) : BitVec 32 := BitVec.ofNat 32 (104 * (i 1).val + 1664 * (i 0).val)

abbrev body (t : Fin k0_t1_loop.trips) (acc : BitVec 32 × BitVec 32 × BitVec 32 × BitVec 32 × BitVec 32) :=
  k0_t1_body (F := F) i tabM (Memref.isWhole_whole _) idxM (Memref.isWhole_whole _) outM (Memref.isWhole_whole _)
    ibM (Memref.isWhole_whole _) cc0_scoped1 rbM (Memref.isWhole_whole _) cc0_scoped3 cc0_scoped4 (w4 i) t acc

/-- The words that trip `t` computes for the next one. -/
abbrev nextWords (i : grid0.Coords) (t : Fin k0_t1_loop.trips) : BitVec 32 × BitVec 32 × BitVec 32 × BitVec 32 × BitVec 32 :=
  let n : BitVec 32 := Scf.iv 0#32 1#32 t.val
  let first := Scalar.cmpi .eq n 0#32
  let last := Scalar.cmpi .eq n 103#32
  let cur := Scalar.addi (c10 t.val) (w4 i)
  let down := Scalar.select 1#1 (Scalar.subi (c10 t.val) 1#32) (c10 t.val)
  let prev := Scalar.addi (Scalar.select (Scalar.cmpi .eq down 4294967295#32) 103#32 down) (w4 i)
  let up := Scalar.select 1#1 (Scalar.addi (c10 t.val) 1#32) (c10 t.val)
  let next := Scalar.addi (Scalar.select (Scalar.cmpi .eq up 104#32) 0#32 up) (w4 i)
  (Scalar.select (Scalar.andi (Scalar.andi (Scalar.cmpi .ne cur next) (Scalar.xori (Scalar.cmpi .sge n 103#32) 1#1)) 1#1) (Scalar.addi (c6 t.val) 1#32) (c6 t.val),
   Scalar.select (Scalar.ori (Scalar.cmpi .ne cur next) last) (Scalar.addi (c7 t.val) 1#32) (c7 t.val),
   Scalar.select (Scalar.andi (Scalar.ori (Scalar.cmpi .ne cur next) last) 1#1) (Scalar.addi (c7 t.val) 1#32) (c7 t.val),
   Scalar.select (Scalar.andi (Scalar.andi (Scalar.cmpi .ne cur prev) (Scalar.xori first 1#1)) 1#1) (Scalar.addi (c9 t.val) 1#32) (c9 t.val),
   Scalar.select (Scalar.cmpi .eq up 104#32) 0#32 up)

/-- The words that a trip hands to the next. -/
theorem nextWords_eq (i : grid0.Coords) (t : Fin k0_t1_loop.trips) : nextWords i t = carry (t.val + 1) := by
  revert i t; decide +kernel

/-- A finished run meets its postcondition. -/
theorem wp_done {α : Type} {v : α} {Q : α → sProp 𝕄} : Q v ⊢ WP d i (.ret v) Q := by
  unfold WP
  rw [wp_ret]
  iintro H
  imodintro
  iexact H

/-- The semaphore waited on is that of the slot before. -/
theorem off17_at (t : ℕ) (h : 1 ≤ t) (ht : t < 104) : k0_off17 (c9 t) = ![(slot (t - 1)).val] := by
  have e := off17_eq ⟨t - 1, by omega⟩
  rwa [show (⟨t - 1, by omega⟩ : Fin 103).val + 1 = t from Nat.sub_add_cancel h] at e

set_option maxHeartbeats 1000000 in
/-- The end of a trip: the wait for the copy out of the trip before, if there was one. -/
theorem trip_tail (O : CellTallies nD τ sig (HIx 1)) (W : Waits sig (HIx 1)) {W' : Waits sig (HIx 1)} (k : ℕ) (hk : k < 104)
    {c : Prop} [Decidable c] (hc : c ↔ 1 ≤ k) {src : c → Memref sig .scVector .vmem S128x16 .f32} {o : c → Fin 2 → ℕ} {hb : ∀ h a, o h a + S128x16.size a ≤ S425984x16.size a}
    {sm : c → DmaSem sig} (em : ∀ h : 1 ≤ k, sm (hc.mpr h) = outS (slot (k - 1)))
    {h1 : ∀ h, (src h).view.WordExact} {h2 : ∀ h, (outM.slice (Rect.unit (s := S425984x16) (o h) S128x16.size (hb h)) (fun _ => rfl)).view.WordExact}
    {tup : BitVec 32 × BitVec 32 × BitVec 32 × BitVec 32 × BitVec 32} (ht : tup = carry (k + 1))
    {Q : BitVec 32 × BitVec 32 × BitVec 32 × BitVec 32 × BitVec 32 → sProp 𝕄} (hQ : Inv EC d i qx qt xi xt fo O W (k + 1) = Q)
    (hW' : ∀ p ∈ W', p ∈ W ∨ p.2 = none) :
    iprop(inAt EC d i qx xi (k + 1) ∗ ibAny d i (slot k) ∗ semVal (thr d i, SemLoc.dma (inS (slot k))) 0 ∗ xSh d i qx xi (slot k)
      ∗ outPrev EC d i xi xt k ∗ outFl EC d i xi xt k hk ∗ (oLoc d i ↦[ahead i (k + 1)]{fullShare} fo)
      ∗ semVal (thr d i, SemLoc.dma cc0_scoped4.sem) 0 ∗ (tLoc d i ↦{qt} xt) ∗ owes (thr d i) O W'
      ∗ Transfers.MayWaits (thr d i) (none : HIx 1) O)
      ⊢ WP d i (if h : c then .op (.waitDma2 (sm h) (src h) (outM.slice (Rect.unit (s := S425984x16) (o h) S128x16.size (hb h)) (fun _ => rfl)) (h1 h) (h2 h)) (fun _ => .ret tup) else .ret tup) Q := by
  subst hQ ht
  unfold Inv Held WP
  iintro ⟨Hnx, Hib, Hsi, Hxs, Hout, Hout', Ho, Hs4, Ht, HO, #Hmw⟩
  by_cases h7 : 1 ≤ k
  case' pos =>
    rw [dif_pos (hc.mpr h7)]
    ihave Hout := (Entails.of_eq (outPrev_pos EC d i xi xt k h7 (by omega))) $$ Hout
    icases Hout with ⟨Hfo, Hdone⟩
    iapply (op_outWait EC d i xi xt (k - 1) (by omega) (em h7)) $$ [Hfo HO]
    · isplitl [Hfo]; · iexact Hfo
      isplitl [HO]; · iexact HO
      iapply (Transfers.MayWaits.elim (SemLoc.dma (outS (slot (k - 1))))) $$ Hmw
    iintro ⟨⟨Hob, Hrb⟩, Hso, HO⟩
    ihave Hdone := (done_join d i xi xt k h7 (by omega)) $$ [Hdone Hob]
    · isplitl [Hdone]; · iexact Hdone
      iexact Hob
    ihave Hidle := (Entails.of_eq (congrArg (fun p => (outIdle d i p : sProp 𝕄)) (slot_pred k h7))) $$ [Hrb Hso]
    · isplitl [Hrb]; · iexact Hrb
      iexact Hso
    ihave HO := (owing_intro d i (owing_insert hW' (SemLoc.dma (outS (slot (k - 1)))))) $$ HO
    iapply (wp_done d i)
  case' neg =>
    rw [dif_neg (mt hc.mp h7)]
    ihave Hout := (prev_none EC d i xi xt k h7) $$ Hout
    icases Hout with ⟨Hidle, Hdone⟩
    ihave HO := (owing_intro d i hW') $$ HO
    iapply (wp_done d i)
  all_goals
    ihave Hin' := (Entails.of_eq (congrArg (fun p => (inIdle d i qx xi p : sProp 𝕄)) (slot_two k).symm)) $$ [Hib Hsi Hxs]
    · isplitl [Hib]; · iexact Hib
      isplitl [Hsi]; · iexact Hsi
      iexact Hxs
    ihave Hprev := (Entails.of_eq (outPrev_succ EC d i xi xt k hk).symm) $$ [Hout' Hdone]
    · isplitl [Hout']; · iexact Hout'
      iexact Hdone
    isplitr; · ipureintro; rfl
    isplitl [Hnx]; · iexact Hnx
    isplitl [Hin']; · iexact Hin'
    isplitl [Hprev]; · iexact Hprev
    isplitl [Hidle]; · iexact Hidle
    isplitl [Ho]; · iexact Ho
    isplitl [Hs4]; · iexact Hs4
    isplitl [Ht]; · iexact Ht
    isplitl [HO]; · iexact HO
    iexact Hmw

set_option maxHeartbeats 1000000 in
/-- One trip. -/
theorem trip (hx : ∀ j, (xi j).toNat < 2600000) (O : CellTallies nD τ sig (HIx 1)) (W : Waits sig (HIx 1))
    (k : Fin k0_t1_loop.trips) :
    (Held EC d i qx qt xi xt fo O W k.val : sProp 𝕄)
      ⊢ WP d i (body (F := F) i k (carry k.val)) (Inv EC d i qx qt xi xt fo O W (k.val + 1)) := by
  have hk : k.val < 104 := lt_of_lt_of_eq k.isLt trips_eq
  generalize hQ : Inv EC d i qx qt xi xt fo O W (k.val + 1) = Q
  unfold Held WP
  unfold body k0_t1_body
  simp only [k0_part1_eq_skeleton, k0_part2_eq_skeleton]
  unfold k0_part1_skel k0_part2_skel
  simp only [dif_pos (cond2_eq i k), dif_pos (cond5_eq i k)]
  by_cases h1 : k.val < 103
  case' pos =>
    simp only [dif_pos ((cond1_iff i k).mpr h1)]
    simp only [SparseCore.waitIndirectGather, Prog.lift, Prog.bind_op, Prog.bind_ret, Prog.pure_eq_ret, Prog.bind_assoc, dite_eq_ite, ite_self]
    rw [wp_assume_of _ _ _ _ (show k0_chk3 (c7 k.val) from chk3 ⟨k.val, hk⟩)]
    rw [wp_assume_of _ _ _ _ (show k0_chk2 (c7 k.val) from chk2 ⟨k.val, hk⟩)]
    rw [wp_assume_of _ _ _ _ (chk1 i k)]
    iintro ⟨Hin, ⟨Hib, Hsi, Hxs⟩, Hout, Hout', Ho, Hs4, Ht, HO, #Hmw⟩
    ihave Hin := (Entails.of_eq (inAt_lt EC d i qx xi k.val hk)) $$ Hin
    iapply (op_in EC d i qx xi (k.val + 1) (by omega) (xB_of i (k.val + 1) (by omega) _ _ (off5_eq i ⟨k.val, h1⟩))
      (ibS_of _ _ _ (off4_eq ⟨k.val, h1⟩)) (inS_of _ _ _ (off6_eq ⟨k.val, h1⟩))) $$ [Hib Hsi Hxs]
    · isplitl [Hib]; · iexact Hib
      isplitl [Hsi]; · iexact Hsi
      iexact Hxs
    iintro Hnx
    ihave Hnx := (Entails.of_eq (inAt_lt EC d i qx xi (k.val + 1) (by omega)).symm) $$ Hnx
  case' neg =>
    simp only [dif_neg (mt (cond1_iff i k).mp h1)]
    simp only [SparseCore.waitIndirectGather, Prog.lift, Prog.bind_op, Prog.bind_ret, Prog.pure_eq_ret, Prog.bind_assoc, dite_eq_ite, ite_self]
    rw [wp_assume_of _ _ _ _ (show k0_chk3 (c7 k.val) from chk3 ⟨k.val, hk⟩)]
    rw [wp_assume_of _ _ _ _ (show k0_chk2 (c7 k.val) from chk2 ⟨k.val, hk⟩)]
    rw [wp_assume_of _ _ _ _ (chk1 i k)]
    iintro ⟨Hin, ⟨Hib, Hsi, Hxs⟩, Hout, Hout', Ho, Hs4, Ht, HO, #Hmw⟩
    ihave Hin := (Entails.of_eq (inAt_lt EC d i qx xi k.val hk)) $$ Hin
    ihave Hnx := (Entails.of_eq (inAt_ge EC d i qx xi (k.val + 1) (by omega)).symm) $$ [Hib Hsi Hxs]
    · isplitl [Hib]; · iexact Hib
      isplitl [Hsi]; · iexact Hsi
      iexact Hxs
  all_goals
    unfold owing
    icases HO with ⟨%W', %hW', HO⟩
    iapply (op_inWait EC d i qx xi k.val (ibS_of _ _ _ (off7_eq ⟨k.val, hk⟩)) (inS_of _ _ _ (off9_eq ⟨k.val, hk⟩))) $$ [Hin HO]
    · isplitl [Hin]; · iexact Hin
      isplitl [HO]; · iexact HO
      iapply (Transfers.MayWaits.elim (SemLoc.dma (inS (slot k.val)))) $$ Hmw
    iintro ⟨⟨⟨%f, %hl, Hib⟩, Hxs⟩, Hsi, HO⟩
    icases Hout' with ⟨Hrb, Hso⟩
    iapply (op_gather EC d i qt xi xt k.val hk hx rfl (rbS_of _ _ _ (off10_eq ⟨k.val, hk⟩)) (ibL_of _ _ _ (off11_eq ⟨k.val, hk⟩)) hl) $$ [Ht Hrb Hib Hs4]
    · isplitl [Ht]; · iexact Ht
      isplitl [Hrb]; · iexact Hrb
      isplitl [Hib]; · iexact Hib
      iexact Hs4
    iintro Hfl
    iapply (op_gatherWait EC d i k.val (rbS_of _ _ _ (off10_eq ⟨k.val, hk⟩))) $$ [Hfl HO]
    · isplitl [Hfl]; · iexact Hfl
      isplitl [HO]; · iexact HO
      iapply (Transfers.MayWaits.elim (SemLoc.dma cc0_scoped4.sem)) $$ Hmw
    iintro ⟨⟨⟨%r, %hr, Hrb⟩, Ht, Hib⟩, Hs4, HO⟩
    iapply (op_out EC d i xi xt k.val hk (rbS_of _ _ _ (off12_eq ⟨k.val, hk⟩)) (oB_of i k.val hk _ _ (off13_eq i ⟨k.val, hk⟩))
      (outS_of _ _ _ (off14_eq ⟨k.val, hk⟩)) hr) $$ [Hrb Ho Hso]
    · isplitl [Hrb]; · iexact Hrb
      isplitl [Ho]; · iexact Ho
      iexact Hso
    iintro ⟨Hout', Ho⟩
    iapply (trip_tail EC d i qx qt xi xt fo O W k.val hk (cond7_iff i k) (fun h => outS_of _ _ _ (off17_at k.val h hk)) (nextWords_eq i k) hQ (owing_insert (owing_insert hW' (SemLoc.dma (inS (slot k.val)))) (SemLoc.dma cc0_scoped4.sem))) $$ [Hout Hnx Hxs Hsi Ht Hib Hs4 HO Hout' Ho]
    · isplitl [Hnx]; · iexact Hnx
      isplitl [Hib]; · iexists f; iexact Hib
      isplitl [Hsi]; · iexact Hsi
      isplitl [Hxs]; · iexact Hxs
      isplitl [Hout]; · iexact Hout
      isplitl [Hout']; · iexact Hout'
      isplitl [Ho]; · iexact Ho
      isplitl [Hs4]; · iexact Hs4
      isplitl [Ht]; · iexact Ht
      isplitl [HO]; · iexact HO
      iexact Hmw

end Cert.Proof.ScKI

end
-- ==== Proof.ScKI.TileRun.lean ====
/-
  The whole of a tile's program: from its shares of the table and of the indices and its own rows of the output to those
  rows gathered.
-/
module

public import proofs.«01_k».proof.Proof.ScKI.Tile

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} {U : Type} [URA U]

local notation "𝕄" => MT nD τ sig (HIx 1) (Elt F) ℕ U ℕ

variable (EC : UEmb Counters (MT nD τ sig (HIx 1) (Elt F) ℕ U ℕ)) [EC.LandsIn (upEmb : UEmb _ (MT nD τ sig (HIx 1) (Elt F) ℕ U ℕ))]
variable (d : Dev nD) (i : grid0.Coords) (qx qt : PosShare TreeShare) (xi : XBuf F) (xt : TBuf F) (fo : OBuf F)

variable [FloatOps F]

/-- The word that names a tile's first block. -/
theorem v4_eq : ∀ i : grid0.Coords,
    Scalar.muli (Scalar.addi (Scalar.addi 0#32 (Scalar.muli (BitVec.ofNat 32 (i 1).val) 1#32)) (Scalar.muli (BitVec.ofNat 32 (i 0).val) 16#32)) 104#32 = w4 i := by
  decide +kernel

/-- The semaphore waited on at the end is the last slot's. -/
theorem off20_eq : k0_off20 (c9 104) = ![(slot 103).val] := by decide +kernel

/-- The share of the index array is the two slots' shares. -/
theorem x_halves : (xLoc d i ↦{qx} xi : sProp 𝕄) = iprop(xSh d i qx xi 0 ∗ xSh d i qx xi 1) := by
  have h : (xLoc d i ↦[Finset.univ]{qx} xi : sProp 𝕄) = bigSep Finset.univ fun j : Fin 2 => (xLoc d i ↦[Finset.univ]{pieceOf qx 2 (by omega) j} xi : sProp 𝕄) :=
    pointsTo_piecesOf _ _ _ _
  rw [BI.bigSep_fin_two] at h
  exact h

/-- The index buffer is its two slots. -/
theorem ib_halves (f : IbBuf F) : (ibLoc d i ↦{fullShare} f : sProp 𝕄) ⊢ iprop(ibAny d i 0 ∗ ibAny d i 1) := by
  refine BIBase.Entails.trans (Entails.of_eq (congrArg (fun S => (ibLoc d i ↦[S]{fullShare} f : sProp 𝕄)) ib_cover.symm)) ?_
  refine BIBase.Entails.trans (pointsTo_union ib_disj).1 ?_
  iintro ⟨H0, H1⟩
  isplitl [H0]; · iexists f; iexact H0
  iexists f; iexact H1

/-- The two slots together are the whole buffer. -/
theorem ib_whole : iprop(ibAny d i 0 ∗ ibAny d i 1) ⊢ (iprop(∃ f : IbBuf F, ibLoc d i ↦{fullShare} f) : sProp 𝕄) := by
  iintro ⟨⟨%f, H0⟩, ⟨%g, H1⟩⟩
  iexists ((ibS 1).view.set.piecewise g f)
  ihave H := (pointsTo_join (ℓ := ibLoc d i) (q := fullShare) (f := f) (g := g) ib_disj) $$ [H0 H1]
  · isplitl [H0]; · iexact H0
    iexact H1
  iapply (Entails.of_eq (congrArg (fun S => (ibLoc d i ↦[S]{fullShare} ((ibS 1).view.set.piecewise g f : IbBuf F) : sProp 𝕄)) ib_cover))
  iexact H

/-- The row buffer is its two slots. -/
theorem rb_halves (f : RbBuf F) : (rbLoc d i ↦{fullShare} f : sProp 𝕄) ⊢ iprop(rbAny d i 0 ∗ rbAny d i 1) := by
  refine BIBase.Entails.trans (Entails.of_eq (congrArg (fun S => (rbLoc d i ↦[S]{fullShare} f : sProp 𝕄)) rb_cover.symm)) ?_
  refine BIBase.Entails.trans (pointsTo_union rb_disj).1 ?_
  iintro ⟨H0, H1⟩
  isplitl [H0]; · iexists f; iexact H0
  iexists f; iexact H1

/-- The two slots together are the whole buffer. -/
theorem rb_whole : iprop(rbAny d i 0 ∗ rbAny d i 1) ⊢ (iprop(∃ f : RbBuf F, rbLoc d i ↦{fullShare} f) : sProp 𝕄) := by
  iintro ⟨⟨%f, H0⟩, ⟨%g, H1⟩⟩
  iexists ((rbS 1).view.set.piecewise g f)
  ihave H := (pointsTo_join (ℓ := rbLoc d i) (q := fullShare) (f := f) (g := g) rb_disj) $$ [H0 H1]
  · isplitl [H0]; · iexact H0
    iexact H1
  iapply (Entails.of_eq (congrArg (fun S => (rbLoc d i ↦[S]{fullShare} ((rbS 1).view.set.piecewise g f : RbBuf F) : sProp 𝕄)) rb_cover))
  iexact H

/-- What the tile is given. -/
abbrev Given (O : CellTallies nD τ sig (HIx 1)) (W : Waits sig (HIx 1)) : sProp 𝕄 :=
  iprop(Transfers.MayWaits (thr d i) (none : HIx 1) O ∗ (∃ f : IbBuf F, ibLoc d i ↦{fullShare} f) ∗ (∃ f : RbBuf F, rbLoc d i ↦{fullShare} f)
    ∗ semVal (thr d i, SemLoc.dma (inS 0)) 0 ∗ semVal (thr d i, SemLoc.dma (inS 1)) 0
    ∗ semVal (thr d i, SemLoc.dma (outS 0)) 0 ∗ semVal (thr d i, SemLoc.dma (outS 1)) 0
    ∗ semVal (thr d i, SemLoc.dma cc0_scoped4.sem) 0
    ∗ (xLoc d i ↦{qx} xi) ∗ (tLoc d i ↦{qt} xt) ∗ (oLoc d i ↦[done i 104]{fullShare} fo) ∗ owes (thr d i) O W)

/-- What it leaves. -/
abbrev Left (O : CellTallies nD τ sig (HIx 1)) (W : Waits sig (HIx 1)) : sProp 𝕄 :=
  iprop((∃ f : IbBuf F, ibLoc d i ↦{fullShare} f) ∗ (∃ f : RbBuf F, rbLoc d i ↦{fullShare} f)
    ∗ semVal (thr d i, SemLoc.dma (inS 0)) 0 ∗ semVal (thr d i, SemLoc.dma (inS 1)) 0
    ∗ semVal (thr d i, SemLoc.dma (outS 0)) 0 ∗ semVal (thr d i, SemLoc.dma (outS 1)) 0
    ∗ semVal (thr d i, SemLoc.dma cc0_scoped4.sem) 0
    ∗ (xLoc d i ↦{qx} xi) ∗ (tLoc d i ↦{qt} xt) ∗ (oLoc d i ↦[done i 104]{fullShare} gath xi xt) ∗ owing d i O W)

set_option maxHeartbeats 1000000 in
/-- Before the first trip. -/
theorem start (O : CellTallies nD τ sig (HIx 1)) (W : Waits sig (HIx 1)) {W' : Waits sig (HIx 1)} (hW' : ∀ p ∈ W', p ∈ W ∨ p.2 = none) :
    iprop(inFl EC d i qx xi 0 ∗ inIdle d i qx xi (slot 1) ∗ outIdle d i (slot 1) ∗ outIdle d i (slot 0)
      ∗ (oLoc d i ↦[ahead i 0]{fullShare} fo) ∗ semVal (thr d i, SemLoc.dma cc0_scoped4.sem) 0 ∗ (tLoc d i ↦{qt} xt) ∗ owes (thr d i) O W'
      ∗ Transfers.MayWaits (thr d i) (none : HIx 1) O) ⊢ (Inv EC d i qx qt xi xt fo O W 0 (0#32 + 1#32, 0#32, 0#32, 0#32, 0#32) : sProp 𝕄) := by
  unfold Inv Held
  rw [inAt_lt EC d i qx xi 0 (by omega), outPrev_zero EC d i xi xt]
  iintro ⟨H1, H2, H3, H4, H5, H6, H7, HO, H8⟩
  ihave HO := (owing_intro d i hW') $$ HO
  isplitr; · ipureintro; decide +kernel
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexact HO
  iexact H8

/-- A side condition that holds is passed. -/
theorem assume_WP {α : Type} {p : Prop} {dec : Decidable p} (h : p)
    {k : PLift p → Prog (TpuEff nD τ sig (Elt F) Λ₀ (.scVector (cV i) (jV i))) α} {Q : α → sProp 𝕄} :
    WP d i (k ⟨h⟩) Q ⊢ WP d i (.op (.assume p dec) k) Q := by
  unfold WP
  rw [wp_assume_of _ _ _ _ h]

include EC in
/-- The loop: from the invariant before the first trip to what holds after the last. -/
theorem loop (hx : ∀ j, (xi j).toNat < 2600000) (O : CellTallies nD τ sig (HIx 1)) (W : Waits sig (HIx 1)) {α : Type}
    {kk : BitVec 32 × BitVec 32 × BitVec 32 × BitVec 32 × BitVec 32 → Prog (TpuEff nD τ sig (Elt F) Λ₀ (.scVector (cV i) (jV i))) α} {Q : α → sProp 𝕄} :
    (Inv EC d i qx qt xi xt fo O W 0 (0#32 + 1#32, 0#32, 0#32, 0#32, 0#32) : sProp 𝕄)
      ⊢ iprop((Held EC d i qx qt xi xt fo O W 104 -∗ WP d i (kk (carry 104)) Q)
        -∗ WP d i (k0_t1_loop.for k0_t1_ok (Scalar.addi 0#32 1#32, 0#32, 0#32, 0#32, 0#32) (fun t acc => body (F := F) i t acc) >>= kk) Q) := by
  have hb : ∀ (k : Fin k0_t1_loop.trips) acc, (Inv EC d i qx qt xi xt fo O W k.val acc : sProp 𝕄)
      ⊢ wp frame (wpE (defs₀ (F := F)) Variants.none (thr d i) none) Set.univ (body (F := F) i k acc) (Inv EC d i qx qt xi xt fo O W (k.val + 1)) := by
    intro k acc
    unfold Inv
    iintro ⟨%h, H⟩
    subst h
    iapply (trip EC d i qx qt xi xt fo hx O W k)
    iexact H
  iintro HI Hk
  iapply (Scf.wp_for_bind frame (wpE (defs₀ (F := F)) Variants.none (thr d i) none) Set.univ _ _ _ k0_t1_ok _ _ (Inv EC d i qx qt xi xt fo O W) hb) $$ [HI]
  · iexact HI
  iintro %acc HI
  unfold Inv
  icases HI with ⟨%h, H⟩
  ihave H := (Entails.of_eq (congrArg (fun n => Held EC d i qx qt xi xt fo O W n) trips_eq)) $$ H
  rw [h, show Scf.trips k0_t1_loop.lb k0_t1_loop.ub k0_t1_loop.st = 104 from trips_eq]
  iapply Hk
  iexact H

include EC in
set_option maxHeartbeats 1000000 in
/-- After the last trip: the last block of rows lands. -/
theorem finish (O : CellTallies nD τ sig (HIx 1)) (W : Waits sig (HIx 1)) (h4 : k0_chk4 (c9 104)) (h5 : k0_chk5 i (c10 104))
    {h1 : ((rbM.slice (Rect.unit (s := S2x128x16) (k0_off21 (c9 104)) S1x128x16.size (k0_off21_inb (c9 104) h4)) (fun _ => rfl)).squeeze S128x16 squeezes_S1x128x16_S128x16).view.WordExact}
    {h2 : (outM.slice (Rect.unit (s := S425984x16) (k0_off19 i (c10 104)) S128x16.size (k0_off19_inb i (c10 104) h5)) (fun _ => rfl)).view.WordExact} :
    (Held EC d i qx qt xi xt fo O W 104 : sProp 𝕄)
      ⊢ WP d i (.op (.waitDma2 ((cc0_scoped3.slice (Rect.unit (s := S2) (k0_off20 (c9 104)) S1.size (k0_off20_inb (c9 104) h4))).squeeze S_ squeezes_S1_S_).sem
          ((rbM.slice (Rect.unit (s := S2x128x16) (k0_off21 (c9 104)) S1x128x16.size (k0_off21_inb (c9 104) h4)) (fun _ => rfl)).squeeze S128x16 squeezes_S1x128x16_S128x16)
          (outM.slice (Rect.unit (s := S425984x16) (k0_off19 i (c10 104)) S128x16.size (k0_off19_inb i (c10 104) h5)) (fun _ => rfl)) h1 h2)
          (fun _ => .ret PUnit.unit)) (fun _ : PUnit => Left d i qx qt xi xt O W) := by
  unfold Held
  rw [inAt_ge EC d i qx xi 104 (by omega), outPrev_succ EC d i xi xt 103 (by omega)]
  unfold owing
  iintro ⟨⟨Hib0, Hi0, Hx0⟩, ⟨Hib1, Hi1, Hx1⟩, ⟨Hfl, Hdone⟩, ⟨Hrb0, Ho0⟩, Ho, Hs4, Ht, ⟨%W', %hW', HO⟩, #Hmw⟩
  iapply (op_outWait EC d i xi xt 103 (by omega) (outS_of _ _ _ off20_eq)) $$ [Hfl HO]
  · isplitl [Hfl]; · iexact Hfl
    isplitl [HO]; · iexact HO
    iapply (Transfers.MayWaits.elim (SemLoc.dma (outS (slot 103)))) $$ Hmw
  iintro ⟨⟨Hob, Hrb1⟩, Ho1, HO⟩
  ihave Hdone := (done_join d i xi xt 104 (by omega) (by omega)) $$ [Hdone Hob]
  · isplitl [Hdone]; · iexact Hdone
    iexact Hob
  ihave HO := (owing_intro d i (owing_insert hW' (SemLoc.dma (outS (slot 103))))) $$ HO
  ihave Hib := (ib_whole d i) $$ [Hib0 Hib1]
  · isplitl [Hib0]; · iexact Hib0
    iexact Hib1
  ihave Hrb := (rb_whole d i) $$ [Hrb0 Hrb1]
  · isplitl [Hrb0]; · iexact Hrb0
    iexact Hrb1
  ihave Hx := (Entails.of_eq (x_halves d i qx xi).symm) $$ [Hx0 Hx1]
  · isplitl [Hx0]; · iexact Hx0
    iexact Hx1
  iapply (wp_done d i)
  isplitl [Hib]; · iexact Hib
  isplitl [Hrb]; · iexact Hrb
  isplitl [Hi0]; · iexact Hi0
  isplitl [Hi1]; · iexact Hi1
  isplitl [Ho0]; · iexact Ho0
  isplitl [Ho1]; · iexact Ho1
  isplitl [Hs4]; · iexact Hs4
  isplitl [Hx]; · iexact Hx
  isplitl [Ht]; · iexact Ht
  isplitl [Hdone]; · iexact Hdone
  iexact HO

include EC in
set_option maxHeartbeats 1000000 in
/-- The tile's program. -/
theorem tile (hx : ∀ j, (xi j).toNat < 2600000) (O : CellTallies nD τ sig (HIx 1)) (W : Waits sig (HIx 1)) :
    (Given d i qx qt xi xt fo O W : sProp 𝕄)
      ⊢ WP d i (cc0_gather_kernel (F := F) i tabM (Memref.isWhole_whole _) idxM (Memref.isWhole_whole _) outM (Memref.isWhole_whole _)
        ibM (Memref.isWhole_whole _) cc0_scoped1 rbM (Memref.isWhole_whole _) cc0_scoped3 cc0_scoped4) (fun _ => Left d i qx qt xi xt O W) := by
  unfold WP
  rw [cc0_gather_kernel_eq_skeleton]
  unfold cc0_gather_kernel_skel
  simp only [k0_part3_eq_skeleton, k0_part4_eq_skeleton]
  unfold k0_part3_skel k0_part4_skel
  simp only [Prog.lift, Prog.bind_op, Prog.bind_ret, Prog.pure_eq_ret, Prog.bind_assoc, v4_eq]
  iintro ⟨#Hmw, ⟨%fi, Hib⟩, ⟨%fr, Hrb⟩, Hi0, Hi1, Ho0, Ho1, Hs4, Hx, Ht, Ho, HO⟩
  ihave Hx := (Entails.of_eq (x_halves d i qx xi)) $$ Hx
  icases Hx with ⟨Hx0, Hx1⟩
  ihave Hib := (ib_halves d i fi) $$ Hib
  icases Hib with ⟨Hib0, Hib1⟩
  ihave Hrb := (rb_halves d i fr) $$ Hrb
  icases Hrb with ⟨Hrb0, Hrb1⟩
  ihave Ho := (Entails.of_eq (congrArg (fun S => (oLoc d i ↦[S]{fullShare} fo : sProp 𝕄)) (ahead_zero i).symm)) $$ Ho
  iapply (op_in EC d i qx xi 0 (by omega) (xB_of i 0 (by omega) _ _ (off2_eq i))
      (ibS_of _ _ (slot 0) off1_eq) (inS_of _ _ (slot 0) off3_eq)) $$ [Hib0 Hi0 Hx0]
  · isplitl [Hib0]; · iexact Hib0
    isplitl [Hi0]; · iexact Hi0
    iexact Hx0
  iintro Hfl
  ihave HI := (start EC d i qx qt xi xt fo O W (W' := W) (fun p hp => .inl hp)) $$ [Hfl Hib1 Hi1 Hx1 Hrb1 Ho1 Hrb0 Ho0 Ho Hs4 Ht HO]
  · isplitl [Hfl]; · iexact Hfl
    isplitl [Hib1 Hi1 Hx1]
    · isplitl [Hib1]; · iexact Hib1
      isplitl [Hi1]; · iexact Hi1
      iexact Hx1
    isplitl [Hrb1 Ho1]
    · isplitl [Hrb1]; · iexact Hrb1
      iexact Ho1
    isplitl [Hrb0 Ho0]
    · isplitl [Hrb0]; · iexact Hrb0
      iexact Ho0
    isplitl [Ho]; · iexact Ho
    isplitl [Hs4]; · iexact Hs4
    isplitl [Ht]; · iexact Ht
    isplitl [HO]; · iexact HO
    iexact Hmw
  iapply (loop EC d i qx qt xi xt fo hx O W) $$ [HI]
  · iexact HI
  iintro H
  iapply (assume_WP d i (chk5 i))
  iapply (assume_WP d i chk4)
  iapply (finish EC d i qx qt xi xt fo O W chk4 (chk5 i)) $$ [H]
  iexact H

end Cert.Proof.ScKI

end
-- ==== Proof.ScKI.Launch.lean ====
/-
  The gather call as its caller sees it: what each core and each tile is handed, each tile's obligation, and the
  dealing of the arrays to the two cores and their sixteen tiles.
-/
module

public import proofs.«01_k».proof.Proof.ScKI.Res
public import proofs.«01_k».proof.Proof.ScKI.TileRun

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's configuration -/

abbrev ΛP : Labels := Pipeline.Sig Λ₀ (Fin 4) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are distinct and shared as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

local notation "𝕄" => MT nD τ sig (HIx 1) (Elt F) ℕ UU ℕ

/-! ## The arrays and their shares -/

abbrev xL (d : Dev nD) : Loc nD τ sig := (SparseCore.T d).loc main_v6
abbrev tL (d : Dev nD) : Loc nD τ sig := (SparseCore.T d).loc main_v7
abbrev oL (d : Dev nD) : Loc nD τ sig := (SparseCore.T d).loc main_v8

/-- A tile's coordinates, from its core and its place there. -/
def coordsV (c : Fin (grid0.bound 0)) (s : Fin (grid0.bound 1)) : grid0.Coords :=
  fun | 0 => c | 1 => s | ⟨_ + 2, h⟩ => absurd h (Nat.not_lt.2 (Nat.le_add_left _ _))

/-- A core's share of an array that all tiles read. -/
def coreQ (c : Fin (grid0.bound 0)) : PosShare TreeShare := pieceOf fullShare (grid0.bound 0) (by decide) c
/-- A tile's share. -/
def tileQ (c : Fin (grid0.bound 0)) (s : Fin (grid0.bound 1)) : PosShare TreeShare := pieceOf (coreQ c) (grid0.bound 1) (by decide) s
/-- A core's rows. -/
def coreRows (c : Fin (grid0.bound 0)) : Finset S425984x16.Idx :=
  Finset.univ.biUnion fun s : Fin (grid0.bound 1) => done (coordsV c s) 104

/-- Where a tile's rows begin. -/
theorem base_coords (c : Fin (grid0.bound 0)) (s : Fin (grid0.bound 1)) : base (coordsV c s) = 13312 * s.val + 212992 * c.val := rfl

/-- Which rows a tile has done after all its trips. -/
theorem mem_done (c : Fin (grid0.bound 0)) (s : Fin (grid0.bound 1)) (j : S425984x16.Idx) :
    j ∈ done (coordsV c s) 104 ↔ 13312 * s.val + 212992 * c.val ≤ (j 0).val ∧ (j 0).val < 13312 * s.val + 212992 * c.val + 13312 := by
  unfold done
  rw [Finset.mem_filter, base_coords]
  exact ⟨fun h => h.2, fun h => ⟨Finset.mem_univ _, h⟩⟩

/-- Two tiles of a core have no row in common. -/
theorem tiles_disj (c : Fin (grid0.bound 0)) : ∀ s ∈ (Finset.univ : Finset (Fin (grid0.bound 1))), ∀ s' ∈ (Finset.univ : Finset (Fin (grid0.bound 1))),
    s ≠ s' → Disjoint (done (coordsV c s) 104) (done (coordsV c s') 104) := by
  intro s _ s' _ h
  rw [Finset.disjoint_left]
  intro j hj hj'
  rw [mem_done] at hj hj'
  exact h (Fin.ext (by omega))

/-- The two cores have no row in common. -/
theorem cores_disj : ∀ c ∈ (Finset.univ : Finset (Fin (grid0.bound 0))), ∀ c' ∈ (Finset.univ : Finset (Fin (grid0.bound 0))),
    c ≠ c' → Disjoint (coreRows c) (coreRows c') := by
  intro c _ c' _ h
  rw [Finset.disjoint_left]
  intro j hj hj'
  obtain ⟨s, _, hs⟩ := Finset.mem_biUnion.mp hj
  obtain ⟨s', _, hs'⟩ := Finset.mem_biUnion.mp hj'
  rw [mem_done] at hs hs'
  have hb : s.val < 16 := s.isLt
  have hb' : s'.val < 16 := s'.isLt
  exact h (Fin.ext (by omega))

/-- The cores' rows are all rows. -/
theorem cores_cover : (Finset.univ : Finset (Fin (grid0.bound 0))).biUnion coreRows = Finset.univ := by
  refine Finset.eq_univ_iff_forall.mpr fun j => ?_
  have hj : (j 0).val < 425984 := (j 0).isLt
  refine Finset.mem_biUnion.mpr ⟨⟨(j 0).val / 212992, show _ < 2 by omega⟩, Finset.mem_univ _,
    Finset.mem_biUnion.mpr ⟨⟨(j 0).val % 212992 / 13312, show _ < 16 by omega⟩, Finset.mem_univ _, ?_⟩⟩
  rw [mem_done]
  simp only
  omega

/-! ## What the call and its tiles carry -/

variable (xi : Dev nD → XBuf F) (xt : Dev nD → TBuf F) (fo : Dev nD → OBuf F)

/-- A core's part of the three arrays, the output at given contents. -/
abbrev coreRes (d : Dev nD) (c : Fin (grid0.bound 0)) (f : OBuf F) : sProp 𝕄 :=
  iprop((xL d ↦{coreQ c} xi d) ∗ (tL d ↦{coreQ c} xt d) ∗ oL d ↦[coreRows c]{fullShare} f)
/-- A tile's part. -/
abbrev tileRes (d : Dev nD) (c : Fin (grid0.bound 0)) (s : Fin (grid0.bound 1)) (f : OBuf F) : sProp 𝕄 :=
  iprop((xL d ↦{tileQ c s} xi d) ∗ (tL d ↦{tileQ c s} xt d) ∗ oL d ↦[done (coordsV c s) 104]{fullShare} f)

abbrev cC (c : Fin ((K (F := F)).nCore 0)) : Fin (grid0.bound 0) := Fin.cast rfl c
abbrev cS (s : Fin ((K (F := F)).nSub 0)) : Fin (grid0.bound 1) := Fin.cast rfl s

/-- The call takes the arrays, the output at what it held, and brings them back, the output at the gathered rows. -/
def P : (K (F := F)).Pay (nD := nD) (Val := Elt F) (Name := ℕ) (U := UU) where
  st := fun q d c => match q with | 0 => coreRes xi xt d (cC c) (fo d)
  dn := fun q d c => match q with | 0 => coreRes xi xt d (cC c) (gath (xi d) (xt d))
  go := fun q d c i => match q with | 0 => tileRes xi xt d (cC c) (cS i) (fo d)
  td := fun q d c i => match q with | 0 => tileRes xi xt d (cC c) (cS i) (gath (xi d) (xt d))
  x := fun _ _ => iprop(emp)

instance P_storable : (P xi xt fo).IsStorable where
  st q d c := match q with
    | 0 => (inferInstance : BI.Storable (upEmb : UEmb _ 𝕄) (coreRes xi xt d (cC c) (fo d)))
  dn q d c := match q with
    | 0 => (inferInstance : BI.Storable (upEmb : UEmb _ 𝕄) (coreRes xi xt d (cC c) (gath (xi d) (xt d))))
  go q d c i := match q with
    | 0 => (inferInstance : BI.Storable (upEmb : UEmb _ 𝕄) (tileRes xi xt d (cC c) (cS i) (fo d)))
  td q d c i := match q with
    | 0 => (inferInstance : BI.Storable (upEmb : UEmb _ 𝕄) (tileRes xi xt d (cC c) (cS i) (gath (xi d) (xt d))))

/-! ## A tile's own semaphores and buffers -/

section Own

variable (d : Dev nD) (i : grid0.Coords)

/-- The five semaphores that a tile uses. -/
def cells : Finset (GSem nD τ sig) :=
  {(thr d i, .dma (inS 0)), (thr d i, .dma (inS 1)), (thr d i, .dma (outS 0)), (thr d i, .dma (outS 1)), (thr d i, .dma cc0_scoped4.sem)}

/-- The counters that a tile uses are its own. -/
theorem cells_own : cells d i ⊆ ownCells (thr d i) := by
  intro g hg
  simp only [cells, Finset.mem_insert, Finset.mem_singleton] at hg
  rcases hg with rfl | rfl | rfl | rfl | rfl
  all_goals refine mem_ownCells.mpr ⟨rfl, ?_⟩
  · show (SemLoc.dma (inS 0) : SemLoc sig).isScoped .scVector = true; decide
  · show (SemLoc.dma (inS 1) : SemLoc sig).isScoped .scVector = true; decide
  · show (SemLoc.dma (outS 0) : SemLoc sig).isScoped .scVector = true; decide
  · show (SemLoc.dma (outS 1) : SemLoc sig).isScoped .scVector = true; decide
  · show (SemLoc.dma cc0_scoped4.sem : SemLoc sig).isScoped .scVector = true; decide

/-- Two cells of a thread are distinct if their semaphores are. -/
theorem cell_ne {a b : DmaSem sig} (h : a ≠ b) : ((thr d i, SemLoc.dma a) : GSem nD τ sig) ≠ (thr d i, SemLoc.dma b) := fun e =>
  h (SemLoc.dma.inj (Prod.mk.inj e).2)

/-- The tile's semaphores are those five and the rest. -/
theorem ownSems0_V : (ownSems0 (thr d i) : sProp 𝕄)
    = iprop((semVal (thr d i, SemLoc.dma (inS 0)) 0 ∗ semVal (thr d i, SemLoc.dma (inS 1)) 0 ∗ semVal (thr d i, SemLoc.dma (outS 0)) 0
        ∗ semVal (thr d i, SemLoc.dma (outS 1)) 0 ∗ semVal (thr d i, SemLoc.dma cc0_scoped4.sem) 0)
      ∗ bigSep (ownCells (thr d i) \ cells d i) fun g => semVal g 0) := by
  have hd : ∀ a b : DmaSem sig, a ≠ b → ((thr d i, SemLoc.dma a) : GSem nD τ sig) ≠ (thr d i, SemLoc.dma b) := fun _ _ h => cell_ne d i h
  have h01 := hd (inS 0) (inS 1) (by decide)
  have h02 := hd (inS 0) (outS 0) (by decide)
  have h03 := hd (inS 0) (outS 1) (by decide)
  have h04 := hd (inS 0) cc0_scoped4.sem (by decide)
  have h12 := hd (inS 1) (outS 0) (by decide)
  have h13 := hd (inS 1) (outS 1) (by decide)
  have h14 := hd (inS 1) cc0_scoped4.sem (by decide)
  have h23 := hd (outS 0) (outS 1) (by decide)
  have h24 := hd (outS 0) cc0_scoped4.sem (by decide)
  have h34 := hd (outS 1) cc0_scoped4.sem (by decide)
  have e : (bigSep (ownCells (thr d i)) fun g => (semVal g 0 : sProp 𝕄))
      = iprop((bigSep (cells d i) fun g => (semVal g 0 : sProp 𝕄)) ∗ bigSep (ownCells (thr d i) \ cells d i) fun g => (semVal g 0 : sProp 𝕄)) := by
    conv_lhs => rw [← Finset.union_sdiff_of_subset (cells_own d i)]
    exact bigSep_union Finset.disjoint_sdiff
  unfold SparseCore.Cfg.ownSems0
  rw [e]
  congr 1
  unfold cells
  rw [SparseCore.bigSep_insert' (by simp only [Finset.mem_insert, Finset.mem_singleton, not_or]; exact ⟨h01, h02, h03, h04⟩),
    SparseCore.bigSep_insert' (by simp only [Finset.mem_insert, Finset.mem_singleton, not_or]; exact ⟨h12, h13, h14⟩),
    SparseCore.bigSep_insert' (by simp only [Finset.mem_insert, Finset.mem_singleton, not_or]; exact ⟨h23, h24⟩),
    SparseCore.bigSep_insert' (by simp only [Finset.mem_singleton]; exact h34), bigSep_singleton]

/-- The tile's buffers are the two double buffers, at some contents, and the rest. -/
theorem ownBufs_V : (ownBufs (thr d i) : sProp 𝕄)
    = iprop((∃ f : IbBuf F, ibLoc d i ↦{fullShare} f) ∗ (∃ f : RbBuf F, rbLoc d i ↦{fullShare} f)
      ∗ bigSep (((ownRefs (τ := τ) (.scVector (cV i) (jV i))).erase ((Proc.scVector (cV i) (jV i)).devRef cc0_scoped0)).erase
          ((Proc.scVector (cV i) (jV i)).devRef cc0_scoped2)) fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV i) (jV i)) (b := (Proc.scVector (cV i) (jV i)).devRef cc0_scoped2) rfl⟩)]
  rfl

end Own

/-! ## A tile's obligation -/

variable [FloatOps F]

/-- The tile's program between what it is handed and what it hands back. -/
theorem tile_body (hx : ∀ d j, (xi d j).toNat < 2600000) (hF : (K (F := F)).Facts) (d : Dev nD) (c : Fin (grid0.bound 0)) (s : Fin (grid0.bound 1))
    (O : CellTallies nD τ sig (HIx 1)) (W : Waits sig (HIx 1)) (hO : ∀ g, O g none = 0) :
    iprop(levAts (K (F := F)).L (K (F := F)).lev ∗ emp ∗ tileRes xi xt d c s (fo d)
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_gather_kernel (F := F) (coordsV c s) tabM (Memref.isWhole_whole _) idxM (Memref.isWhole_whole _) outM (Memref.isWhole_whole _)
            ibM (Memref.isWhole_whole _) cc0_scoped1 rbM (Memref.isWhole_whole _) cc0_scoped3 cc0_scoped4)
          fun _ => iprop(tileRes xi xt d c s (gath (xi d) (xt d))
            ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  rw [(K (F := F)).scopedBufs_V hF d (cV (coordsV c s)) (jV (coordsV c s)),
    SparseCore.Cfg.scopedSems0_V (Val := Elt F) d (cV (coordsV c s)) (jV (coordsV c s)), ownSems0_V, ownBufs_V]
  iintro ⟨#Hlv, -, ⟨Hx, Ht, Ho⟩, ⟨Hib, Hrb, Hbufs⟩, ⟨⟨Hi0, Hi1, Ho0, Ho1, Hs4⟩, Hsems⟩, HO⟩
  ihave Hmw := (show levAts (K (F := F)).L (K (F := F)).lev ⊢ (Transfers.MayWaits (thr d (coordsV c s)) (none : HIx 1) O : sProp 𝕄) from
    (K (F := F)).mayWaits_none (thr := thr d (coordsV c s)) hO) $$ Hlv
  ihave Hwp := (tile countersEmb d (coordsV c s) (tileQ c s) (tileQ c s) (xi d) (xt d) (fo d) (hx d) O W) $$ [Hmw Hx Ht Ho Hib Hrb Hi0 Hi1 Ho0 Ho1 Hs4 HO]
  · isplitl [Hmw]; · iexact Hmw
    isplitl [Hib]; · iexact Hib
    isplitl [Hrb]; · iexact Hrb
    isplitl [Hi0]; · iexact Hi0
    isplitl [Hi1]; · iexact Hi1
    isplitl [Ho0]; · iexact Ho0
    isplitl [Ho1]; · iexact Ho1
    isplitl [Hs4]; · iexact Hs4
    isplitl [Hx]; · iexact Hx
    isplitl [Ht]; · iexact Ht
    isplitl [Ho]; · iexact Ho
    iexact HO
  iapply wp_wand $$ Hwp
  iintro %u ⟨Hib, Hrb, Hi0, Hi1, Ho0, Ho1, Hs4, Hx, Ht, Ho, HO⟩
  ihave HO := (Entails.of_eq (show (owing d (coordsV c s) O W : sProp 𝕄) = iprop(∃ W', ⌜∀ p ∈ W', p ∈ W ∨ p.2 = none⌝ ∗ owes (thr d (coordsV c s)) O W') from rfl)) $$ HO
  icases HO with ⟨%W', %hW', HO⟩
  isplitl [Hx Ht Ho]
  · isplitl [Hx]; · iexact Hx
    isplitl [Ht]; · iexact Ht
    iexact Ho
  isplitl [Hib Hrb Hbufs]
  · isplitl [Hib]; · iexact Hib
    isplitl [Hrb]; · iexact Hrb
    iexact Hbufs
  isplitl [Hi0 Hi1 Ho0 Ho1 Hs4 Hsems]
  · isplitl [Hi0 Hi1 Ho0 Ho1 Hs4]
    · isplitl [Hi0]; · iexact Hi0
      isplitl [Hi1]; · iexact Hi1
      isplitl [Ho0]; · iexact Ho0
      isplitl [Ho1]; · iexact Ho1
      iexact Hs4
    iexact Hsems
  iexists W'; isplitr
  · ipureintro; exact fun p hp => (hW' p hp).imp_right Or.inl
  iexact HO

/-- What a tile runs. -/
theorem defs₀_vector (c : Fin τ.nSC) (s : Fin τ.nSub) :
    defs₀ (F := F) (.scVector c s) 0 ()
      = SparseCore.onTile hcore0 hsub0 (fun c s => cc0_gather_kernel (F := F) (coordsV c s) tabM (Memref.isWhole_whole _) idxM (Memref.isWhole_whole _) outM (Memref.isWhole_whole _)
            ibM (Memref.isWhole_whole _) cc0_scoped1 rbM (Memref.isWhole_whole _) cc0_scoped3 cc0_scoped4) ⟨⟩ c s := rfl

/-- Every tile of the call does its part. -/
theorem tileObl (hx : ∀ d j, (xi d j).toNat < 2600000) : (K (F := F)).TileObl (D (F := F)) 𝒱 (P xi xt fo) v₀ 0 := by
  intro d c i O W hO _ _
  simp only [show (P xi xt fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body xi xt fo hx facts d ⟨_, hci.1⟩ ⟨_, hci.2⟩ O W hO

/-! ## Dealing the arrays -/

omit [FloatOps F] in
/-- A core's resources are its tiles' together. -/
theorem core_tiles (d : Dev nD) (c : Fin (grid0.bound 0)) (f : OBuf F) :
    (coreRes xi xt d c f : sProp 𝕄) = bigSep Finset.univ fun s : Fin (grid0.bound 1) => tileRes xi xt d c s f := by
  rw [bigSep_sep', bigSep_sep']
  have h1 : (xL d ↦[Finset.univ]{coreQ c} xi d : sProp 𝕄) = bigSep Finset.univ fun s : Fin (grid0.bound 1) => (xL d ↦[Finset.univ]{tileQ c s} xi d : sProp 𝕄) :=
    pointsTo_piecesOf _ _ _ _
  have h2 : (tL d ↦[Finset.univ]{coreQ c} xt d : sProp 𝕄) = bigSep Finset.univ fun s : Fin (grid0.bound 1) => (tL d ↦[Finset.univ]{tileQ c s} xt d : sProp 𝕄) :=
    pointsTo_piecesOf _ _ _ _
  have h3 : (oL d ↦[coreRows c]{fullShare} f : sProp 𝕄)
      = bigSep Finset.univ fun s : Fin (grid0.bound 1) => (oL d ↦[done (coordsV c s) 104]{fullShare} f : sProp 𝕄) :=
    pointsTo_biUnion Finset.univ (ℓ := oL d) (fun s => done (coordsV c s) 104) (tiles_disj c)
  unfold coreRes
  rw [h1, h2, h3]

omit [FloatOps F] in
/-- The arrays whole are the two cores' parts. -/
theorem whole_cores (d : Dev nD) (f : OBuf F) :
    (iprop((xL d ↦{fullShare} xi d) ∗ (tL d ↦{fullShare} xt d) ∗ oL d ↦{fullShare} f) : sProp 𝕄)
      = bigSep Finset.univ fun c : Fin (grid0.bound 0) => coreRes xi xt d c f := by
  rw [bigSep_sep', bigSep_sep']
  have h1 : (xL d ↦[Finset.univ]{fullShare} xi d : sProp 𝕄) = bigSep Finset.univ fun c : Fin (grid0.bound 0) => (xL d ↦[Finset.univ]{coreQ c} xi d : sProp 𝕄) :=
    pointsTo_piecesOf _ _ _ _
  have h2 : (tL d ↦[Finset.univ]{fullShare} xt d : sProp 𝕄) = bigSep Finset.univ fun c : Fin (grid0.bound 0) => (tL d ↦[Finset.univ]{coreQ c} xt d : sProp 𝕄) :=
    pointsTo_piecesOf _ _ _ _
  have h3 : (oL d ↦[Finset.univ]{fullShare} f : sProp 𝕄)
      = bigSep Finset.univ fun c : Fin (grid0.bound 0) => (oL d ↦[coreRows c]{fullShare} f : sProp 𝕄) := by
    rw [← pointsTo_biUnion Finset.univ (ℓ := oL d) coreRows cores_disj, cores_cover]; try rfl
  rw [h1, h2, h3]

omit [FloatOps F] in
/-- The tiles of the call are the grid's. -/
theorem bigSep_subs (Φ : Fin (grid0.bound 1) → sProp 𝕄) :
    (bigSep Finset.univ fun s : Fin ((K (F := F)).nSub 0) => Φ (cS s)) = bigSep Finset.univ Φ :=
  bigSep_congr fun _ _ => congrArg Φ (Fin.ext rfl)

omit [FloatOps F] in
/-- The cores of the call are the grid's. -/
theorem bigSep_cores (Φ : Fin (grid0.bound 0) → sProp 𝕄) :
    (bigSep Finset.univ fun c : Fin ((K (F := F)).nCore 0) => Φ (cC c)) = bigSep Finset.univ Φ :=
  bigSep_congr fun _ _ => congrArg Φ (Fin.ext rfl)

omit [FloatOps F] in
/-- A core deals its part to its tiles and joins what they bring back. -/
theorem vecSplit : (K (F := F)).VecSplit' (P xi xt fo) 0 := by
  intro d c
  show coreRes xi xt d (cC c) (fo d) ⊢ |={Set.univ}=> iprop(
      (bigSep Finset.univ fun i : Fin ((K (F := F)).nSub 0) => tileRes xi xt d (cC c) (cS i) (fo d))
      ∗ ((bigSep Finset.univ fun i : Fin ((K (F := F)).nSub 0) => tileRes xi xt d (cC c) (cS i) (gath (xi d) (xt d)))
          -∗ coreRes xi xt d (cC c) (gath (xi d) (xt d))))
  rw [bigSep_subs (F := F) (fun s => tileRes xi xt d (cC c) s (fo d)), bigSep_subs (F := F) (fun s => tileRes xi xt d (cC c) s (gath (xi d) (xt d))),
    ← core_tiles, ← core_tiles]
  iintro H; imodintro
  isplitl [H]; · iexact H
  iintro H; iexact H

omit [FloatOps F] in
/-- What the call takes, from the arrays whole. -/
theorem st0_eq (d : Dev nD) : (bigSep Finset.univ fun c : Fin ((K (F := F)).nCore 0) => (P xi xt fo).st 0 d c)
    = iprop((xL d ↦{fullShare} xi d) ∗ (tL d ↦{fullShare} xt d) ∗ oL d ↦{fullShare} fo d) :=
  (bigSep_cores fun c => coreRes xi xt d c (fo d)).trans (whole_cores xi xt d (fo d)).symm

omit [FloatOps F] in
/-- What the call brings back. -/
theorem dn0_eq (d : Dev nD) : (bigSep Finset.univ fun c : Fin ((K (F := F)).nCore 0) => (P xi xt fo).dn 0 d c)
    = iprop((xL d ↦{fullShare} xi d) ∗ (tL d ↦{fullShare} xt d) ∗ oL d ↦{fullShare} gath (xi d) (xt d)) :=
  (bigSep_cores fun c => coreRes xi xt d c (gath (xi d) (xt d))).trans (whole_cores xi xt d _).symm

end Cert.Proof.ScKI

end
-- ==== Proof.ScKI.Reg1.lean ====
/-
  The first layer's call: what one grid point's body leaves in the staging buffers, and the call's proof data from any
  contents of the program's buffers.
-/
module

public import proofs.«01_k».proof.Proof.ScKI.Res
public import Idealize.ShloMosaic.Lib.WordCmp

@[expose] public section

set_option maxRecDepth 16384

noncomputable section

namespace Cert.Proof.ScKI

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first point's condition. -/
theorem k1_first (t : Fin cfg1.N) : k1_cond1 (grid1.coords t) = 1#1 ↔ t.val = 0 := by
  have ht : t.val < 32 := Nat.lt_of_lt_of_eq t.isLt N_1
  have e0 : (grid1.coords t 0).val = t.val / 1 % 32 := Pipeline.Grid.coords_val t 0 (by decide) rfl
  simp only [k1_cond1, e0]
  word_cmp

/-- The later points' condition. -/
theorem k1_later (t : Fin cfg1.N) : k1_cond2 (grid1.coords t) = 1#1 ↔ t.val ≠ 0 := by
  have ht : t.val < 32 := Nat.lt_of_lt_of_eq t.isLt N_1
  have e0 : (grid1.coords t 0).val = t.val / 1 % 32 := Pipeline.Grid.coords_val t 0 (by decide) rfl
  simp only [k1_cond2, e0]
  word_cmp

/-- The sums after a point: its own at the first, added to those before at the others. -/
def sum1 (i : grid1.Coords) (x0 : Vec F S512x13 .f32) (x1 : Vec F S512x416 .f32) (x2 : Vec F S13x512 .f32) (x3 : Vec F S416x512 .f32) (x4 : Vec F S1x512 .f32)
    (p : Vec F S2x512 .f32) : Vec F S2x512 .f32 :=
  if k1_cond1 i = 1#1 then k1_pay2 x0 x2 x1 x3 x4 else k1_pay3 x0 x2 x1 x3 x4 p

set_option maxHeartbeats 1600000 in
/-- The body at a point. -/
theorem body1 (c : Dev nD) (i : grid1.Coords) (hi : k1_cond2 i = 1#1 ↔ ¬ k1_cond1 i = 1#1)
    (arg1 : Memref sig .tc .vmem S512x13 .f32) (harg1 : arg1.IsWhole) (arg2 : Memref sig .tc .vmem S512x416 .f32) (harg2 : arg2.IsWhole)
    (arg3 : Memref sig .tc .vmem S13x512 .f32) (harg3 : arg3.IsWhole) (arg4 : Memref sig .tc .vmem S416x512 .f32) (harg4 : arg4.IsWhole)
    (arg5 : Memref sig .tc .vmem S1x512 .f32) (harg5 : arg5.IsWhole) (arg6 : Memref sig .tc .vmem S512x512 .f32) (harg6 : arg6.IsWhole)
    (arg7 : Memref sig .tc .vmem S2x512 .f32) (harg7 : arg7.IsWhole)
    (x0 : Vec F S512x13 .f32) (x1 : Vec F S512x416 .f32) (x2 : Vec F S13x512 .f32) (x3 : Vec F S416x512 .f32) (x4 : Vec F S1x512 .f32) (p : Vec F S2x512 .f32)
    (E : Set ℕ) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare p
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k1_pay1 x0 x2 x1 x3 x4) ∗ owns (c : Thread nD τ) arg7 fullShare (sum1 i x0 x1 x2 x3 x4 p)) -∗ Q ⟨⟩))
      ⊢ wp frame (wpE (defs₀ (F := F)) Variants.none c none) E (cc1__layer1_body i arg1 harg1 arg2 harg2 arg3 harg3 arg4 harg4 arg5 harg5 arg6 harg6 arg7 harg7) Q := by
  simp only [cc1__layer1_body_eq_skeleton]; unfold cc1__layer1_body_skel owns sum1
  have z : ∀ a, (![0, 0] : Fin 2 → ℕ) a = 0 := by decide
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  have r0 := (View.readAt_full arg1.view f0 inb_S512x13_S512x13_0_0).trans hf0
  have r1 := (View.readAt_full arg2.view f1 inb_S512x416_S512x416_0_0).trans hf1
  have r2 := (View.readAt_full arg3.view f2 inb_S13x512_S13x512_0_0).trans hf2
  have r3 := (View.readAt_full arg4.view f3 inb_S416x512_S416x512_0_0).trans hf3
  have r4 := (View.readAt_full arg5.view f4 inb_S1x512_S1x512_0_0).trans hf4
  have r6 := (View.readAt_full arg7.view f6 inb_S2x512_S2x512_0_0).trans hf6
  by_cases h : k1_cond1 i = 1#1
  · have h2 : ¬ k1_cond2 i = 1#1 := fun e => hi.mp e h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]
    · iexists _; isplitr; swap; (· iexact H5); ipureintro
      exact LaneScatter.read_whole_store _ _ z _ _
    iexists _; isplitr; swap; (· iexact H6); ipureintro
    refine (LaneScatter.read_whole_store _ _ z _ _).trans ?_
    rw [if_pos h]
  · have h2 : k1_cond2 i = 1#1 := hi.mpr h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]
    · iexists _; isplitr; swap; (· iexact H5); ipureintro
      exact LaneScatter.read_whole_store _ _ z _ _
    iexists _; isplitr; swap; (· iexact H6); ipureintro
    refine (LaneScatter.read_whole_store _ _ z _ _).trans ?_
    rw [if_neg h]

/-! ## The call from any contents -/

variable (V : Valuation τ sig (Elt F))

/-- A window's block at a point. -/
def blk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The first point. -/
abbrev first1 : Fin cfg1.N := ⟨0, Nat.lt_of_lt_of_eq (by decide) N_1.symm⟩

/-- The layer's rows at a point. -/
def rows1 (t : Fin cfg1.N) : Vec F S512x512 .f32 := k1_pay1 (blk1 V 0 t) (blk1 V 2 t) (blk1 V 1 t) (blk1 V 3 t) (blk1 V 4 t)

/-- The sums after point `n`. -/
def acc1 : ℕ → Vec F S2x512 .f32
  | 0 => k1_pay2 (blk1 V 0 first1) (blk1 V 2 first1) (blk1 V 1 first1) (blk1 V 3 first1) (blk1 V 4 first1)
  | n + 1 => if h : n + 1 < cfg1.N then k1_pay3 (blk1 V 0 ⟨n + 1, h⟩) (blk1 V 2 ⟨n + 1, h⟩) (blk1 V 1 ⟨n + 1, h⟩) (blk1 V 3 ⟨n + 1, h⟩) (blk1 V 4 ⟨n + 1, h⟩) (acc1 n)
      else acc1 n

/-- The call's proof data. -/
def dat1 (c : Dev nD) : Dat τ (Elt F) (HIx 1) ℕ UU ℕ cfg1 c where
  A w := V (Proc.devRef .tc (Pipeline.arrRef spec1 w))
  after w t := match w with
    | ⟨0, _⟩ => blk1 V 0 t
    | ⟨1, _⟩ => blk1 V 1 t
    | ⟨2, _⟩ => blk1 V 2 t
    | ⟨3, _⟩ => blk1 V 3 t
    | ⟨4, _⟩ => blk1 V 4 t
    | ⟨5, _⟩ => rows1 V t
    | ⟨6, _⟩ => acc1 V t.val
  Φ _ := Pipeline.scopedRest spec1 c
  q _ := fullShare
  owed _ := 0

/-- The sums' window is idle at no step. -/
theorem idle1_6 (t : Fin cfg1.N) : cfg1.idle 6 (cfg1.grid.coords t) = false := by
  show (!(k1_cond1 (grid1.coords t) == 1#1) && !(k1_cond2 (grid1.coords t) == 1#1)) = false
  by_cases h : t.val = 0
  · rw [(k1_first t).mpr h]; rfl
  · rw [(k1_later t).mpr h]; exact Bool.and_false _

/-- At every step but the first the sums' block holds what the step before left. -/
theorem before1_6 (c : Dev nD) (t : Fin cfg1.N) (h : t.val ≠ 0) (d) : (dat1 V c).before 6 t d = acc1 V (t.val - 1) := by
  have ht : t.val < 32 := Nat.lt_of_lt_of_eq t.isLt N_1
  rw [(dat1 V c).before_of_pos 6 t h ((cfg1.win 6).fetch_out rfl t) d, if_neg (by rw [flush1_6]; show ¬ (t.val - 1) % 32 = 31; omega)]
  unfold Dat.left
  rw [idle1_6]
  rfl

/-- A step leaves the sums so far. -/
theorem acc1_step (c : Dev nD) (t : Fin cfg1.N) (d) :
    acc1 V t.val = sum1 (grid1.coords t) (blk1 V 0 t) (blk1 V 1 t) (blk1 V 2 t) (blk1 V 3 t) (blk1 V 4 t) ((dat1 V c).before 6 t d) := by
  unfold sum1
  by_cases h : t.val = 0
  · rw [if_pos ((k1_first t).mpr h)]
    obtain rfl : t = first1 := Fin.ext h
    rfl
  · rw [if_neg (fun e => h ((k1_first t).mp e)), before1_6 V c t h d]
    obtain ⟨n, hn⟩ := t
    cases n with
    | zero => exact absurd rfl h
    | succ n => exact (dif_pos hn : acc1 V (n + 1) = _)

set_option maxHeartbeats 800000 in
/-- The body's obligation at every point. -/
theorem oblig1 (c : Dev nD) : BodyObligation (dat1 V c) (defs₀ (F := F)) Variants.none (none : HIx 1) Set.univ := fun t => by
  have b0 : ∀ d, (dat1 V c).before 0 t d = blk1 V 0 t := fun d => (dat1 V c).before_in_eq_fetched 0 rfl (fun _ => rfl) (fun _ _ _ => rfl) (fun _ => rfl) t d
  have b1 : ∀ d, (dat1 V c).before 1 t d = blk1 V 1 t := fun d => (dat1 V c).before_in_eq_fetched 1 rfl (fun _ => rfl) (fun _ _ _ => rfl) (fun _ => rfl) t d
  have b2 : ∀ d, (dat1 V c).before 2 t d = blk1 V 2 t := fun d => (dat1 V c).before_in_eq_fetched 2 rfl (fun _ => rfl) (fun _ _ _ => rfl) (fun _ => rfl) t d
  have b3 : ∀ d, (dat1 V c).before 3 t d = blk1 V 3 t := fun d => (dat1 V c).before_in_eq_fetched 3 rfl (fun _ => rfl) (fun _ _ _ => rfl) (fun _ => rfl) t d
  have b4 : ∀ d, (dat1 V c).before 4 t d = blk1 V 4 t := fun d => (dat1 V c).before_in_eq_fetched 4 rfl (fun _ => rfl) (fun _ _ _ => rfl) (fun _ => rfl) t d
  have l6 : (dat1 V c).leavesExact 6 t = owns (c : Thread nD τ) (win1_6.stage (cfg1.slots t 6)) fullShare (acc1 V t.val) := by
    unfold Dat.leavesExact; rw [idle1_6]; dsimp only [dat1]
  have row : defs₀ (F := F) .tc cfg1.body (cfg1.bodyArgs t (cfg1.slots t)) = bodyAt1 t := rfl
  rw [bigSep_W1, bigSep_W1, row]
  refine triple_restated (P := iprop((dat1 V c).Φ t.castSucc ∗ (dat1 V c).owesAt (none : HIx 1) t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))))
    (Q := fun _ => iprop((dat1 V c).Φ t.castSucc ∗ (dat1 V c).owesAt (none : HIx 1) t.castSucc
    ∗ owns (c : Thread nD τ) (win1_0.stage (cfg1.slots t 0)) fullShare (blk1 V 0 t)
    ∗ owns (c : Thread nD τ) (win1_1.stage (cfg1.slots t 1)) fullShare (blk1 V 1 t)
    ∗ owns (c : Thread nD τ) (win1_2.stage (cfg1.slots t 2)) fullShare (blk1 V 2 t)
    ∗ owns (c : Thread nD τ) (win1_3.stage (cfg1.slots t 3)) fullShare (blk1 V 3 t)
    ∗ owns (c : Thread nD τ) (win1_4.stage (cfg1.slots t 4)) fullShare (blk1 V 4 t)
    ∗ owns (c : Thread nD τ) (win1_5.stage (cfg1.slots t 5)) fullShare (rows1 V t)
    ∗ (dat1 V c).leavesExact 6 t)) (W := wp frame (wpE (defs₀ (F := F)) Variants.none c none) Set.univ (bodyAt1 t)) ?_ rfl .rfl fun _ => .rfl
  rw [l6]
  simp only [b0, b1, b2, b3, b4]
  unfold bodyAt1
  iintro ⟨HΦ, Ho, ⟨%d0, H0⟩, ⟨%d1, H1⟩, ⟨%d2, H2⟩, ⟨%d3, H3⟩, ⟨%d4, H4⟩, ⟨%d5, H5⟩, ⟨%d6, H6⟩⟩
  rw [acc1_step V c t d6]
  iapply (body1 c (grid1.coords t) ((k1_later t).trans (not_congr (k1_first t)).symm) _ _ _ _ _ _ _ _ _ _ _ _ _ _ (blk1 V 0 t) (blk1 V 1 t) (blk1 V 2 t) (blk1 V 3 t) (blk1 V 4 t)
    ((dat1 V c).before 6 t d6) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.Proof.ScKI

end
-- ==== Proof.ScKI.Reg2.lean ====
/-
  The second layer's call: what one grid point's body leaves in the staging buffers, and the call's proof data from any
  contents of the program's buffers.
-/
module

public import proofs.«01_k».proof.Proof.ScKI.Res
public import Idealize.ShloMosaic.Lib.WordCmp

@[expose] public section

set_option maxRecDepth 16384

noncomputable section

namespace Cert.Proof.ScKI

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first point's condition. -/
theorem k2_first (t : Fin cfg2.N) : k2_cond1 (grid2.coords t) = 1#1 ↔ t.val = 0 := by
  have ht : t.val < 32 := Nat.lt_of_lt_of_eq t.isLt N_2
  have e0 : (grid2.coords t 0).val = t.val / 1 % 32 := Pipeline.Grid.coords_val t 0 (by decide) rfl
  simp only [k2_cond1, e0]
  word_cmp

/-- The later points' condition. -/
theorem k2_later (t : Fin cfg2.N) : k2_cond2 (grid2.coords t) = 1#1 ↔ t.val ≠ 0 := by
  have ht : t.val < 32 := Nat.lt_of_lt_of_eq t.isLt N_2
  have e0 : (grid2.coords t 0).val = t.val / 1 % 32 := Pipeline.Grid.coords_val t 0 (by decide) rfl
  simp only [k2_cond2, e0]
  word_cmp

/-- A point's own sums: of the layer's rows, and of their squares. -/
def own2 (x0 : Vec F S512x512 .f32) (x1 : Vec F S2x512 .f32) (x2 : Vec F S1x512 .f32) (x3 : Vec F S1x512 .f32) (x4 : Vec F S512x256 .f32) (x5 : Vec F S1x256 .f32) : Vec F S2x256 .f32 :=
  k2_pay1 (k2_pay4 x0 x1 x2 x3 x4 x5) (k2_pay5 x0 x1 x2 x3 x4 x5)

/-- The sums after a point: its own at the first, added to those before at the others. -/
def sum2 (i : grid2.Coords) (x0 : Vec F S512x512 .f32) (x1 : Vec F S2x512 .f32) (x2 : Vec F S1x512 .f32) (x3 : Vec F S1x512 .f32) (x4 : Vec F S512x256 .f32) (x5 : Vec F S1x256 .f32) (p : Vec F S2x256 .f32) : Vec F S2x256 .f32 :=
  if k2_cond1 i = 1#1 then own2 x0 x1 x2 x3 x4 x5 else k2_pay2 (k2_pay4 x0 x1 x2 x3 x4 x5) (k2_pay5 x0 x1 x2 x3 x4 x5) p

set_option maxHeartbeats 1600000 in
/-- The body at a point. -/
theorem body2 (c : Dev nD) (i : grid2.Coords) (hi : k2_cond2 i = 1#1 ↔ ¬ k2_cond1 i = 1#1)
    (arg1 : Memref sig .tc .vmem S512x512 .f32) (harg1 : arg1.IsWhole) (arg2 : Memref sig .tc .vmem S2x512 .f32) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S512x256 .f32) (harg5 : arg5.IsWhole) (arg6 : Memref sig .tc .vmem S1x256 .f32) (harg6 : arg6.IsWhole)
    (arg7 : Memref sig .tc .vmem S512x256 .f32) (harg7 : arg7.IsWhole) (arg8 : Memref sig .tc .vmem S2x256 .f32) (harg8 : arg8.IsWhole)
    (x0 : Vec F S512x512 .f32) (x1 : Vec F S2x512 .f32) (x2 : Vec F S1x512 .f32) (x3 : Vec F S1x512 .f32) (x4 : Vec F S512x256 .f32) (x5 : Vec F S1x256 .f32) (p : Vec F S2x256 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare p
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k2_pay3 x0 x1 x2 x3 x4 x5) ∗ owns (c : Thread nD τ) arg8 fullShare (sum2 i x0 x1 x2 x3 x4 x5 p)) -∗ Q ⟨⟩))
      ⊢ wp frame (wpE (defs₀ (F := F)) Variants.none c none) E (cc2__mid_body i arg1 harg1 arg2 harg2 arg3 harg3 arg4 harg4 arg5 harg5 arg6 harg6 arg7 harg7 arg8 harg8) Q := by
  simp only [cc2__mid_body_eq_skeleton, k2_part1_eq_skeleton]; unfold cc2__mid_body_skel owns sum2 own2
  simp only [k2_part1_eq_skeleton]; unfold k2_part1_skel
  have z : ∀ a, (![0, 0] : Fin 2 → ℕ) a = 0 := by decide
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  have r0 := (View.readAt_full arg1.view f0 inb_S512x512_S512x512_0_0).trans hf0
  have r1 := (View.readAt_full arg2.view f1 inb_S2x512_S2x512_0_0).trans hf1
  have r2 := (View.readAt_full arg3.view f2 inb_S1x512_S1x512_0_0).trans hf2
  have r3 := (View.readAt_full arg4.view f3 inb_S1x512_S1x512_0_0).trans hf3
  have r4 := (View.readAt_full arg5.view f4 inb_S512x256_S512x256_0_0).trans hf4
  have r5 := (View.readAt_full arg6.view f5 inb_S1x256_S1x256_0_0).trans hf5
  have r7 := (View.readAt_full arg8.view f7 inb_S2x256_S2x256_0_0).trans hf7
  by_cases h : k2_cond1 i = 1#1
  · have h2 : ¬ k2_cond2 i = 1#1 := fun e => hi.mp e h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]
    · iexists _; isplitr; swap; (· iexact H6); ipureintro
      exact LaneScatter.read_whole_store _ _ z _ _
    iexists _; isplitr; swap; (· iexact H7); ipureintro
    refine (LaneScatter.read_whole_store _ _ z _ _).trans ?_
    rw [if_pos h]
  · have h2 : k2_cond2 i = 1#1 := hi.mpr h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]
    · iexists _; isplitr; swap; (· iexact H6); ipureintro
      exact LaneScatter.read_whole_store _ _ z _ _
    iexists _; isplitr; swap; (· iexact H7); ipureintro
    refine (LaneScatter.read_whole_store _ _ z _ _).trans ?_
    rw [if_neg h]

/-! ## The call from any contents -/

variable (V : Valuation τ sig (Elt F))

/-- A window's block at a point. -/
def blk2 (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

/-- The first point. -/
abbrev first2 : Fin cfg2.N := ⟨0, Nat.lt_of_lt_of_eq (by decide) N_2.symm⟩

/-- The layer's rows at a point. -/
def rows2 (t : Fin cfg2.N) : Vec F S512x256 .f32 := k2_pay3 (blk2 V 0 t) (blk2 V 1 t) (blk2 V 2 t) (blk2 V 3 t) (blk2 V 4 t) (blk2 V 5 t)

/-- The sums after point `n`. -/
def acc2 : ℕ → Vec F S2x256 .f32
  | 0 => own2 (blk2 V 0 first2) (blk2 V 1 first2) (blk2 V 2 first2) (blk2 V 3 first2) (blk2 V 4 first2) (blk2 V 5 first2)
  | n + 1 => if h : n + 1 < cfg2.N then
        k2_pay2 (k2_pay4 (blk2 V 0 ⟨n + 1, h⟩) (blk2 V 1 ⟨n + 1, h⟩) (blk2 V 2 ⟨n + 1, h⟩) (blk2 V 3 ⟨n + 1, h⟩) (blk2 V 4 ⟨n + 1, h⟩) (blk2 V 5 ⟨n + 1, h⟩)) (k2_pay5 (blk2 V 0 ⟨n + 1, h⟩) (blk2 V 1 ⟨n + 1, h⟩) (blk2 V 2 ⟨n + 1, h⟩) (blk2 V 3 ⟨n + 1, h⟩) (blk2 V 4 ⟨n + 1, h⟩) (blk2 V 5 ⟨n + 1, h⟩)) (acc2 n)
      else acc2 n

/-- The call's proof data. -/
def dat2 (c : Dev nD) : Dat τ (Elt F) (HIx 1) ℕ UU ℕ cfg2 c where
  A w := V (Proc.devRef .tc (Pipeline.arrRef spec2 w))
  after w t := match w with
    | ⟨0, _⟩ => blk2 V 0 t
    | ⟨1, _⟩ => blk2 V 1 t
    | ⟨2, _⟩ => blk2 V 2 t
    | ⟨3, _⟩ => blk2 V 3 t
    | ⟨4, _⟩ => blk2 V 4 t
    | ⟨5, _⟩ => blk2 V 5 t
    | ⟨6, _⟩ => rows2 V t
    | ⟨7, _⟩ => acc2 V t.val
  Φ _ := Pipeline.scopedRest spec2 c
  q _ := fullShare
  owed _ := 0

/-- The sums' window is idle at no step. -/
theorem idle2_7 (t : Fin cfg2.N) : cfg2.idle 7 (cfg2.grid.coords t) = false := by
  show (!(k2_cond1 (grid2.coords t) == 1#1) && !(k2_cond2 (grid2.coords t) == 1#1)) = false
  by_cases h : t.val = 0
  · rw [(k2_first t).mpr h]; rfl
  · rw [(k2_later t).mpr h]; exact Bool.and_false _

/-- At every step but the first the sums' block holds what the step before left. -/
theorem before2_7 (c : Dev nD) (t : Fin cfg2.N) (h : t.val ≠ 0) (d) : (dat2 V c).before 7 t d = acc2 V (t.val - 1) := by
  have ht : t.val < 32 := Nat.lt_of_lt_of_eq t.isLt N_2
  rw [(dat2 V c).before_of_pos 7 t h ((cfg2.win 7).fetch_out rfl t) d, if_neg (by rw [flush2_7]; show ¬ (t.val - 1) % 32 = 31; omega)]
  unfold Dat.left
  rw [idle2_7]
  rfl

/-- A step leaves the sums so far. -/
theorem acc2_step (c : Dev nD) (t : Fin cfg2.N) (d) :
    acc2 V t.val = sum2 (grid2.coords t) (blk2 V 0 t) (blk2 V 1 t) (blk2 V 2 t) (blk2 V 3 t) (blk2 V 4 t) (blk2 V 5 t) ((dat2 V c).before 7 t d) := by
  unfold sum2
  by_cases h : t.val = 0
  · rw [if_pos ((k2_first t).mpr h)]
    obtain rfl : t = first2 := Fin.ext h
    rfl
  · rw [if_neg (fun e => h ((k2_first t).mp e)), before2_7 V c t h d]
    obtain ⟨n, hn⟩ := t
    cases n with
    | zero => exact absurd rfl h
    | succ n => exact (dif_pos hn : acc2 V (n + 1) = _)

set_option maxHeartbeats 800000 in
/-- The body's obligation at every point. -/
theorem oblig2 (c : Dev nD) : BodyObligation (dat2 V c) (defs₀ (F := F)) Variants.none (none : HIx 1) Set.univ := fun t => by
  have b0 : ∀ d, (dat2 V c).before 0 t d = blk2 V 0 t := fun d => (dat2 V c).before_in_eq_fetched 0 rfl (fun _ => rfl) (fun _ _ _ => rfl) (fun _ => rfl) t d
  have b1 : ∀ d, (dat2 V c).before 1 t d = blk2 V 1 t := fun d => (dat2 V c).before_in_eq_fetched 1 rfl (fun _ => rfl) (fun _ _ _ => rfl) (fun _ => rfl) t d
  have b2 : ∀ d, (dat2 V c).before 2 t d = blk2 V 2 t := fun d => (dat2 V c).before_in_eq_fetched 2 rfl (fun _ => rfl) (fun _ _ _ => rfl) (fun _ => rfl) t d
  have b3 : ∀ d, (dat2 V c).before 3 t d = blk2 V 3 t := fun d => (dat2 V c).before_in_eq_fetched 3 rfl (fun _ => rfl) (fun _ _ _ => rfl) (fun _ => rfl) t d
  have b4 : ∀ d, (dat2 V c).before 4 t d = blk2 V 4 t := fun d => (dat2 V c).before_in_eq_fetched 4 rfl (fun _ => rfl) (fun _ _ _ => rfl) (fun _ => rfl) t d
  have b5 : ∀ d, (dat2 V c).before 5 t d = blk2 V 5 t := fun d => (dat2 V c).before_in_eq_fetched 5 rfl (fun _ => rfl) (fun _ _ _ => rfl) (fun _ => rfl) t d
  have l7 : (dat2 V c).leavesExact 7 t = owns (c : Thread nD τ) (win2_7.stage (cfg2.slots t 7)) fullShare (acc2 V t.val) := by
    unfold Dat.leavesExact; rw [idle2_7]; dsimp only [dat2]
  have row : defs₀ (F := F) .tc cfg2.body (cfg2.bodyArgs t (cfg2.slots t)) = bodyAt2 t := rfl
  rw [bigSep_W2, bigSep_W2, row]
  refine triple_restated (P := iprop((dat2 V c).Φ t.castSucc ∗ (dat2 V c).owesAt (none : HIx 1) t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d))
    ∗ (∃ d, owns (c : Thread nD τ) (win2_6.stage (cfg2.slots t 6)) fullShare ((dat2 V c).before 6 t d))
    ∗ (∃ d, owns (c : Thread nD τ) (win2_7.stage (cfg2.slots t 7)) fullShare ((dat2 V c).before 7 t d))))
    (Q := fun _ => iprop((dat2 V c).Φ t.castSucc ∗ (dat2 V c).owesAt (none : HIx 1) t.castSucc
    ∗ owns (c : Thread nD τ) (win2_0.stage (cfg2.slots t 0)) fullShare (blk2 V 0 t)
    ∗ owns (c : Thread nD τ) (win2_1.stage (cfg2.slots t 1)) fullShare (blk2 V 1 t)
    ∗ owns (c : Thread nD τ) (win2_2.stage (cfg2.slots t 2)) fullShare (blk2 V 2 t)
    ∗ owns (c : Thread nD τ) (win2_3.stage (cfg2.slots t 3)) fullShare (blk2 V 3 t)
    ∗ owns (c : Thread nD τ) (win2_4.stage (cfg2.slots t 4)) fullShare (blk2 V 4 t)
    ∗ owns (c : Thread nD τ) (win2_5.stage (cfg2.slots t 5)) fullShare (blk2 V 5 t)
    ∗ owns (c : Thread nD τ) (win2_6.stage (cfg2.slots t 6)) fullShare (rows2 V t)
    ∗ (dat2 V c).leavesExact 7 t)) (W := wp frame (wpE (defs₀ (F := F)) Variants.none c none) Set.univ (bodyAt2 t)) ?_ rfl .rfl fun _ => .rfl
  rw [l7]
  simp only [b0, b1, b2, b3, b4, b5]
  unfold bodyAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [acc2_step V c t d7]
  iapply (body2 c (grid2.coords t) ((k2_later t).trans (not_congr (k2_first t)).symm) _ _ _ _ _ _ _ _ _ _ _ _ _ _ _ _ (blk2 V 0 t) (blk2 V 1 t) (blk2 V 2 t) (blk2 V 3 t) (blk2 V 4 t) (blk2 V 5 t)
    ((dat2 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.ScKI

end
-- ==== Proof.ScKI.Reg3.lean ====
/-
  The third layer's call: what one grid point's body leaves in the staging buffers, and the call's proof data from any
  contents of the program's buffers.
-/
module

public import proofs.«01_k».proof.Proof.ScKI.Res
public import Idealize.ShloMosaic.Lib.WordCmp

@[expose] public section

set_option maxRecDepth 16384

noncomputable section

namespace Cert.Proof.ScKI

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first point's condition. -/
theorem k3_first (t : Fin cfg3.N) : k3_cond1 (grid3.coords t) = 1#1 ↔ t.val = 0 := by
  have ht : t.val < 32 := Nat.lt_of_lt_of_eq t.isLt N_3
  have e0 : (grid3.coords t 0).val = t.val / 1 % 32 := Pipeline.Grid.coords_val t 0 (by decide) rfl
  simp only [k3_cond1, e0]
  word_cmp

/-- The later points' condition. -/
theorem k3_later (t : Fin cfg3.N) : k3_cond2 (grid3.coords t) = 1#1 ↔ t.val ≠ 0 := by
  have ht : t.val < 32 := Nat.lt_of_lt_of_eq t.isLt N_3
  have e0 : (grid3.coords t 0).val = t.val / 1 % 32 := Pipeline.Grid.coords_val t 0 (by decide) rfl
  simp only [k3_cond2, e0]
  word_cmp

/-- A point's own sums: of the layer's rows, and of their squares. -/
def own3 (x0 : Vec F S512x256 .f32) (x1 : Vec F S2x256 .f32) (x2 : Vec F S1x256 .f32) (x3 : Vec F S1x256 .f32) (x4 : Vec F S256x128 .f32) (x5 : Vec F S1x128 .f32) : Vec F S2x128 .f32 :=
  k3_pay1 (k3_pay4 x0 x1 x2 x3 x4 x5) (k3_pay5 x0 x1 x2 x3 x4 x5)

/-- The sums after a point: its own at the first, added to those before at the others. -/
def sum3 (i : grid3.Coords) (x0 : Vec F S512x256 .f32) (x1 : Vec F S2x256 .f32) (x2 : Vec F S1x256 .f32) (x3 : Vec F S1x256 .f32) (x4 : Vec F S256x128 .f32) (x5 : Vec F S1x128 .f32) (p : Vec F S2x128 .f32) : Vec F S2x128 .f32 :=
  if k3_cond1 i = 1#1 then own3 x0 x1 x2 x3 x4 x5 else k3_pay2 (k3_pay4 x0 x1 x2 x3 x4 x5) (k3_pay5 x0 x1 x2 x3 x4 x5) p

set_option maxHeartbeats 1600000 in
/-- The body at a point. -/
theorem body3 (c : Dev nD) (i : grid3.Coords) (hi : k3_cond2 i = 1#1 ↔ ¬ k3_cond1 i = 1#1)
    (arg1 : Memref sig .tc .vmem S512x256 .f32) (harg1 : arg1.IsWhole) (arg2 : Memref sig .tc .vmem S2x256 .f32) (harg2 : arg2.IsWhole)
    (arg3 : Memref sig .tc .vmem S1x256 .f32) (harg3 : arg3.IsWhole) (arg4 : Memref sig .tc .vmem S1x256 .f32) (harg4 : arg4.IsWhole)
    (arg5 : Memref sig .tc .vmem S256x128 .f32) (harg5 : arg5.IsWhole) (arg6 : Memref sig .tc .vmem S1x128 .f32) (harg6 : arg6.IsWhole)
    (arg7 : Memref sig .tc .vmem S512x128 .f32) (harg7 : arg7.IsWhole) (arg8 : Memref sig .tc .vmem S2x128 .f32) (harg8 : arg8.IsWhole)
    (x0 : Vec F S512x256 .f32) (x1 : Vec F S2x256 .f32) (x2 : Vec F S1x256 .f32) (x3 : Vec F S1x256 .f32) (x4 : Vec F S256x128 .f32) (x5 : Vec F S1x128 .f32) (p : Vec F S2x128 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare p
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k3_pay3 x0 x1 x2 x3 x4 x5) ∗ owns (c : Thread nD τ) arg8 fullShare (sum3 i x0 x1 x2 x3 x4 x5 p)) -∗ Q ⟨⟩))
      ⊢ wp frame (wpE (defs₀ (F := F)) Variants.none c none) E (cc3__mid_body i arg1 harg1 arg2 harg2 arg3 harg3 arg4 harg4 arg5 harg5 arg6 harg6 arg7 harg7 arg8 harg8) Q := by
  simp only [cc3__mid_body_eq_skeleton, k3_part1_eq_skeleton]; unfold cc3__mid_body_skel owns sum3 own3
  simp only [k3_part1_eq_skeleton]; unfold k3_part1_skel
  have z : ∀ a, (![0, 0] : Fin 2 → ℕ) a = 0 := by decide
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  have r0 := (View.readAt_full arg1.view f0 inb_S512x256_S512x256_0_0).trans hf0
  have r1 := (View.readAt_full arg2.view f1 inb_S2x256_S2x256_0_0).trans hf1
  have r2 := (View.readAt_full arg3.view f2 inb_S1x256_S1x256_0_0).trans hf2
  have r3 := (View.readAt_full arg4.view f3 inb_S1x256_S1x256_0_0).trans hf3
  have r4 := (View.readAt_full arg5.view f4 inb_S256x128_S256x128_0_0).trans hf4
  have r5 := (View.readAt_full arg6.view f5 inb_S1x128_S1x128_0_0).trans hf5
  have r7 := (View.readAt_full arg8.view f7 inb_S2x128_S2x128_0_0).trans hf7
  by_cases h : k3_cond1 i = 1#1
  · have h2 : ¬ k3_cond2 i = 1#1 := fun e => hi.mp e h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]
    · iexists _; isplitr; swap; (· iexact H6); ipureintro
      exact LaneScatter.read_whole_store _ _ z _ _
    iexists _; isplitr; swap; (· iexact H7); ipureintro
    refine (LaneScatter.read_whole_store _ _ z _ _).trans ?_
    rw [if_pos h]
  · have h2 : k3_cond2 i = 1#1 := hi.mpr h
    sl_exec (disch := first | sl_exact h | sl_exact h2)
    sl_step
    iapply Hk
    isplitl [H0]; · iexists _; isplitr; swap; (· iexact H0); ipureintro; exact hf0
    isplitl [H1]; · iexists _; isplitr; swap; (· iexact H1); ipureintro; exact hf1
    isplitl [H2]; · iexists _; isplitr; swap; (· iexact H2); ipureintro; exact hf2
    isplitl [H3]; · iexists _; isplitr; swap; (· iexact H3); ipureintro; exact hf3
    isplitl [H4]; · iexists _; isplitr; swap; (· iexact H4); ipureintro; exact hf4
    isplitl [H5]; · iexists _; isplitr; swap; (· iexact H5); ipureintro; exact hf5
    isplitl [H6]
    · iexists _; isplitr; swap; (· iexact H6); ipureintro
      exact LaneScatter.read_whole_store _ _ z _ _
    iexists _; isplitr; swap; (· iexact H7); ipureintro
    refine (LaneScatter.read_whole_store _ _ z _ _).trans ?_
    rw [if_neg h]

/-! ## The call from any contents -/

variable (V : Valuation τ sig (Elt F))

/-- A window's block at a point. -/
def blk3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- The first point. -/
abbrev first3 : Fin cfg3.N := ⟨0, Nat.lt_of_lt_of_eq (by decide) N_3.symm⟩

/-- The layer's rows at a point. -/
def rows3 (t : Fin cfg3.N) : Vec F S512x128 .f32 := k3_pay3 (blk3 V 0 t) (blk3 V 1 t) (blk3 V 2 t) (blk3 V 3 t) (blk3 V 4 t) (blk3 V 5 t)

/-- The sums after point `n`. -/
def acc3 : ℕ → Vec F S2x128 .f32
  | 0 => own3 (blk3 V 0 first3) (blk3 V 1 first3) (blk3 V 2 first3) (blk3 V 3 first3) (blk3 V 4 first3) (blk3 V 5 first3)
  | n + 1 => if h : n + 1 < cfg3.N then
        k3_pay2 (k3_pay4 (blk3 V 0 ⟨n + 1, h⟩) (blk3 V 1 ⟨n + 1, h⟩) (blk3 V 2 ⟨n + 1, h⟩) (blk3 V 3 ⟨n + 1, h⟩) (blk3 V 4 ⟨n + 1, h⟩) (blk3 V 5 ⟨n + 1, h⟩)) (k3_pay5 (blk3 V 0 ⟨n + 1, h⟩) (blk3 V 1 ⟨n + 1, h⟩) (blk3 V 2 ⟨n + 1, h⟩) (blk3 V 3 ⟨n + 1, h⟩) (blk3 V 4 ⟨n + 1, h⟩) (blk3 V 5 ⟨n + 1, h⟩)) (acc3 n)
      else acc3 n

/-- The call's proof data. -/
def dat3 (c : Dev nD) : Dat τ (Elt F) (HIx 1) ℕ UU ℕ cfg3 c where
  A w := V (Proc.devRef .tc (Pipeline.arrRef spec3 w))
  after w t := match w with
    | ⟨0, _⟩ => blk3 V 0 t
    | ⟨1, _⟩ => blk3 V 1 t
    | ⟨2, _⟩ => blk3 V 2 t
    | ⟨3, _⟩ => blk3 V 3 t
    | ⟨4, _⟩ => blk3 V 4 t
    | ⟨5, _⟩ => blk3 V 5 t
    | ⟨6, _⟩ => rows3 V t
    | ⟨7, _⟩ => acc3 V t.val
  Φ _ := Pipeline.scopedRest spec3 c
  q _ := fullShare
  owed _ := 0

/-- The sums' window is idle at no step. -/
theorem idle3_7 (t : Fin cfg3.N) : cfg3.idle 7 (cfg3.grid.coords t) = false := by
  show (!(k3_cond1 (grid3.coords t) == 1#1) && !(k3_cond2 (grid3.coords t) == 1#1)) = false
  by_cases h : t.val = 0
  · rw [(k3_first t).mpr h]; rfl
  · rw [(k3_later t).mpr h]; exact Bool.and_false _

/-- At every step but the first the sums' block holds what the step before left. -/
theorem before3_7 (c : Dev nD) (t : Fin cfg3.N) (h : t.val ≠ 0) (d) : (dat3 V c).before 7 t d = acc3 V (t.val - 1) := by
  have ht : t.val < 32 := Nat.lt_of_lt_of_eq t.isLt N_3
  rw [(dat3 V c).before_of_pos 7 t h ((cfg3.win 7).fetch_out rfl t) d, if_neg (by rw [flush3_7]; show ¬ (t.val - 1) % 32 = 31; omega)]
  unfold Dat.left
  rw [idle3_7]
  rfl

/-- A step leaves the sums so far. -/
theorem acc3_step (c : Dev nD) (t : Fin cfg3.N) (d) :
    acc3 V t.val = sum3 (grid3.coords t) (blk3 V 0 t) (blk3 V 1 t) (blk3 V 2 t) (blk3 V 3 t) (blk3 V 4 t) (blk3 V 5 t) ((dat3 V c).before 7 t d) := by
  unfold sum3
  by_cases h : t.val = 0
  · rw [if_pos ((k3_first t).mpr h)]
    obtain rfl : t = first3 := Fin.ext h
    rfl
  · rw [if_neg (fun e => h ((k3_first t).mp e)), before3_7 V c t h d]
    obtain ⟨n, hn⟩ := t
    cases n with
    | zero => exact absurd rfl h
    | succ n => exact (dif_pos hn : acc3 V (n + 1) = _)

set_option maxHeartbeats 800000 in
/-- The body's obligation at every point. -/
theorem oblig3 (c : Dev nD) : BodyObligation (dat3 V c) (defs₀ (F := F)) Variants.none (none : HIx 1) Set.univ := fun t => by
  have b0 : ∀ d, (dat3 V c).before 0 t d = blk3 V 0 t := fun d => (dat3 V c).before_in_eq_fetched 0 rfl (fun _ => rfl) (fun _ _ _ => rfl) (fun _ => rfl) t d
  have b1 : ∀ d, (dat3 V c).before 1 t d = blk3 V 1 t := fun d => (dat3 V c).before_in_eq_fetched 1 rfl (fun _ => rfl) (fun _ _ _ => rfl) (fun _ => rfl) t d
  have b2 : ∀ d, (dat3 V c).before 2 t d = blk3 V 2 t := fun d => (dat3 V c).before_in_eq_fetched 2 rfl (fun _ => rfl) (fun _ _ _ => rfl) (fun _ => rfl) t d
  have b3 : ∀ d, (dat3 V c).before 3 t d = blk3 V 3 t := fun d => (dat3 V c).before_in_eq_fetched 3 rfl (fun _ => rfl) (fun _ _ _ => rfl) (fun _ => rfl) t d
  have b4 : ∀ d, (dat3 V c).before 4 t d = blk3 V 4 t := fun d => (dat3 V c).before_in_eq_fetched 4 rfl (fun _ => rfl) (fun _ _ _ => rfl) (fun _ => rfl) t d
  have b5 : ∀ d, (dat3 V c).before 5 t d = blk3 V 5 t := fun d => (dat3 V c).before_in_eq_fetched 5 rfl (fun _ => rfl) (fun _ _ _ => rfl) (fun _ => rfl) t d
  have l7 : (dat3 V c).leavesExact 7 t = owns (c : Thread nD τ) (win3_7.stage (cfg3.slots t 7)) fullShare (acc3 V t.val) := by
    unfold Dat.leavesExact; rw [idle3_7]; dsimp only [dat3]
  have row : defs₀ (F := F) .tc cfg3.body (cfg3.bodyArgs t (cfg3.slots t)) = bodyAt3 t := rfl
  rw [bigSep_W3, bigSep_W3, row]
  refine triple_restated (P := iprop((dat3 V c).Φ t.castSucc ∗ (dat3 V c).owesAt (none : HIx 1) t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d))
    ∗ (∃ d, owns (c : Thread nD τ) (win3_6.stage (cfg3.slots t 6)) fullShare ((dat3 V c).before 6 t d))
    ∗ (∃ d, owns (c : Thread nD τ) (win3_7.stage (cfg3.slots t 7)) fullShare ((dat3 V c).before 7 t d))))
    (Q := fun _ => iprop((dat3 V c).Φ t.castSucc ∗ (dat3 V c).owesAt (none : HIx 1) t.castSucc
    ∗ owns (c : Thread nD τ) (win3_0.stage (cfg3.slots t 0)) fullShare (blk3 V 0 t)
    ∗ owns (c : Thread nD τ) (win3_1.stage (cfg3.slots t 1)) fullShare (blk3 V 1 t)
    ∗ owns (c : Thread nD τ) (win3_2.stage (cfg3.slots t 2)) fullShare (blk3 V 2 t)
    ∗ owns (c : Thread nD τ) (win3_3.stage (cfg3.slots t 3)) fullShare (blk3 V 3 t)
    ∗ owns (c : Thread nD τ) (win3_4.stage (cfg3.slots t 4)) fullShare (blk3 V 4 t)
    ∗ owns (c : Thread nD τ) (win3_5.stage (cfg3.slots t 5)) fullShare (blk3 V 5 t)
    ∗ owns (c : Thread nD τ) (win3_6.stage (cfg3.slots t 6)) fullShare (rows3 V t)
    ∗ (dat3 V c).leavesExact 7 t)) (W := wp frame (wpE (defs₀ (F := F)) Variants.none c none) Set.univ (bodyAt3 t)) ?_ rfl .rfl fun _ => .rfl
  rw [l7]
  simp only [b0, b1, b2, b3, b4, b5]
  unfold bodyAt3
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [acc3_step V c t d7]
  iapply (body3 c (grid3.coords t) ((k3_later t).trans (not_congr (k3_first t)).symm) _ _ _ _ _ _ _ _ _ _ _ _ _ _ _ _ (blk3 V 0 t) (blk3 V 1 t) (blk3 V 2 t) (blk3 V 3 t) (blk3 V 4 t) (blk3 V 5 t)
    ((dat3 V c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.ScKI

end
-- ==== Proof.ScKI.Reg4.lean ====
/-
  The last layer's call: what one grid point's body leaves in the staging buffers, and the call's proof data from any
  contents of the program's buffers.
-/
module

public import proofs.«01_k».proof.Proof.ScKI.Res

@[expose] public section

set_option maxRecDepth 16384

noncomputable section

namespace Cert.Proof.ScKI

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option maxHeartbeats 1600000 in
/-- The body at a point. -/
theorem body4 (c : Dev nD) (i : grid4.Coords)
    (arg1 : Memref sig .tc .vmem S512x128 .f32) (harg1 : arg1.IsWhole) (arg2 : Memref sig .tc .vmem S2x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S128x1 .f32) (harg5 : arg5.IsWhole) (arg6 : Memref sig .tc .vmem S1x1 .f32) (harg6 : arg6.IsWhole)
    (arg7 : Memref sig .tc .vmem S512x1 .f32) (harg7 : arg7.IsWhole)
    (x0 : Vec F S512x128 .f32) (x1 : Vec F S2x128 .f32) (x2 : Vec F S1x128 .f32) (x3 : Vec F S1x128 .f32) (x4 : Vec F S128x1 .f32) (x5 : Vec F S1x1 .f32)
    (E : Set ℕ) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k4_pay1 x0 x1 x2 x3 x4 x5)) -∗ Q ⟨⟩))
      ⊢ wp frame (wpE (defs₀ (F := F)) Variants.none c none) E (cc4__last_body i arg1 harg1 arg2 harg2 arg3 harg3 arg4 harg4 arg5 harg5 arg6 harg6 arg7 harg7) Q := by
  simp only [cc4__last_body_eq_skeleton]; unfold cc4__last_body_skel owns
  have z : ∀ a, (![0, 0] : Fin 2 → ℕ) a = 0 := by decide
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  have r0 := (View.readAt_full arg1.view f0 inb_S512x128_S512x128_0_0).trans hf0
  have r1 := (View.readAt_full arg2.view f1 inb_S2x128_S2x128_0_0).trans hf1
  have r2 := (View.readAt_full arg3.view f2 inb_S1x128_S1x128_0_0).trans hf2
  have r3 := (View.readAt_full arg4.view f3 inb_S1x128_S1x128_0_0).trans hf3
  have r4 := (View.readAt_full arg5.view f4 inb_S128x1_S128x1_0_0).trans hf4
  have r5 := (View.readAt_full arg6.view f5 inb_S1x1_S1x1_0_0).trans hf5
  sl_exec
  sl_step
  iapply Hk
  isplitl [H0]; · iexists _; isplitr; swap; (· iexact H0); ipureintro; exact hf0
  isplitl [H1]; · iexists _; isplitr; swap; (· iexact H1); ipureintro; exact hf1
  isplitl [H2]; · iexists _; isplitr; swap; (· iexact H2); ipureintro; exact hf2
  isplitl [H3]; · iexists _; isplitr; swap; (· iexact H3); ipureintro; exact hf3
  isplitl [H4]; · iexists _; isplitr; swap; (· iexact H4); ipureintro; exact hf4
  isplitl [H5]; · iexists _; isplitr; swap; (· iexact H5); ipureintro; exact hf5
  iexists _; isplitr; swap; (· iexact H6); ipureintro
  exact LaneScatter.read_whole_store _ _ z _ _

/-! ## The call from any contents -/

variable (V : Valuation τ sig (Elt F))

/-- A window's block at a point. -/
def blk4 (w : Fin cfg4.W) (t : Fin cfg4.N) : ((cfg4.win w).xblock (cfg4.grid.coords t)).Idx → Elt F (cfg4.win w).elt :=
  ((cfg4.win w).blk t).view.read (Elt F) (V (Proc.devRef .tc (Pipeline.arrRef spec4 w)))

/-- The layer's rows at a point. -/
def rows4 (t : Fin cfg4.N) : Vec F S512x1 .f32 := k4_pay1 (blk4 V 0 t) (blk4 V 1 t) (blk4 V 2 t) (blk4 V 3 t) (blk4 V 4 t) (blk4 V 5 t)

/-- The call's proof data. -/
def dat4 (c : Dev nD) : Dat τ (Elt F) (HIx 1) ℕ UU ℕ cfg4 c where
  A w := V (Proc.devRef .tc (Pipeline.arrRef spec4 w))
  after w t := match w with
    | ⟨0, _⟩ => blk4 V 0 t
    | ⟨1, _⟩ => blk4 V 1 t
    | ⟨2, _⟩ => blk4 V 2 t
    | ⟨3, _⟩ => blk4 V 3 t
    | ⟨4, _⟩ => blk4 V 4 t
    | ⟨5, _⟩ => blk4 V 5 t
    | ⟨6, _⟩ => rows4 V t
  Φ _ := Pipeline.scopedRest spec4 c
  q _ := fullShare
  owed _ := 0

set_option maxHeartbeats 800000 in
/-- The body's obligation at every point. -/
theorem oblig4 (c : Dev nD) : BodyObligation (dat4 V c) (defs₀ (F := F)) Variants.none (none : HIx 1) Set.univ := fun t => by
  have b0 : ∀ d, (dat4 V c).before 0 t d = blk4 V 0 t := fun d => (dat4 V c).before_in_eq_fetched 0 rfl (fun _ => rfl) (fun _ _ _ => rfl) (fun _ => rfl) t d
  have b1 : ∀ d, (dat4 V c).before 1 t d = blk4 V 1 t := fun d => (dat4 V c).before_in_eq_fetched 1 rfl (fun _ => rfl) (fun _ _ _ => rfl) (fun _ => rfl) t d
  have b2 : ∀ d, (dat4 V c).before 2 t d = blk4 V 2 t := fun d => (dat4 V c).before_in_eq_fetched 2 rfl (fun _ => rfl) (fun _ _ _ => rfl) (fun _ => rfl) t d
  have b3 : ∀ d, (dat4 V c).before 3 t d = blk4 V 3 t := fun d => (dat4 V c).before_in_eq_fetched 3 rfl (fun _ => rfl) (fun _ _ _ => rfl) (fun _ => rfl) t d
  have b4 : ∀ d, (dat4 V c).before 4 t d = blk4 V 4 t := fun d => (dat4 V c).before_in_eq_fetched 4 rfl (fun _ => rfl) (fun _ _ _ => rfl) (fun _ => rfl) t d
  have b5 : ∀ d, (dat4 V c).before 5 t d = blk4 V 5 t := fun d => (dat4 V c).before_in_eq_fetched 5 rfl (fun _ => rfl) (fun _ _ _ => rfl) (fun _ => rfl) t d
  have row : defs₀ (F := F) .tc cfg4.body (cfg4.bodyArgs t (cfg4.slots t)) = bodyAt4 t := rfl
  rw [bigSep_W4, bigSep_W4, row]
  refine triple_restated (P := iprop((dat4 V c).Φ t.castSucc ∗ (dat4 V c).owesAt (none : HIx 1) t.castSucc
    ∗ (∃ d, owns (c : Thread nD τ) (win4_0.stage (cfg4.slots t 0)) fullShare ((dat4 V c).before 0 t d))
    ∗ (∃ d, owns (c : Thread nD τ) (win4_1.stage (cfg4.slots t 1)) fullShare ((dat4 V c).before 1 t d))
    ∗ (∃ d, owns (c : Thread nD τ) (win4_2.stage (cfg4.slots t 2)) fullShare ((dat4 V c).before 2 t d))
    ∗ (∃ d, owns (c : Thread nD τ) (win4_3.stage (cfg4.slots t 3)) fullShare ((dat4 V c).before 3 t d))
    ∗ (∃ d, owns (c : Thread nD τ) (win4_4.stage (cfg4.slots t 4)) fullShare ((dat4 V c).before 4 t d))
    ∗ (∃ d, owns (c : Thread nD τ) (win4_5.stage (cfg4.slots t 5)) fullShare ((dat4 V c).before 5 t d))
    ∗ (∃ d, owns (c : Thread nD τ) (win4_6.stage (cfg4.slots t 6)) fullShare ((dat4 V c).before 6 t d))))
    (Q := fun _ => iprop((dat4 V c).Φ t.castSucc ∗ (dat4 V c).owesAt (none : HIx 1) t.castSucc
    ∗ owns (c : Thread nD τ) (win4_0.stage (cfg4.slots t 0)) fullShare (blk4 V 0 t)
    ∗ owns (c : Thread nD τ) (win4_1.stage (cfg4.slots t 1)) fullShare (blk4 V 1 t)
    ∗ owns (c : Thread nD τ) (win4_2.stage (cfg4.slots t 2)) fullShare (blk4 V 2 t)
    ∗ owns (c : Thread nD τ) (win4_3.stage (cfg4.slots t 3)) fullShare (blk4 V 3 t)
    ∗ owns (c : Thread nD τ) (win4_4.stage (cfg4.slots t 4)) fullShare (blk4 V 4 t)
    ∗ owns (c : Thread nD τ) (win4_5.stage (cfg4.slots t 5)) fullShare (blk4 V 5 t)
    ∗ owns (c : Thread nD τ) (win4_6.stage (cfg4.slots t 6)) fullShare (rows4 V t))) (W := wp frame (wpE (defs₀ (F := F)) Variants.none c none) Set.univ (bodyAt4 t)) ?_ rfl .rfl fun _ => .rfl
  simp only [b0, b1, b2, b3, b4, b5]
  unfold bodyAt4
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body4 c (grid4.coords t) _ _ _ _ _ _ _ _ _ _ _ _ _ _ (blk4 V 0 t) (blk4 V 1 t) (blk4 V 2 t) (blk4 V 3 t) (blk4 V 4 t) (blk4 V 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.Proof.ScKI

end
-- ==== Proof.ScKI.Regs.lean ====
/-
  The four pipelined calls as regions of the program on the TensorCore, each entered from the buffers held at what the
  operations before it leave and left with its results written.
-/
module

public import proofs.«01_k».proof.Proof.ScKI.Launch
public import proofs.«01_k».proof.Proof.ScKI.Reg1
public import proofs.«01_k».proof.Proof.ScKI.Reg2
public import proofs.«01_k».proof.Proof.ScKI.Reg3
public import proofs.«01_k».proof.Proof.ScKI.Reg4
public import proofs.«01_k».proof.Proof.Gen.KernelIdeal.Regions

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx Pay)
open Idealize.ShloMosaic.StableHlo (held)
open Idealize.ShloMosaic.Pipeline (Dat RegionSeg afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- No pipeline has a table. -/
abbrev adm : (p : Fin 4) → (pcfgs (F := F) p).Adm := fun q => (cfgs q).toPCfg_adm

/-- What the buffers hold where each call is entered. -/
abbrev Vals : Type := Fin 4 → Dev nD → Valuation τ sig (Elt F)

/-- What each call's windows hold, from the contents it is entered at. -/
def pdats (W : Vals (F := F)) : (p : Fin 4) → (c : Dev nD) → Dat τ (Elt F) (HIx 1) ℕ UU ℕ (Pipeline.pin (pcfgs (F := F)) adm p) c
  | 0 => fun c => dat1 (W 0 c) c
  | 1 => fun c => dat2 (W 1 c) c
  | 2 => fun c => dat3 (W 2 c) c
  | 3 => fun c => dat4 (W 3 c) c

/-- Each call's layout. -/
def kits : (p : Fin 4) → Pipeline.PLaunchFacts (nD := nD) (τ := τ) (pcfgs (F := F)) p
  | 0 => launch1.toP
  | 1 => launch2.toP
  | 2 => launch3.toP
  | 3 => launch4.toP

/-- Each layer's body meets its obligation. -/
theorem bodies (W : Vals (F := F)) : (p : Fin 4) → (c : Dev nD) → Pipeline.BodyObligationLoose (pdats W p c) (defs₀ (F := F)) 𝒱₀ (none : HIx 1) Set.univ
  | 0 => fun c => (oblig1 (W 0 c) c).loose
  | 1 => fun c => (oblig2 (W 1 c) c).loose
  | 2 => fun c => (oblig3 (W 2 c) c).loose
  | 3 => fun c => (oblig4 (W 3 c) c).loose

/-- A layer's steps owe nothing. -/
theorem pd_owed (W : Vals (F := F)) : (p : Fin 4) → (c : Dev nD) → ∀ t, (pdats W p c).owed t = 0
  | 0 => fun _ _ => rfl
  | 1 => fun _ _ => rfl
  | 2 => fun _ _ => rfl
  | 3 => fun _ _ => rfl

/-- Every wait is recorded from the start. -/
theorem pd_rec (W : Vals (F := F)) : (p : Fin 4) → (c : Dev nD) → (pdats W p c).recorded 0 = Set.univ
  | 0 => fun _ => rfl
  | 1 => fun _ => rfl
  | 2 => fun _ => rfl
  | 3 => fun _ => rfl

/-- A layer holds its arrays whole. -/
theorem pd_share (W : Vals (F := F)) : (p : Fin 4) → (c : Dev nD) → ∀ w, (pdats W p c).share w = fullShare
  | 0 => fun c => (dat1 (W 0 c) c).share_full fun _ => rfl
  | 1 => fun c => (dat2 (W 1 c) c).share_full fun _ => rfl
  | 2 => fun c => (dat3 (W 2 c) c).share_full fun _ => rfl
  | 3 => fun c => (dat4 (W 3 c) c).share_full fun _ => rfl

/-- Between steps a layer keeps the buffers it does not window. -/
theorem pd_phi (W : Vals (F := F)) : (p : Fin 4) → (c : Dev nD) → ∀ t, (pdats W p c).Φ t = Pipeline.scopedRest (Pipeline.pin (pcfgs (F := F)) adm p).spec c
  | 0 => fun c _ => congrArg (fun s : Fin 7 → Pipeline.WinSpec sig 1 => Pipeline.scopedRest s c) (show spec1 = (Pipeline.pin (pcfgs (F := F)) adm 0).spec from rfl)
  | 1 => fun c _ => congrArg (fun s : Fin 8 → Pipeline.WinSpec sig 1 => Pipeline.scopedRest s c) (show spec2 = (Pipeline.pin (pcfgs (F := F)) adm 1).spec from rfl)
  | 2 => fun c _ => congrArg (fun s : Fin 8 → Pipeline.WinSpec sig 1 => Pipeline.scopedRest s c) (show spec3 = (Pipeline.pin (pcfgs (F := F)) adm 2).spec from rfl)
  | 3 => fun c _ => congrArg (fun s : Fin 7 → Pipeline.WinSpec sig 1 => Pipeline.scopedRest s c) (show spec4 = (Pipeline.pin (pcfgs (F := F)) adm 3).spec from rfl)

/-- What a layer keeps, at its entry. -/
theorem pd_in (W : Vals (F := F)) (p : Fin 4) (c : Dev nD) : iprop(Pipeline.scopedRest (Pipeline.pin (pcfgs (F := F)) adm p).spec c ∗ emp) ⊢ (pdats W p c).Φ 0 := by
  rw [pd_phi]; exact sep_elim_left

/-- What a layer keeps, at its end. -/
theorem pd_out (W : Vals (F := F)) (p : Fin 4) (c : Dev nD) : (pdats W p c).Φ (Fin.last (Pipeline.pin (pcfgs (F := F)) adm p).N) ⊢ iprop(Pipeline.scopedRest (Pipeline.pin (pcfgs (F := F)) adm p).spec c ∗ emp) := by
  rw [pd_phi]
  iintro H
  isplitl [H]; · iexact H
  iempintro

/-- A layer's arrays at its entry are as the buffers say. -/
theorem pd_at (W : Vals (F := F)) : (p : Fin 4) → (c : Dev nD) → ∀ w, (pdats W p c).arrAt w 0 = W p c (Proc.devRef .tc (Pipeline.arrRef (Pipeline.pin (pcfgs (F := F)) adm p).spec w))
  | 0 => fun _ _ => rfl
  | 1 => fun _ _ => rfl
  | 2 => fun _ _ => rfl
  | 3 => fun _ _ => rfl

/-- A layer's arrays are among the TensorCore's buffers. -/
theorem arrs_sub : (p : Fin 4) → Pipeline.arrRefs (pcfgs (F := F) p).spec ⊆ Pipeline.ucRefs τ sig
  | 0 => Pipeline.arrRefs_sub_ucRefs _ launch1.win.arr_unscoped
  | 1 => Pipeline.arrRefs_sub_ucRefs _ launch2.win.arr_unscoped
  | 2 => Pipeline.arrRefs_sub_ucRefs _ launch3.win.arr_unscoped
  | 3 => Pipeline.arrRefs_sub_ucRefs _ launch4.win.arr_unscoped

/-- Call `p` as a region. -/
def reg (W : Vals (F := F)) (p : Fin 4) : RegionSeg (pcfgs (F := F)) adm (pdats W) (none : HIx 1) (defs₀ (F := F)) 𝒱₀ (K (F := F)).L (K (F := F)).lev p :=
  RegionSeg.ofHeldIn pcfgs adm (pdats W) none defs₀ 𝒱₀ (K (F := F)).L (K (F := F)).lev p (fun _ => 0) (Pipeline.ucRefs τ sig) (fun _ => iprop(emp)) (fun _ => iprop(emp))
    (kits p) rfl (bodies W p) (pd_owed W p) (pd_rec W p) (pd_share W p) (pd_in W p) (pd_out W p) (fun _ => 0)
    ⟨fun _ _ _ => Finset.mem_univ _, fun _ _ _ => Nat.le_refl 0, fun _ _ _ h => absurd h (Nat.lt_irrefl 0)⟩ (fun _ => iprop(emp)) (W p) (pd_at W p)

/-- The buffers before a layer, split into its arrays and the rest. -/
theorem reg_pre (W : Vals (F := F)) (p : Fin 4) (c : Dev nD) :
    iprop(held (SparseCore.T c) (Pipeline.ucRefs τ sig) (W p c) ∗ ((∃ Wd, owes (SparseCore.T c) 0 Wd) ∗ emp ∗ emp)) ⊢ (reg W p).pre c := by
  unfold reg
  exact RegionSeg.ofHeldIn_pre (D := fun _ => 0) (X := fun _ => iprop(emp)) (R := fun _ => iprop(emp)) (arrs_sub p) c

/-- The buffers after a layer, joined again. -/
theorem reg_post (W : Vals (F := F)) (p : Fin 4) (c : Dev nD) :
    (reg W p).post c ⊢ iprop(held (SparseCore.T c) (Pipeline.ucRefs τ sig) (afterRegion (pdats W p c) (W p c)) ∗ ((∃ Wd, owes (SparseCore.T c) 0 Wd) ∗ emp ∗ emp)) :=
  RegionSeg.ofHeldIn_post (arrs_sub p) c

/-- A call run on the TensorCore: the buffers go in at the contents it is entered at and come out with its results. -/
theorem wp_region (W : Vals (F := F)) (p : Fin 4) (c : Dev nD) (Q : PUnit → sProp 𝕄) :
    iprop((iprop(boundary (SparseCore.T c) ∗ held (SparseCore.T c) (Pipeline.ucRefs τ sig) (afterRegion (pdats W p c) (W p c)) ∗ (∃ Wd, owes (SparseCore.T c) 0 Wd)) -∗ Q ⟨⟩)
        ∗ boundary (SparseCore.T c) ∗ held (SparseCore.T c) (Pipeline.ucRefs τ sig) (W p c) ∗ (∃ Wd, owes (SparseCore.T c) 0 Wd) ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ (Prog.lift (.customCall (SparseCore.inner (Pipeline.entry p)) ())) Q := by
  refine BIBase.Entails.trans ?_ ((K (F := F)).wp_liftProg (D (F := F)) 𝒱 (SparseCore.T c) Set.univ none (.op (.customCall (Pipeline.entry p) ()) fun x => .ret x) Q)
  refine BIBase.Entails.trans ?_ (RegionSeg.wp (pcfgs (F := F)) adm (pdats W) (none : HIx 1) cellOf_inj EP (defs₀ (F := F)) 𝒱₀ (K (F := F)).L (K (F := F)).lev (reg W p) c none
    (fun u h => nomatch h) (fun x => .ret x) Q)
  iintro ⟨HQ, Hb, Hheld, Ho, Hl, Hg, Ht⟩
  isplitl [HQ]
  · iintro ⟨Hb, Hpost⟩
    ihave Hpost := (reg_post W p c) $$ Hpost
    icases Hpost with ⟨Hheld, Ho, -⟩
    rw [wp_ret]; imodintro
    iapply HQ
    isplitl [Hb]; · iexact Hb
    isplitl [Hheld]; · iexact Hheld
    iexact Ho
  isplitl [Hb]; · iexact Hb
  isplitl [Hheld Ho]
  · iapply (reg_pre W p c)
    isplitl [Hheld]; · iexact Hheld
    isplitl [Ho]; · iexact Ho
    isplitr; · iempintro
    iempintro
  isplitl [Hl]; · iexact Hl
  isplitl [Hg]; · iexact Hg
  iexact Ht

end Cert.Proof.ScKI

end
-- ==== Proof.ScKI.Main.lean ====
/-
  The program on the TensorCore: the gather call and the four layers' calls, with the host operations before each; and
  the program's run from any launch memory whose indices are in range.
-/
module

public import proofs.«01_k».proof.Proof.ScKI.Regs
public import Idealize.ShloMosaic.Lib.Pipeline.Frame

@[expose] public section

set_option maxRecDepth 16384

noncomputable section

namespace Cert.Proof.ScKI

open Cert.KernelIdeal Cert.KernelIdeal.Gen
open Idealize.ShloMosaic
open Idealize.ShloMosaic.SparseCore (S V T)
open Idealize.ShloMosaic.SparseCore.Cfg (HIx Pay)
open Idealize.ShloMosaic.StableHlo (held seq seqK after launchContents)
open Idealize.ShloMosaic.Pipeline (afterRegion)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations -/

/-- The operations before the call: the flattened indices and the flattened table. -/
def ops0 : List (HloOp τ sig (Elt F)) :=
  [ StableHlo.nullary main_v0 (iotaInDim S26 32 0)
  , StableHlo.nullary main_c (constantI S_ 32 100000#32)
  , StableHlo.unary main_c main_v1 (broadcastInDim S26 ![] bcast_S_S26 : (⟨S_, .i32⟩ : BufTy).Contents (Elt F) → (⟨S26, .i32⟩ : BufTy).Contents (Elt F))
  , StableHlo.binary main_v0 main_v1 main_v2 (muli : (⟨S26, .i32⟩ : BufTy).Contents (Elt F) → (⟨S26, .i32⟩ : BufTy).Contents (Elt F) → (⟨S26, .i32⟩ : BufTy).Contents (Elt F))
  , StableHlo.unary main_v2 main_v3 (broadcastInDim S1x26 ![1] bcast_S26_S1x26_1 : (⟨S26, .i32⟩ : BufTy).Contents (Elt F) → (⟨S1x26, .i32⟩ : BufTy).Contents (Elt F))
  , StableHlo.unary main_v3 main_v4 (broadcastInDim S16384x26 ![0, 1] bcast_S1x26_S16384x26_0_1 : (⟨S1x26, .i32⟩ : BufTy).Contents (Elt F) → (⟨S16384x26, .i32⟩ : BufTy).Contents (Elt F))
  , StableHlo.binary main_arg1 main_v4 main_v5 (addi : (⟨S16384x26, .i32⟩ : BufTy).Contents (Elt F) → (⟨S16384x26, .i32⟩ : BufTy).Contents (Elt F) → (⟨S16384x26, .i32⟩ : BufTy).Contents (Elt F))
  , StableHlo.reshape main_v5 main_v6 (rfl : (.i32 : EltTy) = .i32) shapeCasts_S16384x26_S1x425984
  , StableHlo.reshape main_arg2 main_v7 (rfl : (.f32 : EltTy) = .f32) shapeCasts_S26x100000x16_S2600000x16 ]

/-- The operations before the first layer: the gathered rows, the two parts of the weights, the bias. -/
def ops1 : List (HloOp τ sig (Elt F)) :=
  [ StableHlo.reshape main_v8 main_v9 (rfl : (.f32 : EltTy) = .f32) shapeCasts_S425984x16_S16384x416
  , StableHlo.unary main_arg3 main_v10 ((extractStridedSlice S13x512 ![0, 0] · slices_S429x512_S13x512_0_0) : (⟨S429x512, .f32⟩ : BufTy).Contents (Elt F) → (⟨S13x512, .f32⟩ : BufTy).Contents (Elt F))
  , StableHlo.unary main_arg3 main_v11 ((extractStridedSlice S416x512 ![13, 0] · slices_S429x512_S416x512_13_0) : (⟨S429x512, .f32⟩ : BufTy).Contents (Elt F) → (⟨S416x512, .f32⟩ : BufTy).Contents (Elt F))
  , StableHlo.reshape main_arg4 main_v12 (rfl : (.f32 : EltTy) = .f32) shapeCasts_S512_S1x512 ]

/-- The operations before the second layer. -/
def ops2 : List (HloOp τ sig (Elt F)) :=
  [ StableHlo.reshape main_arg5 main_v14 (rfl : (.f32 : EltTy) = .f32) shapeCasts_S512_S1x512
  , StableHlo.reshape main_arg6 main_v15 (rfl : (.f32 : EltTy) = .f32) shapeCasts_S512_S1x512
  , StableHlo.reshape main_arg8 main_v16 (rfl : (.f32 : EltTy) = .f32) shapeCasts_S256_S1x256 ]

/-- The operations before the third layer. -/
def ops3 : List (HloOp τ sig (Elt F)) :=
  [ StableHlo.reshape main_arg9 main_v18 (rfl : (.f32 : EltTy) = .f32) shapeCasts_S256_S1x256
  , StableHlo.reshape main_arg10 main_v19 (rfl : (.f32 : EltTy) = .f32) shapeCasts_S256_S1x256
  , StableHlo.reshape main_arg12 main_v20 (rfl : (.f32 : EltTy) = .f32) shapeCasts_S128_S1x128 ]

/-- The operations before the last layer. -/
def ops4 : List (HloOp τ sig (Elt F)) :=
  [ StableHlo.reshape main_arg13 main_v22 (rfl : (.f32 : EltTy) = .f32) shapeCasts_S128_S1x128
  , StableHlo.reshape main_arg14 main_v23 (rfl : (.f32 : EltTy) = .f32) shapeCasts_S128_S1x128
  , StableHlo.reshape main_arg16 main_v24 (rfl : (.f32 : EltTy) = .f32) shapeCasts_S1_S1x1 ]

/-- A layer's call. -/
abbrev call (p : Fin 4) : Prog (TpuEff nD τ sig (Elt F) (SparseCore.Sig (ΛP (F := F)) 1) .tc) PUnit :=
  Prog.lift (.customCall (SparseCore.inner (Pipeline.entry p)) ())

/-- The program is those operations with the calls between them. -/
theorem main_eq (d : Dev nD) : main (F := F) d = (seq ops0 >>= fun _ => sc.run d 0 >>= fun _ => seq ops1 >>= fun _ => call 0 >>= fun _ =>
    seq ops2 >>= fun _ => call 1 >>= fun _ => seq ops3 >>= fun _ => call 2 >>= fun _ => seq ops4 >>= fun _ => call 3 >>= fun _ => pure ⟨⟩) := by
  simp only [StableHlo.seq_bind_seqK]
  rfl

/-- These operations touch buffers of the TensorCore only. -/
theorem ops0_sub : ∀ op ∈ ops0 (F := F), op.bufs ⊆ Pipeline.ucRefs τ sig := by
  simp only [ops0, List.forall_mem_cons, List.not_mem_nil, false_imp_iff, implies_true, and_true]
  refine ⟨?_, ?_, ?_, ?_, ?_, ?_, ?_, ?_, ?_⟩ <;> exact Pipeline.sub_ucRefs _ (by simp)

/-- These operations allocate nothing. -/
theorem ops0_fresh : ∀ op ∈ ops0 (F := F), op.fresh = ∅ := by
  simp only [ops0, List.forall_mem_cons, List.not_mem_nil, false_imp_iff, implies_true, and_true]
  refine ⟨?_, ?_, ?_, ?_, ?_, ?_, ?_, ?_, ?_⟩ <;> rfl

/-- These operations touch buffers of the TensorCore only. -/
theorem ops1_sub : ∀ op ∈ ops1 (F := F), op.bufs ⊆ Pipeline.ucRefs τ sig := by
  simp only [ops1, List.forall_mem_cons, List.not_mem_nil, false_imp_iff, implies_true, and_true]
  refine ⟨?_, ?_, ?_, ?_⟩ <;> exact Pipeline.sub_ucRefs _ (by simp)

/-- These operations allocate nothing. -/
theorem ops1_fresh : ∀ op ∈ ops1 (F := F), op.fresh = ∅ := by
  simp only [ops1, List.forall_mem_cons, List.not_mem_nil, false_imp_iff, implies_true, and_true]
  refine ⟨?_, ?_, ?_, ?_⟩ <;> rfl

/-- These operations touch buffers of the TensorCore only. -/
theorem ops2_sub : ∀ op ∈ ops2 (F := F), op.bufs ⊆ Pipeline.ucRefs τ sig := by
  simp only [ops2, List.forall_mem_cons, List.not_mem_nil, false_imp_iff, implies_true, and_true]
  refine ⟨?_, ?_, ?_⟩ <;> exact Pipeline.sub_ucRefs _ (by simp)

/-- These operations allocate nothing. -/
theorem ops2_fresh : ∀ op ∈ ops2 (F := F), op.fresh = ∅ := by
  simp only [ops2, List.forall_mem_cons, List.not_mem_nil, false_imp_iff, implies_true, and_true]
  refine ⟨?_, ?_, ?_⟩ <;> rfl

/-- These operations touch buffers of the TensorCore only. -/
theorem ops3_sub : ∀ op ∈ ops3 (F := F), op.bufs ⊆ Pipeline.ucRefs τ sig := by
  simp only [ops3, List.forall_mem_cons, List.not_mem_nil, false_imp_iff, implies_true, and_true]
  refine ⟨?_, ?_, ?_⟩ <;> exact Pipeline.sub_ucRefs _ (by simp)

/-- These operations allocate nothing. -/
theorem ops3_fresh : ∀ op ∈ ops3 (F := F), op.fresh = ∅ := by
  simp only [ops3, List.forall_mem_cons, List.not_mem_nil, false_imp_iff, implies_true, and_true]
  refine ⟨?_, ?_, ?_⟩ <;> rfl

/-- These operations touch buffers of the TensorCore only. -/
theorem ops4_sub : ∀ op ∈ ops4 (F := F), op.bufs ⊆ Pipeline.ucRefs τ sig := by
  simp only [ops4, List.forall_mem_cons, List.not_mem_nil, false_imp_iff, implies_true, and_true]
  refine ⟨?_, ?_, ?_⟩ <;> exact Pipeline.sub_ucRefs _ (by simp)

/-- These operations allocate nothing. -/
theorem ops4_fresh : ∀ op ∈ ops4 (F := F), op.fresh = ∅ := by
  simp only [ops4, List.forall_mem_cons, List.not_mem_nil, false_imp_iff, implies_true, and_true]
  refine ⟨?_, ?_, ?_⟩ <;> rfl

/-! ## What the buffers hold -/

variable (m : (ℓ : Loc nD τ sig) → Buf (Elt F) ℓ) (ρ : Dev nD → PrngReg)

/-- Before the call. -/
def V1 (d : Dev nD) : Valuation τ sig (Elt F) := after ops0 (launchContents m d)
/-- The index array. -/
def xi (d : Dev nD) : XBuf F := V1 m d (Proc.devRef .tc main_v6)
/-- The table. -/
def xt (d : Dev nD) : TBuf F := V1 m d (Proc.devRef .tc main_v7)
/-- The output before the call. -/
def fo (d : Dev nD) : OBuf F := V1 m d (Proc.devRef .tc main_v8)
/-- After the call. -/
def V2 (d : Dev nD) : Valuation τ sig (Elt F) := Function.update (V1 m d) (Proc.devRef .tc main_v8) (gath (xi m d) (xt m d) : OBuf F)
/-- Where the first layer's call is entered, and what it leaves; so for the other three. -/
def VA (d : Dev nD) : Valuation τ sig (Elt F) := after ops1 (V2 m d)
def RA (d : Dev nD) : Valuation τ sig (Elt F) := afterRegion (dat1 (VA m d) d) (VA m d)
def VB (d : Dev nD) : Valuation τ sig (Elt F) := after ops2 (RA m d)
def RB (d : Dev nD) : Valuation τ sig (Elt F) := afterRegion (dat2 (VB m d) d) (VB m d)
def VC (d : Dev nD) : Valuation τ sig (Elt F) := after ops3 (RB m d)
def RC (d : Dev nD) : Valuation τ sig (Elt F) := afterRegion (dat3 (VC m d) d) (VC m d)
def VD (d : Dev nD) : Valuation τ sig (Elt F) := after ops4 (RC m d)
/-- At the end. -/
def VE (d : Dev nD) : Valuation τ sig (Elt F) := afterRegion (dat4 (VD m d) d) (VD m d)

/-- What the buffers hold where each layer's call is entered. -/
def WW : Vals (F := F)
  | 0 => VA m
  | 1 => VB m
  | 2 => VC m
  | 3 => VD m

/-- The three arrays of the call. -/
def callRefs : Finset (DevRef τ sig) := {Proc.devRef .tc main_v6, Proc.devRef .tc main_v7, Proc.devRef .tc main_v8}

/-- The call's arrays are among the TensorCore's buffers. -/
theorem callRefs_sub : callRefs ⊆ Pipeline.ucRefs τ sig := by decide

/-- Holding the three arrays is holding each. -/
theorem held_callRefs (d : Dev nD) (W : Valuation τ sig (Elt F)) : (held (SparseCore.T d) callRefs W : sProp 𝕄)
    = iprop((xL d ↦{fullShare} W (Proc.devRef .tc main_v6)) ∗ (tL d ↦{fullShare} W (Proc.devRef .tc main_v7)) ∗ oL d ↦{fullShare} W (Proc.devRef .tc main_v8)) := by
  unfold held callRefs
  rw [SparseCore.bigSep_insert' (by decide), SparseCore.bigSep_insert' (by decide), bigSep_singleton]

/-- Before the call the buffers are the call's three and the rest. -/
theorem held_before (d : Dev nD) : (held (SparseCore.T d) (Pipeline.ucRefs τ sig) (V1 m d) : sProp 𝕄)
    = iprop(((xL d ↦{fullShare} xi m d) ∗ (tL d ↦{fullShare} xt m d) ∗ oL d ↦{fullShare} fo m d)
        ∗ held (SparseCore.T d) (Pipeline.ucRefs τ sig \ callRefs) (V1 m d)) := by
  rw [StableHlo.held_sub_split _ callRefs_sub, held_callRefs]
  rfl

/-- So they are after it. -/
theorem held_after (d : Dev nD) : (held (SparseCore.T d) (Pipeline.ucRefs τ sig) (V2 m d) : sProp 𝕄)
    = iprop(((xL d ↦{fullShare} xi m d) ∗ (tL d ↦{fullShare} xt m d) ∗ oL d ↦{fullShare} gath (xi m d) (xt m d))
        ∗ held (SparseCore.T d) (Pipeline.ucRefs τ sig \ callRefs) (V1 m d)) := by
  have h : ∀ b, b ≠ Proc.devRef .tc main_v8 → V2 m d b = V1 m d b := fun b hb => Function.update_of_ne hb _ _
  rw [StableHlo.held_sub_split _ callRefs_sub, held_callRefs, h _ (by decide), h _ (by decide),
    StableHlo.held_congr _ (V := V2 m d) (V' := V1 m d) (fun b hb => h b fun e => (Finset.mem_sdiff.mp hb).2 (by rw [e]; decide))]
  rw [show V2 m d (Proc.devRef .tc main_v8) = _ from Function.update_self _ _ _]
  rfl

/-! ## The program's run -/

/-- After the gather call the core owes nothing. -/
theorem tc_open (d : Dev nD) : ((K (F := F)).tcSt EH d 1 : sProp 𝕄)
    ⊢ iprop((∃ Wd, owes (SparseCore.T d) 0 Wd) ∗ ((∃ Wd, owes (SparseCore.T d) 0 Wd) -∗ (K (F := F)).tcSt EH d 1)) := by
  unfold SparseCore.Cfg.tcSt
  rw [(K (F := F)).Otc_end d (le_refl 1)]
  iintro ⟨⟨%W, -, Ho⟩, Hr⟩
  isplitl [Ho]; · iexists W; iexact Ho
  iintro ⟨%Wd, Ho⟩
  isplitl [Ho]
  · iexists Wd
    isplitr
    · ipureintro
      rintro ⟨sm, ι⟩ -
      cases ι with
      | none => exact Nat.zero_le _
      | some q => exact ((K (F := F)).lev_some_le _ q).trans (by have := q.isLt; show 8 * q.val + 7 ≤ 8 * 1; omega)
    iexact Ho
  iexact Hr

/-- The four layers' transfers, at their start. -/
def GG (d : Dev nD) : sProp 𝕄 :=
  iprop((bigSep Finset.univ fun p : Fin 4 => Pipeline.cellsGhost (Pipeline.pin (pcfgs (F := F)) adm) EP p d)
    ∗ bigSep Finset.univ fun p : Fin 4 => Pipeline.toksInit (Pipeline.pin (pcfgs (F := F)) adm) EP p d)

/-- A conjunction over the four layers. -/
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The call's context holds the levels. -/
theorem ctx_lev (κ : GSem nD τ sig → ℕ) : ((K (F := F)).ctx EH (P (xi m) (xt m) (fo m)) κ : sProp 𝕄) ⊢ levAts (K (F := F)).L (K (F := F)).lev := by
  unfold SparseCore.Cfg.ctx
  exact sep_elim_left

/-- One layer: its operations, then its call. -/
theorem wp_layer (p : Fin 4) (d : Dev nD) (ops : List (HloOp τ sig (Elt F))) (hs : ∀ op ∈ ops, op.bufs ⊆ Pipeline.ucRefs τ sig)
    (hf : ∀ op ∈ ops, op.fresh = ∅) (X : Valuation τ sig (Elt F)) (hX : after ops X = WW m p d) (Y : Valuation τ sig (Elt F)) (hY : afterRegion (pdats (WW m) p d) (WW m p d) = Y)
    (k : PUnit → Prog (TpuEff nD τ sig (Elt F) (SparseCore.Sig (ΛP (F := F)) 1) .tc) PUnit) (Q : PUnit → sProp 𝕄) :
    iprop((iprop(boundary (SparseCore.T d) ∗ held (SparseCore.T d) (Pipeline.ucRefs τ sig) Y ∗ (∃ Wd, owes (SparseCore.T d) 0 Wd))
          -∗ wp frame (wpE ((K (F := F)).defs (D (F := F))) 𝒱 (SparseCore.T d) none) Set.univ (k ⟨⟩) Q)
        ∗ boundary (SparseCore.T d) ∗ held (SparseCore.T d) (Pipeline.ucRefs τ sig) X ∗ (∃ Wd, owes (SparseCore.T d) 0 Wd) ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (seq ops >>= fun _ => call p >>= k) Q := by
  subst hY
  iintro ⟨HQ, Hb, Hheld, Ho, Hl, Hg, Ht⟩
  iapply (StableHlo.wp_seq 𝒱 none Set.univ d (Pipeline.ucRefs τ sig) _ ops hs hf X) $$ [Hb Hheld]
  · isplitl [Hb]; · iexact Hb
    iexact Hheld
  iintro ⟨Hb, Hheld⟩
  rw [hX, wp_bind]
  iapply (wp_region (WW m) p d _)
  isplitl [HQ]; · iexact HQ
  isplitl [Hb]; · iexact Hb
  isplitl [Hheld]; · iexact Hheld
  isplitl [Ho]; · iexact Ho
  isplitl [Hl]; · iexact Hl
  isplitl [Hg]; · iexact Hg
  iexact Ht

/-- The program runs from the launch's resources to its end, the buffers as computed. -/
theorem hmain (κ : GSem nD τ sig → ℕ) (d : Dev nD) :
    iprop((K (F := F)).ctx EH (P (xi m) (xt m) (fo m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ held (SparseCore.T d) (Pipeline.ucRefs τ sig) (VE m d) ∗ (K (F := F)).tcEnd d) := by
  unfold SparseCore.Cfg.tcRes SparseCore.Cfg.tcEnd GG
  rw [main_eq, bigSep_four, bigSep_four, show (unscopedBufs d (fun b => m ((SparseCore.T d).loc b)) : sProp 𝕄) = held (SparseCore.T d) (Pipeline.ucRefs τ sig) (launchContents m d) from
    Pipeline.unscopedBufs_held d (launchContents m d)]
  iintro ⟨#Hctx, Hst, ⟨Hb, Hheld, Hts, -⟩, ⟨Hg0, Hg1, Hg2, Hg3⟩, ⟨Ht0, Ht1, Ht2, Ht3⟩⟩
  ihave #Hlev := (ctx_lev m κ) $$ Hctx
  iapply (StableHlo.wp_seq 𝒱 none Set.univ d (Pipeline.ucRefs τ sig) _ ops0 ops0_sub ops0_fresh (launchContents m d)) $$ [Hb Hheld]
  · isplitl [Hb]; · iexact Hb
    iexact Hheld
  iintro ⟨Hb, Hheld⟩
  ihave Hheld := (Entails.of_eq (show (held (d.tc : Thread nD τ) (Pipeline.ucRefs τ sig) (after ops0 (launchContents m d)) : sProp 𝕄) = _ from held_before m d)) $$ Hheld
  icases Hheld with ⟨Harr, Hrest⟩
  rw [wp_bind]
  iapply ((K (F := F)).wp_run (D (F := F)) 𝒱 (EH := EH) (P := P (xi m) (xt m) (fo m)) κ d 0) $$ [Hst Harr Hrest Hb Hts Hg0 Hg1 Hg2 Hg3 Ht0 Ht1 Ht2 Ht3]
  isplitr; · iexact Hctx
  isplitl [Hst]; · iexact Hst
  isplitl [Harr]
  · rw [st0_eq]; iexact Harr
  iintro ⟨Hst, Hdn⟩
  ihave Harr := (Entails.of_eq (dn0_eq (xi m) (xt m) (fo m) d)) $$ Hdn
  ihave Hheld := (Entails.of_eq (held_after m d).symm) $$ [Harr Hrest]
  · isplitl [Harr]; · iexact Harr
    iexact Hrest
  ihave Hst := (show ((K (F := F)).tcSt EH d ((0 : Fin 1).val + 1) : sProp 𝕄) ⊢ _ from tc_open d) $$ Hst
  icases Hst with ⟨Ho, Hst⟩
  iapply (wp_layer m 0 d ops1 ops1_sub ops1_fresh (V2 m d) rfl (RA m d) rfl _ _)
  isplitr [Hb Hheld Ho Hg0 Ht0]
  rotate_left
  · isplitl [Hb]; · iexact Hb
    isplitl [Hheld]; · iexact Hheld
    isplitl [Ho]; · iexact Ho
    isplitr; · iexact Hlev
    isplitl [Hg0]; · iexact Hg0
    iexact Ht0
  iintro ⟨Hb, Hheld, Ho⟩
  iapply (wp_layer m 1 d ops2 ops2_sub ops2_fresh (RA m d) rfl (RB m d) rfl _ _)
  isplitr [Hb Hheld Ho Hg1 Ht1]
  rotate_left
  · isplitl [Hb]; · iexact Hb
    isplitl [Hheld]; · iexact Hheld
    isplitl [Ho]; · iexact Ho
    isplitr; · iexact Hlev
    isplitl [Hg1]; · iexact Hg1
    iexact Ht1
  iintro ⟨Hb, Hheld, Ho⟩
  iapply (wp_layer m 2 d ops3 ops3_sub ops3_fresh (RB m d) rfl (RC m d) rfl _ _)
  isplitr [Hb Hheld Ho Hg2 Ht2]
  rotate_left
  · isplitl [Hb]; · iexact Hb
    isplitl [Hheld]; · iexact Hheld
    isplitl [Ho]; · iexact Ho
    isplitr; · iexact Hlev
    isplitl [Hg2]; · iexact Hg2
    iexact Ht2
  iintro ⟨Hb, Hheld, Ho⟩
  iapply (wp_layer m 3 d ops4 ops4_sub ops4_fresh (RC m d) rfl (VE m d) rfl _ _)
  isplitr [Hb Hheld Ho Hg3 Ht3]
  rotate_left
  · isplitl [Hb]; · iexact Hb
    isplitl [Hheld]; · iexact Hheld
    isplitl [Ho]; · iexact Ho
    isplitr; · iexact Hlev
    isplitl [Hg3]; · iexact Hg3
    iexact Ht3
  iintro ⟨Hb, Hheld, Ho⟩
  rw [wp_pure]; imodintro
  isplitl [Hst Ho]; · iapply Hst; iexact Ho
  isplitl [Hheld]; · iexact Hheld
  isplitl [Hb]; · iexact Hb
  iexact Hts

/-- What the claims read of a device's final memory. -/
def fq (d : Dev nD) (s' : Phys nD τ sig (Elt F)) : Prop := ∀ b ∈ Pipeline.ucRefs τ sig, s'.mem.mem (d, b) = VE m d b

/-- The buffers held at the end are what the memory holds. -/
theorem hfin (d : Dev nD) (s' : Phys nD τ sig (Elt F)) :
    iprop(held (SparseCore.T d) (Pipeline.ucRefs τ sig) (VE m d) ∗ SI s') ⊢ (⌜fq m d s'⌝ : sProp 𝕄) := by
  unfold held
  iintro ⟨H, HSI⟩
  ihave %h := (SI_pointsTo_bufs_agree (qs := fun _ => fullShare) (Pipeline.ucRefs τ sig)) $$ [HSI H]
  · isplitl [HSI]; · iexact HSI
    iexact H
  ipureintro
  exact h

def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- The launch's ghost state: the handshakes', the layers' transfers' and the counters'. -/
theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (P (xi m) (xt m) (fo m)).x q thr) := by
  have he : ∀ {I : Type} (s : Finset I), (bigSep s fun _ => iprop(emp)) = (iprop(emp) : sProp 𝕄) := fun s => bigSep_emp_const s
  unfold u₀ GG
  iintro Hu
  ihave H := (own_rounds (initOf (K (F := F)).hsCells (K (F := F)).hsToks) _) $$ Hu
  icases H with ⟨HH, HP⟩
  imod (Pipeline.fund_ghost (Pipeline.pin (pcfgs (F := F)) adm) EP cellOf_inj) $$ HP with ⟨HG, HT⟩
  imodintro
  isplitl [HH]; · iexact HH
  isplitl [HG HT]
  · rw [bigSep_sep']
    isplitl [HG]; · iexact HG
    iexact HT
  rw [show (bigSep Finset.univ fun thr : Thread nD τ => bigSep Finset.univ fun q : Fin 1 => (P (xi m) (xt m) (fo m)).x q thr)
      = bigSep Finset.univ fun _ => iprop(emp) from bigSep_congr fun _ _ => bigSep_univ_of_subsingleton (0 : Fin 1), he]
  iempintro

/-- Every run ends, the buffers as computed and every semaphore at zero. -/
theorem run_main [∀ e, Nonempty (Elt F e)] (hx : ∀ d j, (xi m d j).toNat < 2600000) :
    θ_run (Cert.KernelIdeal.defs (F := F)) (Cert.KernelIdeal.threads (F := F)) ⟨m, fun _ => 0, ρ⟩
      (fun r => (∀ (d : Dev nD), ∀ b ∈ Pipeline.ucRefs τ sig, r.2.mem (d, b) = VE m d b) ∧ r.2.sem = fun _ => 0) :=
  SparseCore.Cfg.θ_run_sc_quiescent (K := K (F := F)) (D := D (F := F)) (𝒱 := 𝒱) (EH := EH) (P := P (xi m) (xt m) (fo m)) (A := ∅) facts v₀
    (fun q hq => match q with | 0 => nomatch hq)
    (fun q _ => match q with | 0 => tileObl (xi m) (xt m) (fo m) hx)
    (fun q _ => match q with | 0 => SparseCore.Cfg.VecSplit.of_plain (vecSplit (xi m) (xt m) (fo m)))
    m ρ main (fun d => GG d) (fun d => held (SparseCore.T d) (Pipeline.ucRefs τ sig) (VE m d)) (u₀ (F := F)) (sep_elim_left.trans (hu₀ m)) (hmain m ρ)
    (fq m) (hfin m) _ (fun _ h hz => ⟨h, hz⟩)

end Cert.Proof.ScKI

end
-- ==== Proof.ScKI.Value.lean ====
/-
  What the program leaves in its buffers, read off the launch memory: its arguments as they were, and element
  `(b, 16 f + k)` of the gathered rows the tables' element `(f, category (b, f), k)`, for categories in range.
-/
module

public import proofs.«01_k».proof.Proof.ScKI.Main
public import Idealize.ShloMosaic.Lib.PointwiseCore

@[expose] public section

set_option maxRecDepth 16384

noncomputable section

namespace Cert.Proof.ScKI

open Cert.KernelIdeal Cert.KernelIdeal.Gen
open Idealize.ShloMosaic Idealize.ShloMosaic.TcCoe
open Idealize.ShloMosaic.StableHlo (after launchContents)
open Idealize.SL.Sem

variable {F : FTy → Type} [FloatOps F]

variable (m : (ℓ : Loc nD τ sig) → Buf (Elt F) ℓ)

/-- The categories and the tables at launch. -/
abbrev cat (d : Dev nD) : IVec S16384x26 32 := m ((d.tc : Thread nD τ).loc main_arg1)
abbrev tab (d : Dev nD) : S26x100000x16.Idx → Elt F .f32 := m ((d.tc : Thread nD τ).loc main_arg2)

/-- The indices: each category plus its field's offset, laid out in a row. -/
theorem xi_eq (d : Dev nD) : xi m d = shapeCast S1x425984 (addi (cat m d) (broadcastInDim S16384x26 ![0, 1] bcast_S1x26_S16384x26_0_1
    (broadcastInDim S1x26 ![1] bcast_S26_S1x26_1 (muli (iotaInDim S26 32 0) (broadcastInDim S26 ![] bcast_S_S26 (constantI S_ 32 100000#32)))))) shapeCasts_S16384x26_S1x425984 := by
  unfold xi V1 ops0
  after_results <;> rfl

/-- The table: the tables one after another. -/
theorem xt_eq (d : Dev nD) : xt m d = shapeCast S2600000x16 (tab m d) shapeCasts_S26x100000x16_S2600000x16 := by
  unfold xt V1 ops0
  after_results <;> rfl

/-- What the host operations and the calls write. -/
def written : List (Ref sig .tc) :=
  [main_v0, main_c, main_v1, main_v2, main_v3, main_v4, main_v5, main_v6, main_v7, main_v8, main_v9, main_v10, main_v11, main_v12,
    main_v13_0, main_v13_1, main_v14, main_v15, main_v16, main_v17_0, main_v17_1, main_v18, main_v19, main_v20,
    main_v21_0, main_v21_1, main_v22, main_v23, main_v24, main_v25]

/-- A written buffer is among the written ones. -/
theorem sub_written {y : Ref sig .tc} (h : y ∈ written) :
    ({Proc.devRef .tc y} : Finset (DevRef τ sig)) ⊆ (written.map (Proc.devRef (τ := τ) .tc)).toFinset :=
  Finset.singleton_subset_iff.mpr (List.mem_toFinset.mpr (List.mem_map_of_mem h))

section
variable {r : Ref sig .tc} (d : Dev nD) (hr : r ∉ written)
include hr

/-- Before the gather call, what is not written is as it was at launch; so after it and at every later point. -/
theorem V2_keep : V2 m d (Proc.devRef .tc r) = launchContents m d (Proc.devRef .tc r) := by
  have h8 : r ≠ main_v8 := fun e => hr (e ▸ by decide)
  refine (Function.update_of_ne (fun e => h8 (Proc.devRef_injective _ e)) _ _).trans ?_
  exact StableHlo.after_of_writes_sub (W := written) _ _ (by
    simp only [ops0, List.forall_cons, List.Forall, and_true]
    refine ⟨?_, ?_, ?_, ?_, ?_, ?_, ?_, ?_, ?_⟩ <;> exact sub_written (by decide)) hr

/-- As it enters the first layer. -/
theorem VA_keep : VA m d (Proc.devRef .tc r) = launchContents m d (Proc.devRef .tc r) :=
  (StableHlo.after_of_writes_sub (W := written) _ _ (by
    simp only [ops1, List.forall_cons, List.Forall, and_true]
    refine ⟨?_, ?_, ?_, ?_⟩ <;> exact sub_written (by decide)) hr).trans (V2_keep m d hr)

/-- As the first layer leaves it. -/
theorem RA_keep : RA m d (Proc.devRef .tc r) = launchContents m d (Proc.devRef .tc r) :=
  (Pipeline.afterRegion_keeps _ _ launch1.win.arr_inj (fun _ => rfl) r (fun w e => by
    subst e; revert w; decide)).trans (VA_keep m d hr)

/-- As it enters the second layer. -/
theorem VB_keep : VB m d (Proc.devRef .tc r) = launchContents m d (Proc.devRef .tc r) :=
  (StableHlo.after_of_writes_sub (W := written) _ _ (by
    simp only [ops2, List.forall_cons, List.Forall, and_true]
    refine ⟨?_, ?_, ?_⟩ <;> exact sub_written (by decide)) hr).trans (RA_keep m d hr)

/-- As the second layer leaves it. -/
theorem RB_keep : RB m d (Proc.devRef .tc r) = launchContents m d (Proc.devRef .tc r) :=
  (Pipeline.afterRegion_keeps _ _ launch2.win.arr_inj (fun _ => rfl) r (fun w e => by
    subst e; revert w; decide)).trans (VB_keep m d hr)

/-- As it enters the third layer. -/
theorem VC_keep : VC m d (Proc.devRef .tc r) = launchContents m d (Proc.devRef .tc r) :=
  (StableHlo.after_of_writes_sub (W := written) _ _ (by
    simp only [ops3, List.forall_cons, List.Forall, and_true]
    refine ⟨?_, ?_, ?_⟩ <;> exact sub_written (by decide)) hr).trans (RB_keep m d hr)

/-- As the third layer leaves it. -/
theorem RC_keep : RC m d (Proc.devRef .tc r) = launchContents m d (Proc.devRef .tc r) :=
  (Pipeline.afterRegion_keeps _ _ launch3.win.arr_inj (fun _ => rfl) r (fun w e => by
    subst e; revert w; decide)).trans (VC_keep m d hr)

/-- As it enters the last layer. -/
theorem VD_keep : VD m d (Proc.devRef .tc r) = launchContents m d (Proc.devRef .tc r) :=
  (StableHlo.after_of_writes_sub (W := written) _ _ (by
    simp only [ops4, List.forall_cons, List.Forall, and_true]
    refine ⟨?_, ?_, ?_⟩ <;> exact sub_written (by decide)) hr).trans (RC_keep m d hr)

/-- At the end. -/
theorem VE_keep : VE m d (Proc.devRef .tc r) = launchContents m d (Proc.devRef .tc r) :=
  (Pipeline.afterRegion_keeps _ _ launch4.win.arr_inj (fun _ => rfl) r (fun w e => by
    subst e; revert w; decide)).trans (VD_keep m d hr)

end

variable (hc : ∀ d j, (cat m d j).toNat < 100000)

/-- An index is its category plus a hundred thousand times its field. -/
theorem xi_at (d : Dev nD) (n : Fin 425984) : xi m d (ix2 (0 : Fin 1) n)
    = cat m d (ix2 (⟨n.val / 26, by omega⟩ : Fin 16384) (⟨n.val % 26, by omega⟩ : Fin 26)) + BitVec.ofNat 32 (n.val % 26) * 100000#32 := by
  rw [xi_eq]
  pointwise
  rfl

include hc in
/-- As a number. -/
theorem xi_toNat (d : Dev nD) (n : Fin 425984) : (xi m d (ix2 (0 : Fin 1) n)).toNat
    = (cat m d (ix2 (⟨n.val / 26, by omega⟩ : Fin 16384) (⟨n.val % 26, by omega⟩ : Fin 26))).toNat + n.val % 26 * 100000 := by
  have h := hc d (ix2 (⟨n.val / 26, by omega⟩ : Fin 16384) (⟨n.val % 26, by omega⟩ : Fin 26))
  rw [xi_at, BitVec.toNat_add, BitVec.toNat_mul, BitVec.toNat_ofNat, BitVec.toNat_ofNat]
  omega

include hc in
/-- Every index is a row of the table. -/
theorem xi_lt (d : Dev nD) (j : S1x425984.Idx) : (xi m d j).toNat < 2600000 := by
  obtain ⟨a, n, rfl⟩ : ∃ (a : Fin 1) (n : Fin 425984), j = ix2 a n := ⟨j 0, j 1, eq_ix2 j⟩
  obtain rfl : a = 0 := Subsingleton.elim _ _
  rw [xi_toNat m hc]
  have h := hc d (ix2 (⟨n.val / 26, by omega⟩ : Fin 16384) (⟨n.val % 26, by omega⟩ : Fin 26))
  omega

include hc in
/-- The word that output row `26 b + f` is gathered by. -/
theorem word_toNat (d : Dev nD) (b : Fin 16384) (f : Fin 26) :
    (word (xi m d) (b.val * 26 + f.val)).toNat = (cat m d (ix2 b f)).toNat + f.val * 100000 := by
  have hn : b.val * 26 + f.val < 425984 := by omega
  have hb : (⟨(b.val * 26 + f.val) / 26, by omega⟩ : Fin 16384) = b := Fin.ext (by show (b.val * 26 + f.val) / 26 = b.val; omega)
  have hf : (⟨(b.val * 26 + f.val) % 26, by omega⟩ : Fin 26) = f := Fin.ext (by show (b.val * 26 + f.val) % 26 = f.val; omega)
  have h := xi_toNat m hc d ⟨b.val * 26 + f.val, hn⟩
  simp only [hb, hf] at h
  rw [show word (xi m d) (b.val * 26 + f.val) = _ from dif_pos hn, h]
  omega

include hc in
/-- Element `(b, c)` of the result. -/
theorem out_apply (d : Dev nD) (b : Fin 16384) (c : Fin 416) :
    shapeCast S16384x416 (gath (xi m d) (xt m d)) shapeCasts_S425984x16_S16384x416 (ix2 b c)
      = tab m d (ix3 (⟨c.val / 16, by omega⟩ : Fin 26)
          (⟨(cat m d (ix2 b (⟨c.val / 16, by omega⟩ : Fin 26))).toNat, hc d _⟩ : Fin 100000) (⟨c.val % 16, by omega⟩ : Fin 16)) := by
  pointwise
  have hw := word_toNat m hc d b (⟨c.val / 16, by omega⟩ : Fin 26)
  have h := hc d (ix2 b (⟨c.val / 16, by omega⟩ : Fin 26))
  show xt m d (ix2 (⟨(word (xi m d) (b.val * 26 + c.val / 16)).toNat % 2600000, _⟩ : Fin 2600000) (⟨c.val % 16, _⟩ : Fin 16)) = _
  rw [xt_eq]
  pointwise
  refine congrArg (tab m d) ?_
  rw [ix3_inj]
  refine ⟨Fin.ext ?_, Fin.ext ?_, rfl⟩ <;> simp only at hw ⊢ <;> omega

include hc in
/-- Every run ends with the result as computed, the arguments unchanged and every semaphore at zero. -/
theorem run_value [∀ e, Nonempty (Elt F e)] (ρ : Dev nD → PrngReg) :
    θ_run (Cert.KernelIdeal.defs (F := F)) (Cert.KernelIdeal.threads (F := F)) ⟨m, fun _ => 0, ρ⟩
      (fun r => (∀ d : Dev nD,
        r.2.mem ((d.tc : Thread nD τ).loc main_v25) = VE m d (Proc.devRef .tc main_v25)
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6)
        ∧ r.2.mem ((d.tc : Thread nD τ).loc main_arg7) = m ((d.tc : Thread nD τ).loc main_arg7)
        ∧ r.2.mem ((d.tc : Thread nD τ).loc main_arg8) = m ((d.tc : Thread nD τ).loc main_arg8)
        ∧ r.2.mem ((d.tc : Thread nD τ).loc main_arg9) = m ((d.tc : Thread nD τ).loc main_arg9)
        ∧ r.2.mem ((d.tc : Thread nD τ).loc main_arg10) = m ((d.tc : Thread nD τ).loc main_arg10)
        ∧ r.2.mem ((d.tc : Thread nD τ).loc main_arg11) = m ((d.tc : Thread nD τ).loc main_arg11)
        ∧ r.2.mem ((d.tc : Thread nD τ).loc main_arg12) = m ((d.tc : Thread nD τ).loc main_arg12)
        ∧ r.2.mem ((d.tc : Thread nD τ).loc main_arg13) = m ((d.tc : Thread nD τ).loc main_arg13)
        ∧ r.2.mem ((d.tc : Thread nD τ).loc main_arg14) = m ((d.tc : Thread nD τ).loc main_arg14)
        ∧ r.2.mem ((d.tc : Thread nD τ).loc main_arg15) = m ((d.tc : Thread nD τ).loc main_arg15)
        ∧ r.2.mem ((d.tc : Thread nD τ).loc main_arg16) = m ((d.tc : Thread nD τ).loc main_arg16))
        ∧ r.2.sem = fun _ => 0) := by
  refine (θ_run _ _ _).mono (fun r h => ⟨fun d => ⟨h.1 d (Proc.devRef .tc main_v25) (by decide), ?_⟩, h.2⟩) (run_main m ρ (xi_lt m hc))
  have keep : ∀ b : Ref sig .tc, Proc.devRef .tc b ∈ Pipeline.ucRefs τ sig → b ∉ written →
      r.2.mem ((d.tc : Thread nD τ).loc b) = m ((d.tc : Thread nD τ).loc b) :=
    fun b hu hb => (h.1 d (Proc.devRef .tc b) hu).trans (VE_keep m d hb)
  exact ⟨keep main_arg0 (by decide) (by decide), keep main_arg1 (by decide) (by decide), keep main_arg2 (by decide) (by decide), keep main_arg3 (by decide) (by decide), keep main_arg4 (by decide) (by decide), keep main_arg5 (by decide) (by decide), keep main_arg6 (by decide) (by decide), keep main_arg7 (by decide) (by decide), keep main_arg8 (by decide) (by decide), keep main_arg9 (by decide) (by decide), keep main_arg10 (by decide) (by decide), keep main_arg11 (by decide) (by decide), keep main_arg12 (by decide) (by decide), keep main_arg13 (by decide) (by decide), keep main_arg14 (by decide) (by decide), keep main_arg15 (by decide) (by decide), keep main_arg16 (by decide) (by decide)⟩

end Cert.Proof.ScKI

end
-- ==== Proof.Norm.lean ====
/-
  Batch normalization of one column of real numbers, in the kernel's form (the sums of the entries and of their squares,
  a scale and a shift) and in the reference's (the mean of the squared deviations, a quotient): the two agree.
-/
module

public import Idealize.ShloMosaic.Lib.Pointwise

@[expose] public section

noncomputable section

namespace Cert.Proof.Norm

open Idealize.ShloMosaic

/-- An extended real that is a real number. -/
def IsReal (x : EReal) : Prop := ∃ r : ℝ, x = (r : EReal)

/-- A real number is one. -/
theorem IsReal.coe (r : ℝ) : IsReal (r : EReal) := ⟨r, rfl⟩

/-- Zero is a real number. -/
theorem IsReal.zero : IsReal 0 := ⟨0, rfl⟩

/-- A sum of two is one. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A difference of two is one. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The greater of two is one. -/
theorem IsReal.max {x y : EReal} (hx : IsReal x) (hy : IsReal y) : IsReal (max x y) := by
  rcases max_choice x y with h | h <;> rw [h] <;> assumption

/-- A finite sum of them is one. -/
theorem IsReal.sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- What is below the infinity in absolute value is a real number. -/
theorem isReal_of_abs_lt {x : EReal} (h : max x (-x) < ⊤) : IsReal x := by
  induction x with
  | bot => simp at h
  | top => simp at h
  | coe r => exact ⟨r, rfl⟩

/-- The sum of real numbers, taken there or among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The small number added to a variance. -/
abbrev eps : EReal := Ideal.ofBits .f32 0x3727C5AC#32
/-- One over the number of rows. -/
abbrev inv : EReal := Ideal.ofBits .f32 0x38800000#32
/-- The number of rows. -/
abbrev cnt : EReal := Ideal.ofBits .f32 0x46800000#32

/-- The constant added to the variance is a positive real number. -/
theorem eps_pos : ∃ e : ℝ, 0 < e ∧ eps = (e : EReal) := by
  refine ⟨_, ?_, by simp [eps, Ideal.ofBits, Ideal.ieee]; rfl⟩
  positivity

/-- The factor of the means is exactly one over the number of rows. -/
theorem inv_eq : inv = ((1 / 16384 : ℝ) : EReal) := by
  have h : inv = (((8388608 : ℝ) * (1 / 137438953472) : ℝ) : EReal) := by
    simp [inv, Ideal.ofBits, Ideal.ieee]
    norm_num
  rw [h]; norm_num

/-- The number of rows. -/
theorem cnt_eq : cnt = ((16384 : ℝ) : EReal) := by
  have h : cnt = (((8388608 : ℝ) * (1 / 512) : ℝ) : EReal) := by
    simp [cnt, Ideal.ofBits, Ideal.ieee]
    norm_num
  rw [h]; norm_num

/-- The kernel's normalized entry: from the sum of the column's entries and of their squares. -/
def bnK (S Q h g b : EReal) : EReal :=
  max (h * (g * Ideal.rsqrt (Q * inv - S * inv * (S * inv) + eps)) + (b - S * inv * (g * Ideal.rsqrt (Q * inv - S * inv * (S * inv) + eps)))) 0

/-- The reference's: from the mean and the mean of the squared deviations. -/
def bnR (M D h g b : EReal) : EReal :=
  max (Ideal.div (h - M) (Ideal.sqrt (D + eps)) * g + b) 0

/-- Over a column of real numbers they are one. -/
theorem bn_eq {N : ℕ} (hN : (N : ℝ) = 16384) (x : Fin N → ℝ) (g : ℝ) (b : EReal) (r : Fin N) :
    bnK (∑ i, (x i : EReal)) (∑ i, (x i : EReal) * (x i : EReal)) (x r) g b
      = bnR (Ideal.div (∑ i, (x i : EReal)) cnt)
          (Ideal.div (∑ i, ((x i : EReal) - Ideal.div (∑ i, (x i : EReal)) cnt) * ((x i : EReal) - Ideal.div (∑ i, (x i : EReal)) cnt)) cnt) (x r) g b := by
  obtain ⟨e, he, hee⟩ := eps_pos
  unfold bnK bnR
  rw [hee, inv_eq, cnt_eq, Ideal.div_coe (by norm_num), Ideal.div_coe (by norm_num)]
  simp only [← EReal.coe_mul, ← coe_sum, ← EReal.coe_sub, ← EReal.coe_add]
  set μ : ℝ := (∑ i, x i) * (1 / 16384) with hμ
  have hv : (∑ i, x i * x i) * (1 / 16384) - μ * μ = (∑ i, (x i - μ) * (x i - μ)) * (1 / 16384) := by
    have h1 : ∀ i, (x i - μ) * (x i - μ) = x i * x i - 2 * μ * x i + μ * μ := fun i => by ring
    simp only [h1, Finset.sum_add_distrib, Finset.sum_sub_distrib, ← Finset.mul_sum, Finset.sum_const, Finset.card_univ, Fintype.card_fin, nsmul_eq_mul]
    have h2 : ∑ i, x i = μ * 16384 := by rw [hμ]; ring
    rw [h2, hN]; ring
  rw [hv]
  set v : ℝ := (∑ i, (x i - μ) * (x i - μ)) * (1 / 16384) with hvdef
  have hv0 : 0 ≤ v := by
    rw [hvdef]
    exact mul_nonneg (Finset.sum_nonneg fun i _ => mul_self_nonneg _) (by norm_num)
  have hp : 0 < v + e := by linarith
  have hs : Real.sqrt (v + e) ≠ 0 := (Real.sqrt_pos.mpr hp).ne'
  rw [Ideal.rsqrt_coe, Ideal.sqrt_coe, if_neg (not_lt.mpr hp.le), if_neg hp.ne', if_neg (not_lt.mpr hp.le), Ideal.div_coe hs]
  simp only [← EReal.coe_mul]
  congr 1
  have hx : ∀ (a c : ℝ), (a : EReal) + (b - (c : EReal)) = ((a - c : ℝ) : EReal) + b := fun a c => by
    rw [sub_eq_add_neg, ← EReal.coe_neg, sub_eq_add_neg, EReal.coe_add, add_assoc, add_comm b]
  rw [hx]
  congr 2
  rw [one_div]; ring

/-- So the kernel's entry is a real number where the shift is one. -/
theorem bnR_real {N : ℕ} (hN : (N : ℝ) = 16384) (x : Fin N → ℝ) (g b : ℝ) (r : Fin N) :
    IsReal (bnK (∑ i, (x i : EReal)) (∑ i, (x i : EReal) * (x i : EReal)) (x r) g b) := by
  rw [bn_eq hN]
  obtain ⟨e, he, hee⟩ := eps_pos
  unfold bnR
  rw [hee, cnt_eq, Ideal.div_coe (by norm_num), Ideal.div_coe (by norm_num)]
  simp only [← EReal.coe_mul, ← coe_sum, ← EReal.coe_sub, ← EReal.coe_add]
  have hv0 : ∀ μ : ℝ, 0 ≤ (∑ i, (x i - μ) * (x i - μ)) * (1 / 16384) := fun μ =>
    mul_nonneg (Finset.sum_nonneg fun i _ => mul_self_nonneg _) (by norm_num)
  have hp : ∀ μ : ℝ, 0 < (∑ i, (x i - μ) * (x i - μ)) * (1 / 16384) + e := fun μ => by linarith [hv0 μ]
  rw [Ideal.sqrt_coe, if_neg (not_lt.mpr (hp _).le), Ideal.div_coe (Real.sqrt_pos.mpr (hp _)).ne']
  simp only [← EReal.coe_mul, ← EReal.coe_add]
  exact (IsReal.coe _).max .zero

/-- A dense layer. -/
def lin {R K N : ℕ} (x : Fin R → Fin K → EReal) (W : Fin K → Fin N → EReal) (b : Fin N → EReal) (r : Fin R) (c : Fin N) : EReal :=
  (∑ k, x r k * W k c) + b c

/-- A dense layer of real numbers is real. -/
theorem lin_real {R K N : ℕ} {x : Fin R → Fin K → EReal} {W : Fin K → Fin N → EReal} {b : Fin N → EReal}
    (hx : ∀ r k, IsReal (x r k)) (hW : ∀ k c, IsReal (W k c)) (hb : ∀ c, IsReal (b c)) (r : Fin R) (c : Fin N) : IsReal (lin x W b r c) :=
  (IsReal.sum _ fun k _ => (hx r k).mul (hW k c)).add (hb c)

/-- The normalized array, in the kernel's form. -/
def actK {K : ℕ} (h : Fin 16384 → Fin K → EReal) (g b : Fin K → EReal) (r : Fin 16384) (k : Fin K) : EReal :=
  bnK (∑ i, h i k) (∑ i, h i k * h i k) (h r k) (g k) (b k)

/-- The reference's mean of a column, and the mean of its squared deviations. -/
def mean {K : ℕ} (h : Fin 16384 → Fin K → EReal) (k : Fin K) : EReal := Ideal.div (∑ i, h i k) cnt
def dev {K : ℕ} (h : Fin 16384 → Fin K → EReal) (k : Fin K) : EReal :=
  Ideal.div (∑ i, (h i k - mean h k) * (h i k - mean h k)) cnt

/-- The normalized array, in the reference's form. -/
def actR {K : ℕ} (h : Fin 16384 → Fin K → EReal) (g b : Fin K → EReal) (r : Fin 16384) (k : Fin K) : EReal :=
  bnR (mean h k) (dev h k) (h r k) (g k) (b k)

/-- The two forms of the normalization agree on an array of real numbers. -/
theorem act_eq {K : ℕ} {h : Fin 16384 → Fin K → EReal} {g b : Fin K → EReal} (hh : ∀ r k, IsReal (h r k)) (hg : ∀ k, IsReal (g k)) :
    actK h g b = actR h g b := by
  funext r k
  choose x hx using fun i => hh i k
  obtain ⟨g', hg'⟩ := hg k
  unfold actK actR dev mean
  simp only [hx, hg']
  exact bn_eq (by norm_num) x g' (b k) r

/-- The normalized array of real numbers is real. -/
theorem act_real {K : ℕ} {h : Fin 16384 → Fin K → EReal} {g b : Fin K → EReal} (hh : ∀ r k, IsReal (h r k)) (hg : ∀ k, IsReal (g k))
    (hb : ∀ k, IsReal (b k)) (r : Fin 16384) (k : Fin K) : IsReal (actK h g b r k) := by
  choose x hx using fun i => hh i k
  obtain ⟨g', hg'⟩ := hg k
  obtain ⟨b', hb'⟩ := hb k
  unfold actK
  simp only [hx, hg', hb']
  exact bnR_real (by norm_num) x g' b' r

/-- The whole network after its first layer's rows: the kernel's form is the reference's. -/
theorem net_eq {A B C : ℕ} {h : Fin 16384 → Fin A → EReal} {g1 b1 : Fin A → EReal} {W2 : Fin A → Fin B → EReal} {c2 g2 b2 : Fin B → EReal}
    {W3 : Fin B → Fin C → EReal} {c3 g3 b3 : Fin C → EReal}
    (hh : ∀ r k, IsReal (h r k)) (hg1 : ∀ k, IsReal (g1 k)) (hb1 : ∀ k, IsReal (b1 k)) (hW2 : ∀ k c, IsReal (W2 k c)) (hc2 : ∀ k, IsReal (c2 k))
    (hg2 : ∀ k, IsReal (g2 k)) (hb2 : ∀ k, IsReal (b2 k)) (hW3 : ∀ k c, IsReal (W3 k c)) (hc3 : ∀ k, IsReal (c3 k)) (hg3 : ∀ k, IsReal (g3 k)) :
    actK (lin (actK (lin (actK h g1 b1) W2 c2) g2 b2) W3 c3) g3 b3 = actR (lin (actR (lin (actR h g1 b1) W2 c2) g2 b2) W3 c3) g3 b3 := by
  have h2 := lin_real (act_real hh hg1 hb1) hW2 hc2
  have h3 := lin_real (act_real h2 hg2 hb2) hW3 hc3
  rw [act_eq h3 hg3, act_eq h2 hg2, act_eq hh hg1]

/-- A sum over thirty-two blocks of five hundred and twelve rows. -/
theorem sum_blocks (f : Fin 16384 → EReal) : ∑ i, f i = ∑ t : Fin 32, ∑ r : Fin 512, f ⟨512 * t.val + r.val, by omega⟩ := by
  rw [Fin.sum_univ_tiles 32 512 rfl]
  refine Finset.sum_congr rfl fun t _ => Finset.sum_congr rfl fun r _ => congrArg f (Fin.ext ?_)
  show t.val * 512 + r.val = 512 * t.val + r.val
  omega

/-- A value added to at each of thirty-two points ends at the sum of what was added. -/
theorem acc_sum {f : ℕ → EReal} {g : Fin 32 → EReal} (h0 : f 0 = g 0) (hs : ∀ n (h : n + 1 < 32), f (n + 1) = f n + g ⟨n + 1, h⟩) :
    f 31 = ∑ t, g t := by
  have hn : ∀ n (h : n < 32), f n = ∑ t : Fin (n + 1), g ⟨t.val, by omega⟩ := by
    intro n
    induction n with
    | zero => intro h; rw [h0]; simp
    | succ n ih => intro h; rw [hs n h, ih (by omega), Fin.sum_univ_castSucc (n := n + 1)]; rfl
  exact hn 31 (by omega)

/-- A block's row, as a row of the array. -/
abbrev rowOf (n : ℕ) (hn : n < 32) (r : Fin 512) : Fin 16384 := ⟨512 * n + r.val, by omega⟩

/-- Every row of the array is a block's. -/
theorem exists_row (i : Fin 16384) : ∃ (t : Fin 32) (r : Fin 512), i = rowOf t.val t.isLt r :=
  ⟨⟨i.val / 512, by omega⟩, ⟨i.val % 512, by omega⟩, Fin.ext (by show i.val = 512 * (i.val / 512) + i.val % 512; omega)⟩

end Cert.Proof.Norm

end
-- ==== Proof.ScKI.Arr1.lean ====
/-
  The first layer's call at its arrays: the rows it leaves are the dense layer of the features and of the gathered rows, and the
  sums it leaves are those of its rows and of their squares.
-/
module

public import proofs.«01_k».proof.Proof.ScKI.Main
public import proofs.«01_k».proof.Proof.Norm
public import Idealize.ShloMosaic.Lib.IdealHost

@[expose] public section

set_option maxRecDepth 16384

noncomputable section

namespace Cert.Proof.ScKI

open Cert.KernelIdeal Cert.KernelIdeal.Gen
open Idealize.ShloMosaic Idealize.ShloMosaic.TcCoe
open Idealize.ShloMosaic.Pipeline (Dat)
open Cert.Proof.Norm

variable (V : Valuation τ sig (Elt Ideal))

/-- There are 32 steps. -/
theorem lt1 (t : Fin cfg1.N) : t.val < 32 := Nat.lt_of_lt_of_eq t.isLt N_1

/-! ## The blocks -/

/-- Which block this window takes at each step. -/
theorem idx1_0 : ∀ t : Fin cfg1.N, (cfg1.win 0).index t = ![t.val, 0] := by decide +kernel

/-- Where window 0's block lies. -/
theorem emb1_0 (t : Fin cfg1.N) (r : Fin 512) (k : Fin 13) :
    (((cfg1.win 0).blk t).view.emb (ix2 r k) : S16384x13.Idx) = ix2 (rowOf t.val (lt1 t) r) k := by
  funext a; apply Fin.ext
  refine ((cfg1.win 0).rect_emb_val t (ix2 r k) a).trans ?_
  rw [idx1_0]
  match a with
  | ⟨0, _⟩ => show t.val * 512 + r.val = 512 * t.val + r.val; omega
  | ⟨1, _⟩ => show 0 * 13 + k.val = k.val; omega

/-- This window's block, read off its array. -/
theorem blk1_0 (t : Fin cfg1.N) (r : Fin 512) (k : Fin 13) : (blk1 V 0 t : S512x13.Idx → EReal) (ix2 r k)
    = (V (Proc.devRef .tc main_arg0) : S16384x13.Idx → EReal) (ix2 (rowOf t.val (lt1 t) r) k) :=
  congrArg (V (Proc.devRef .tc main_arg0) : S16384x13.Idx → EReal) (emb1_0 t r k)

/-- Which block this window takes at each step. -/
theorem idx1_1 : ∀ t : Fin cfg1.N, (cfg1.win 1).index t = ![t.val, 0] := by decide +kernel

/-- Where window 1's block lies. -/
theorem emb1_1 (t : Fin cfg1.N) (r : Fin 512) (k : Fin 416) :
    (((cfg1.win 1).blk t).view.emb (ix2 r k) : S16384x416.Idx) = ix2 (rowOf t.val (lt1 t) r) k := by
  funext a; apply Fin.ext
  refine ((cfg1.win 1).rect_emb_val t (ix2 r k) a).trans ?_
  rw [idx1_1]
  match a with
  | ⟨0, _⟩ => show t.val * 512 + r.val = 512 * t.val + r.val; omega
  | ⟨1, _⟩ => show 0 * 416 + k.val = k.val; omega

/-- This window's block, read off its array. -/
theorem blk1_1 (t : Fin cfg1.N) (r : Fin 512) (k : Fin 416) : (blk1 V 1 t : S512x416.Idx → EReal) (ix2 r k)
    = (V (Proc.devRef .tc main_v9) : S16384x416.Idx → EReal) (ix2 (rowOf t.val (lt1 t) r) k) :=
  congrArg (V (Proc.devRef .tc main_v9) : S16384x416.Idx → EReal) (emb1_1 t r k)

/-- Which block this window takes at each step. -/
theorem idx1_2 : ∀ t : Fin cfg1.N, (cfg1.win 2).index t = ![0, 0] := by decide +kernel

/-- This window's block, read off its array. -/
theorem blk1_2 (t : Fin cfg1.N) (y : S13x512.Idx) : (blk1 V 2 t : S13x512.Idx → EReal) y = (V (Proc.devRef .tc main_v10) : S13x512.Idx → EReal) y := by
  have he : (((cfg1.win 2).blk t).view.emb y : S13x512.Idx) = y := by
    funext a; apply Fin.ext
    exact (cfg1.win 2).rect_emb_val_of_index_zero t a (by rw [idx1_2]; match a with | ⟨0, _⟩ => rfl | ⟨1, _⟩ => rfl) _
  exact congrArg (V (Proc.devRef .tc main_v10) : S13x512.Idx → EReal) he

/-- Which block this window takes at each step. -/
theorem idx1_3 : ∀ t : Fin cfg1.N, (cfg1.win 3).index t = ![0, 0] := by decide +kernel

/-- This window's block, read off its array. -/
theorem blk1_3 (t : Fin cfg1.N) (y : S416x512.Idx) : (blk1 V 3 t : S416x512.Idx → EReal) y = (V (Proc.devRef .tc main_v11) : S416x512.Idx → EReal) y := by
  have he : (((cfg1.win 3).blk t).view.emb y : S416x512.Idx) = y := by
    funext a; apply Fin.ext
    exact (cfg1.win 3).rect_emb_val_of_index_zero t a (by rw [idx1_3]; match a with | ⟨0, _⟩ => rfl | ⟨1, _⟩ => rfl) _
  exact congrArg (V (Proc.devRef .tc main_v11) : S416x512.Idx → EReal) he

/-- Which block this window takes at each step. -/
theorem idx1_4 : ∀ t : Fin cfg1.N, (cfg1.win 4).index t = ![0, 0] := by decide +kernel

/-- This window's block, read off its array. -/
theorem blk1_4 (t : Fin cfg1.N) (y : S1x512.Idx) : (blk1 V 4 t : S1x512.Idx → EReal) y = (V (Proc.devRef .tc main_v12) : S1x512.Idx → EReal) y := by
  have he : (((cfg1.win 4).blk t).view.emb y : S1x512.Idx) = y := by
    funext a; apply Fin.ext
    exact (cfg1.win 4).rect_emb_val_of_index_zero t a (by rw [idx1_4]; match a with | ⟨0, _⟩ => rfl | ⟨1, _⟩ => rfl) _
  exact congrArg (V (Proc.devRef .tc main_v12) : S1x512.Idx → EReal) he

/-! ## The payloads -/

/-- What a step computes, at a row and a column. -/
theorem pay1_apply (x0 : S512x13.Idx → EReal) (x1 : S512x416.Idx → EReal) (x2 : S13x512.Idx → EReal) (x3 : S416x512.Idx → EReal) (x4 : S1x512.Idx → EReal) (r : Fin 512) (c : Fin 512) : k1_pay1 (F := Ideal) x0 x2 x1 x3 x4 (ix2 r c)
    = ((∑ k, x0 (ix2 r k) * x2 (ix2 k c)) + ∑ k, x1 (ix2 r k) * x3 (ix2 k c)) + x4 (ix2 0 c) := by
  unfold k1_pay1
  pointwise

/-- The sums of a block's columns. -/
theorem own1_0 (x0 : S512x13.Idx → EReal) (x1 : S512x416.Idx → EReal) (x2 : S13x512.Idx → EReal) (x3 : S416x512.Idx → EReal) (x4 : S1x512.Idx → EReal) (c : Fin 512) : k1_pay2 (F := Ideal) x0 x2 x1 x3 x4 (ix2 0 c) = ∑ r : Fin 512, k1_pay1 (F := Ideal) x0 x2 x1 x3 x4 (ix2 r c) := by
  unfold k1_pay2
  pointwise

/-- The sums of the squares in a block's columns. -/
theorem own1_1 (x0 : S512x13.Idx → EReal) (x1 : S512x416.Idx → EReal) (x2 : S13x512.Idx → EReal) (x3 : S416x512.Idx → EReal) (x4 : S1x512.Idx → EReal) (c : Fin 512) : k1_pay2 (F := Ideal) x0 x2 x1 x3 x4 (ix2 1 c)
    = ∑ r : Fin 512, k1_pay1 (F := Ideal) x0 x2 x1 x3 x4 (ix2 r c) * k1_pay1 (F := Ideal) x0 x2 x1 x3 x4 (ix2 r c) := by
  unfold k1_pay2
  pointwise

/-- A later point adds its own sums. -/
theorem more1 (x0 : S512x13.Idx → EReal) (x1 : S512x416.Idx → EReal) (x2 : S13x512.Idx → EReal) (x3 : S416x512.Idx → EReal) (x4 : S1x512.Idx → EReal) (p : S2x512.Idx → EReal) (y : S2x512.Idx) : k1_pay3 (F := Ideal) x0 x2 x1 x3 x4 p y = p y + k1_pay2 (F := Ideal) x0 x2 x1 x3 x4 y := by
  unfold k1_pay3
  rw [shapeCast_self]
  rfl

/-! ## The arrays -/

/-- The rows the call leaves. -/
def outH1 (d : Dev nD) : S16384x512.Idx → EReal := (dat1 V d).arrAt 5 cfg1.N
/-- The sums the call leaves. -/
def outS1 (d : Dev nD) : S2x512.Idx → EReal := (dat1 V d).arrAt 6 cfg1.N

/-- Which block this window takes at each step. -/
theorem idx1_5 : ∀ t : Fin cfg1.N, (cfg1.win 5).index t = ![t.val, 0] := by decide +kernel

/-- Where window 5's block lies. -/
theorem emb1_5 (t : Fin cfg1.N) (r : Fin 512) (k : Fin 512) :
    (((cfg1.win 5).blk t).view.emb (ix2 r k) : S16384x512.Idx) = ix2 (rowOf t.val (lt1 t) r) k := by
  funext a; apply Fin.ext
  refine ((cfg1.win 5).rect_emb_val t (ix2 r k) a).trans ?_
  rw [idx1_5]
  match a with
  | ⟨0, _⟩ => show t.val * 512 + r.val = 512 * t.val + r.val; omega
  | ⟨1, _⟩ => show 0 * 512 + k.val = k.val; omega

/-- The rows of the array the call leaves are its points' rows. -/
theorem array1 (c : Dev nD) (t : Fin cfg1.N) (r : Fin 512) (k : Fin 512) :
    outH1 V c (ix2 (rowOf t.val (lt1 t) r) k) = (rows1 V t : S512x512.Idx → EReal) (ix2 r k) := by
  have hd : ∀ u u' : Fin cfg1.N, (cfg1.win 5).flush u = true → (cfg1.win 5).flush u' = true → u ≠ u' →
      Disjoint ((cfg1.win 5).blk u).view.set ((cfg1.win 5).blk u').view.set := fun u u' _ _ h =>
    (cfg1.win 5).disjoint_blk fun e => h (Fin.ext (by rw [idx1_5, idx1_5] at e; exact congrFun e 0))
  have h := congrFun ((dat1 V c).read_blk_arrAt_eq_flushed 5 hd cfg1.N t t.isLt (flush1_5 t)) (ix2 r k)
  rw [← emb1_5]
  exact h

/-- The last point. -/
abbrev last1 : Fin cfg1.N := ⟨31, Nat.lt_of_lt_of_eq (by decide) N_1.symm⟩

/-- Which block this window takes at each step. -/
theorem idx1_6 : ∀ t : Fin cfg1.N, (cfg1.win 6).index t = ![0, 0] := by decide +kernel

/-- The sums the call leaves are those after its last point. -/
theorem sums1 (c : Dev nD) (y : S2x512.Idx) : outS1 V c y = (acc1 V 31 : S2x512.Idx → EReal) y := by
  have hl : ∀ u : Fin cfg1.N, (cfg1.win 6).flush u = true → u = last1 := fun u hu => by
    have := (flush1_6 u).mp hu
    have := lt1 u
    exact Fin.ext (by show u.val = 31; omega)
  have h := congrFun ((dat1 V c).read_blk_arrAt_eq_flushed 6 (fun u u' hu hu' hne => absurd ((hl u hu).trans (hl u' hu').symm) hne) cfg1.N last1 last1.isLt
    ((flush1_6 last1).mpr rfl)) y
  have he : (((cfg1.win 6).blk last1).view.emb y : S2x512.Idx) = y := by
    funext a; apply Fin.ext
    exact (cfg1.win 6).rect_emb_val_of_index_zero last1 a (by rw [idx1_6]; match a with | ⟨0, _⟩ => rfl | ⟨1, _⟩ => rfl) _
  exact (congrArg ((dat1 V c).arrAt 6 cfg1.N : S2x512.Idx → EReal) he).symm.trans h

/-- A point, by its number. -/
abbrev pt1 (t : Fin 32) : Fin cfg1.N := ⟨t.val, Nat.lt_of_lt_of_eq t.isLt N_1.symm⟩

/-- The sums after the last step, over the blocks. -/
theorem acc1_0 (c : Fin 512) : (acc1 V 31 : S2x512.Idx → EReal) (ix2 0 c)
    = ∑ t : Fin 32, ∑ r : Fin 512, (rows1 V (pt1 t) : S512x512.Idx → EReal) (ix2 r c) := by
  refine acc_sum (f := fun n => (acc1 V n : S2x512.Idx → EReal) (ix2 0 c)) (g := fun t => ∑ r : Fin 512, (rows1 V (pt1 t) : S512x512.Idx → EReal) (ix2 r c)) ?_ fun n h => ?_
  · exact own1_0 _ _ _ _ _ c
  · have hn : n + 1 < cfg1.N := Nat.lt_of_lt_of_eq h N_1.symm
    show acc1 V (n + 1) (ix2 0 c) = _
    rw [acc1, dif_pos hn, more1, own1_0]
    rfl

/-- The sums of squares after the last step, over the blocks. -/
theorem acc1_1 (c : Fin 512) : (acc1 V 31 : S2x512.Idx → EReal) (ix2 1 c)
    = ∑ t : Fin 32, ∑ r : Fin 512, (rows1 V (pt1 t) : S512x512.Idx → EReal) (ix2 r c) * (rows1 V (pt1 t) : S512x512.Idx → EReal) (ix2 r c) := by
  refine acc_sum (f := fun n => (acc1 V n : S2x512.Idx → EReal) (ix2 1 c)) (g := fun t => ∑ r : Fin 512, (rows1 V (pt1 t) : S512x512.Idx → EReal) (ix2 r c) * (rows1 V (pt1 t) : S512x512.Idx → EReal) (ix2 r c)) ?_ fun n h => ?_
  · exact own1_1 _ _ _ _ _ c
  · have hn : n + 1 < cfg1.N := Nat.lt_of_lt_of_eq h N_1.symm
    show acc1 V (n + 1) (ix2 1 c) = _
    rw [acc1, dif_pos hn, more1, own1_1]
    rfl

/-- The sums left, as sums over the rows left. -/
theorem total1_0 (d : Dev nD) (c : Fin 512) : outS1 V d (ix2 0 c)
    = ∑ i : Fin 16384, outH1 V d (ix2 i c) := by
  rw [sums1, acc1_0, sum_blocks]
  exact Finset.sum_congr rfl fun t _ => Finset.sum_congr rfl fun r _ => (array1 V d (pt1 t) r c).symm

/-- The sums of squares left are those of the rows left. -/
theorem total1_1 (d : Dev nD) (c : Fin 512) : outS1 V d (ix2 1 c)
    = ∑ i : Fin 16384, outH1 V d (ix2 i c) * outH1 V d (ix2 i c) := by
  rw [sums1, acc1_1, sum_blocks]
  exact Finset.sum_congr rfl fun t _ => Finset.sum_congr rfl fun r _ => by
    rw [array1 V d (pt1 t) r c]

/-- The rows left: the dense layer of the features and of the gathered rows. -/
theorem layer1 (d : Dev nD) {X : S16384x13.Idx → EReal} {E : S16384x416.Idx → EReal} {A : S13x512.Idx → EReal} {B : S416x512.Idx → EReal} {b : S1x512.Idx → EReal}
    (hX : (V (Proc.devRef .tc main_arg0) : S16384x13.Idx → EReal) = X) (hE : (V (Proc.devRef .tc main_v9) : S16384x416.Idx → EReal) = E)
    (hA : (V (Proc.devRef .tc main_v10) : S13x512.Idx → EReal) = A) (hB : (V (Proc.devRef .tc main_v11) : S416x512.Idx → EReal) = B)
    (hb : (V (Proc.devRef .tc main_v12) : S1x512.Idx → EReal) = b) (i : Fin 16384) (c : Fin 512) :
    outH1 V d (ix2 i c) = ((∑ k, X (ix2 i k) * A (ix2 k c)) + ∑ k, E (ix2 i k) * B (ix2 k c)) + b (ix2 0 c) := by
  subst hX hE hA hB hb
  obtain ⟨t, r, rfl⟩ := exists_row i
  refine (array1 V d (pt1 t) r c).trans ((pay1_apply _ _ _ _ _ r c).trans ?_)
  simp only [blk1_0, blk1_1, blk1_2, blk1_3, blk1_4]

end Cert.Proof.ScKI

end
-- ==== Proof.ScKI.Arr2.lean ====
/-
  The second layer's call at its arrays: the rows it leaves are the dense layer of the normalized rows it is given, and the
  sums it leaves are those of its rows and of their squares.
-/
module

public import proofs.«01_k».proof.Proof.ScKI.Main
public import proofs.«01_k».proof.Proof.Norm
public import Idealize.ShloMosaic.Lib.IdealHost

@[expose] public section

set_option maxRecDepth 16384

noncomputable section

namespace Cert.Proof.ScKI

open Cert.KernelIdeal Cert.KernelIdeal.Gen
open Idealize.ShloMosaic Idealize.ShloMosaic.TcCoe
open Idealize.ShloMosaic.Pipeline (Dat)
open Cert.Proof.Norm

variable (V : Valuation τ sig (Elt Ideal))

/-- There are 32 steps. -/
theorem lt2 (t : Fin cfg2.N) : t.val < 32 := Nat.lt_of_lt_of_eq t.isLt N_2

/-! ## The blocks -/

/-- Which block this window takes at each step. -/
theorem idx2_0 : ∀ t : Fin cfg2.N, (cfg2.win 0).index t = ![t.val, 0] := by decide +kernel

/-- Where window 0's block lies. -/
theorem emb2_0 (t : Fin cfg2.N) (r : Fin 512) (k : Fin 512) :
    (((cfg2.win 0).blk t).view.emb (ix2 r k) : S16384x512.Idx) = ix2 (rowOf t.val (lt2 t) r) k := by
  funext a; apply Fin.ext
  refine ((cfg2.win 0).rect_emb_val t (ix2 r k) a).trans ?_
  rw [idx2_0]
  match a with
  | ⟨0, _⟩ => show t.val * 512 + r.val = 512 * t.val + r.val; omega
  | ⟨1, _⟩ => show 0 * 512 + k.val = k.val; omega

/-- This window's block, read off its array. -/
theorem blk2_0 (t : Fin cfg2.N) (r : Fin 512) (k : Fin 512) : (blk2 V 0 t : S512x512.Idx → EReal) (ix2 r k)
    = (V (Proc.devRef .tc main_v13_0) : S16384x512.Idx → EReal) (ix2 (rowOf t.val (lt2 t) r) k) :=
  congrArg (V (Proc.devRef .tc main_v13_0) : S16384x512.Idx → EReal) (emb2_0 t r k)

/-- Which block this window takes at each step. -/
theorem idx2_1 : ∀ t : Fin cfg2.N, (cfg2.win 1).index t = ![0, 0] := by decide +kernel

/-- This window's block, read off its array. -/
theorem blk2_1 (t : Fin cfg2.N) (y : S2x512.Idx) : (blk2 V 1 t : S2x512.Idx → EReal) y = (V (Proc.devRef .tc main_v13_1) : S2x512.Idx → EReal) y := by
  have he : (((cfg2.win 1).blk t).view.emb y : S2x512.Idx) = y := by
    funext a; apply Fin.ext
    exact (cfg2.win 1).rect_emb_val_of_index_zero t a (by rw [idx2_1]; match a with | ⟨0, _⟩ => rfl | ⟨1, _⟩ => rfl) _
  exact congrArg (V (Proc.devRef .tc main_v13_1) : S2x512.Idx → EReal) he

/-- Which block this window takes at each step. -/
theorem idx2_2 : ∀ t : Fin cfg2.N, (cfg2.win 2).index t = ![0, 0] := by decide +kernel

/-- This window's block, read off its array. -/
theorem blk2_2 (t : Fin cfg2.N) (y : S1x512.Idx) : (blk2 V 2 t : S1x512.Idx → EReal) y = (V (Proc.devRef .tc main_v14) : S1x512.Idx → EReal) y := by
  have he : (((cfg2.win 2).blk t).view.emb y : S1x512.Idx) = y := by
    funext a; apply Fin.ext
    exact (cfg2.win 2).rect_emb_val_of_index_zero t a (by rw [idx2_2]; match a with | ⟨0, _⟩ => rfl | ⟨1, _⟩ => rfl) _
  exact congrArg (V (Proc.devRef .tc main_v14) : S1x512.Idx → EReal) he

/-- Which block this window takes at each step. -/
theorem idx2_3 : ∀ t : Fin cfg2.N, (cfg2.win 3).index t = ![0, 0] := by decide +kernel

/-- This window's block, read off its array. -/
theorem blk2_3 (t : Fin cfg2.N) (y : S1x512.Idx) : (blk2 V 3 t : S1x512.Idx → EReal) y = (V (Proc.devRef .tc main_v15) : S1x512.Idx → EReal) y := by
  have he : (((cfg2.win 3).blk t).view.emb y : S1x512.Idx) = y := by
    funext a; apply Fin.ext
    exact (cfg2.win 3).rect_emb_val_of_index_zero t a (by rw [idx2_3]; match a with | ⟨0, _⟩ => rfl | ⟨1, _⟩ => rfl) _
  exact congrArg (V (Proc.devRef .tc main_v15) : S1x512.Idx → EReal) he

/-- Which block this window takes at each step. -/
theorem idx2_4 : ∀ t : Fin cfg2.N, (cfg2.win 4).index t = ![0, 0] := by decide +kernel

/-- This window's block, read off its array. -/
theorem blk2_4 (t : Fin cfg2.N) (y : S512x256.Idx) : (blk2 V 4 t : S512x256.Idx → EReal) y = (V (Proc.devRef .tc main_arg7) : S512x256.Idx → EReal) y := by
  have he : (((cfg2.win 4).blk t).view.emb y : S512x256.Idx) = y := by
    funext a; apply Fin.ext
    exact (cfg2.win 4).rect_emb_val_of_index_zero t a (by rw [idx2_4]; match a with | ⟨0, _⟩ => rfl | ⟨1, _⟩ => rfl) _
  exact congrArg (V (Proc.devRef .tc main_arg7) : S512x256.Idx → EReal) he

/-- Which block this window takes at each step. -/
theorem idx2_5 : ∀ t : Fin cfg2.N, (cfg2.win 5).index t = ![0, 0] := by decide +kernel

/-- This window's block, read off its array. -/
theorem blk2_5 (t : Fin cfg2.N) (y : S1x256.Idx) : (blk2 V 5 t : S1x256.Idx → EReal) y = (V (Proc.devRef .tc main_v16) : S1x256.Idx → EReal) y := by
  have he : (((cfg2.win 5).blk t).view.emb y : S1x256.Idx) = y := by
    funext a; apply Fin.ext
    exact (cfg2.win 5).rect_emb_val_of_index_zero t a (by rw [idx2_5]; match a with | ⟨0, _⟩ => rfl | ⟨1, _⟩ => rfl) _
  exact congrArg (V (Proc.devRef .tc main_v16) : S1x256.Idx → EReal) he

/-! ## The payloads -/

/-- What a step computes, at a row and a column. -/
theorem pay2_apply (x0 : S512x512.Idx → EReal) (x1 : S2x512.Idx → EReal) (x2 x3 : S1x512.Idx → EReal) (x4 : S512x256.Idx → EReal) (x5 : S1x256.Idx → EReal) (r : Fin 512) (c : Fin 256) : k2_pay3 (F := Ideal) x0 x1 x2 x3 x4 x5 (ix2 r c)
    = (∑ k, bnK (x1 (ix2 0 k)) (x1 (ix2 1 k)) (x0 (ix2 r k)) (x2 (ix2 0 k)) (x3 (ix2 0 k)) * x4 (ix2 k c)) + x5 (ix2 0 c) := by
  unfold k2_pay3 bnK
  pointwise

/-- The sums of a block's columns. -/
theorem own2_0 (x0 : S512x512.Idx → EReal) (x1 : S2x512.Idx → EReal) (x2 x3 : S1x512.Idx → EReal) (x4 : S512x256.Idx → EReal) (x5 : S1x256.Idx → EReal) (c : Fin 256) : own2 (F := Ideal) x0 x1 x2 x3 x4 x5 (ix2 0 c) = ∑ r : Fin 512, k2_pay3 (F := Ideal) x0 x1 x2 x3 x4 x5 (ix2 r c) := by
  unfold own2 k2_pay1 k2_pay4 k2_pay5
  pointwise

/-- The sums of the squares in a block's columns. -/
theorem own2_1 (x0 : S512x512.Idx → EReal) (x1 : S2x512.Idx → EReal) (x2 x3 : S1x512.Idx → EReal) (x4 : S512x256.Idx → EReal) (x5 : S1x256.Idx → EReal) (c : Fin 256) : own2 (F := Ideal) x0 x1 x2 x3 x4 x5 (ix2 1 c)
    = ∑ r : Fin 512, k2_pay3 (F := Ideal) x0 x1 x2 x3 x4 x5 (ix2 r c) * k2_pay3 (F := Ideal) x0 x1 x2 x3 x4 x5 (ix2 r c) := by
  unfold own2 k2_pay1 k2_pay4 k2_pay5
  pointwise

/-- A later point adds its own sums. -/
theorem more2 (x0 : S512x512.Idx → EReal) (x1 : S2x512.Idx → EReal) (x2 x3 : S1x512.Idx → EReal) (x4 : S512x256.Idx → EReal) (x5 : S1x256.Idx → EReal) (p : S2x256.Idx → EReal) (y : S2x256.Idx) :
    k2_pay2 (F := Ideal) (k2_pay4 x0 x1 x2 x3 x4 x5) (k2_pay5 x0 x1 x2 x3 x4 x5) p y = p y + own2 (F := Ideal) x0 x1 x2 x3 x4 x5 y := by
  unfold own2 k2_pay2
  rw [shapeCast_self]
  rfl

/-! ## The arrays -/

/-- The rows the call leaves. -/
def outH2 (d : Dev nD) : S16384x256.Idx → EReal := (dat2 V d).arrAt 6 cfg2.N
/-- The sums the call leaves. -/
def outS2 (d : Dev nD) : S2x256.Idx → EReal := (dat2 V d).arrAt 7 cfg2.N

/-- Which block this window takes at each step. -/
theorem idx2_6 : ∀ t : Fin cfg2.N, (cfg2.win 6).index t = ![t.val, 0] := by decide +kernel

/-- Where window 6's block lies. -/
theorem emb2_6 (t : Fin cfg2.N) (r : Fin 512) (k : Fin 256) :
    (((cfg2.win 6).blk t).view.emb (ix2 r k) : S16384x256.Idx) = ix2 (rowOf t.val (lt2 t) r) k := by
  funext a; apply Fin.ext
  refine ((cfg2.win 6).rect_emb_val t (ix2 r k) a).trans ?_
  rw [idx2_6]
  match a with
  | ⟨0, _⟩ => show t.val * 512 + r.val = 512 * t.val + r.val; omega
  | ⟨1, _⟩ => show 0 * 256 + k.val = k.val; omega

/-- The rows of the array the call leaves are its points' rows. -/
theorem array2 (c : Dev nD) (t : Fin cfg2.N) (r : Fin 512) (k : Fin 256) :
    outH2 V c (ix2 (rowOf t.val (lt2 t) r) k) = (rows2 V t : S512x256.Idx → EReal) (ix2 r k) := by
  have hd : ∀ u u' : Fin cfg2.N, (cfg2.win 6).flush u = true → (cfg2.win 6).flush u' = true → u ≠ u' →
      Disjoint ((cfg2.win 6).blk u).view.set ((cfg2.win 6).blk u').view.set := fun u u' _ _ h =>
    (cfg2.win 6).disjoint_blk fun e => h (Fin.ext (by rw [idx2_6, idx2_6] at e; exact congrFun e 0))
  have h := congrFun ((dat2 V c).read_blk_arrAt_eq_flushed 6 hd cfg2.N t t.isLt (flush2_6 t)) (ix2 r k)
  rw [← emb2_6]
  exact h

/-- The last point. -/
abbrev last2 : Fin cfg2.N := ⟨31, Nat.lt_of_lt_of_eq (by decide) N_2.symm⟩

/-- Which block this window takes at each step. -/
theorem idx2_7 : ∀ t : Fin cfg2.N, (cfg2.win 7).index t = ![0, 0] := by decide +kernel

/-- The sums the call leaves are those after its last point. -/
theorem sums2 (c : Dev nD) (y : S2x256.Idx) : outS2 V c y = (acc2 V 31 : S2x256.Idx → EReal) y := by
  have hl : ∀ u : Fin cfg2.N, (cfg2.win 7).flush u = true → u = last2 := fun u hu => by
    have := (flush2_7 u).mp hu
    have := lt2 u
    exact Fin.ext (by show u.val = 31; omega)
  have h := congrFun ((dat2 V c).read_blk_arrAt_eq_flushed 7 (fun u u' hu hu' hne => absurd ((hl u hu).trans (hl u' hu').symm) hne) cfg2.N last2 last2.isLt
    ((flush2_7 last2).mpr rfl)) y
  have he : (((cfg2.win 7).blk last2).view.emb y : S2x256.Idx) = y := by
    funext a; apply Fin.ext
    exact (cfg2.win 7).rect_emb_val_of_index_zero last2 a (by rw [idx2_7]; match a with | ⟨0, _⟩ => rfl | ⟨1, _⟩ => rfl) _
  exact (congrArg ((dat2 V c).arrAt 7 cfg2.N : S2x256.Idx → EReal) he).symm.trans h

/-- A point, by its number. -/
abbrev pt2 (t : Fin 32) : Fin cfg2.N := ⟨t.val, Nat.lt_of_lt_of_eq t.isLt N_2.symm⟩

/-- The sums after the last step, over the blocks. -/
theorem acc2_0 (c : Fin 256) : (acc2 V 31 : S2x256.Idx → EReal) (ix2 0 c)
    = ∑ t : Fin 32, ∑ r : Fin 512, (rows2 V (pt2 t) : S512x256.Idx → EReal) (ix2 r c) := by
  refine acc_sum (f := fun n => (acc2 V n : S2x256.Idx → EReal) (ix2 0 c)) (g := fun t => ∑ r : Fin 512, (rows2 V (pt2 t) : S512x256.Idx → EReal) (ix2 r c)) ?_ fun n h => ?_
  · exact own2_0 _ _ _ _ _ _ c
  · have hn : n + 1 < cfg2.N := Nat.lt_of_lt_of_eq h N_2.symm
    show acc2 V (n + 1) (ix2 0 c) = _
    rw [acc2, dif_pos hn, more2, own2_0]
    rfl

/-- The sums of squares after the last step, over the blocks. -/
theorem acc2_1 (c : Fin 256) : (acc2 V 31 : S2x256.Idx → EReal) (ix2 1 c)
    = ∑ t : Fin 32, ∑ r : Fin 512, (rows2 V (pt2 t) : S512x256.Idx → EReal) (ix2 r c) * (rows2 V (pt2 t) : S512x256.Idx → EReal) (ix2 r c) := by
  refine acc_sum (f := fun n => (acc2 V n : S2x256.Idx → EReal) (ix2 1 c)) (g := fun t => ∑ r : Fin 512, (rows2 V (pt2 t) : S512x256.Idx → EReal) (ix2 r c) * (rows2 V (pt2 t) : S512x256.Idx → EReal) (ix2 r c)) ?_ fun n h => ?_
  · exact own2_1 _ _ _ _ _ _ c
  · have hn : n + 1 < cfg2.N := Nat.lt_of_lt_of_eq h N_2.symm
    show acc2 V (n + 1) (ix2 1 c) = _
    rw [acc2, dif_pos hn, more2, own2_1]
    rfl

/-- The sums left, as sums over the rows left. -/
theorem total2_0 (d : Dev nD) (c : Fin 256) : outS2 V d (ix2 0 c)
    = ∑ i : Fin 16384, outH2 V d (ix2 i c) := by
  rw [sums2, acc2_0, sum_blocks]
  exact Finset.sum_congr rfl fun t _ => Finset.sum_congr rfl fun r _ => (array2 V d (pt2 t) r c).symm

/-- The sums of squares left are those of the rows left. -/
theorem total2_1 (d : Dev nD) (c : Fin 256) : outS2 V d (ix2 1 c)
    = ∑ i : Fin 16384, outH2 V d (ix2 i c) * outH2 V d (ix2 i c) := by
  rw [sums2, acc2_1, sum_blocks]
  exact Finset.sum_congr rfl fun t _ => Finset.sum_congr rfl fun r _ => by
    rw [array2 V d (pt2 t) r c]

/-- The rows left: the dense layer of the normalized rows. -/
theorem layer2 (d : Dev nD) (i : Fin 16384) (c : Fin 256) : outH2 V d (ix2 i c)
    = lin (fun i k => bnK ((V (Proc.devRef .tc main_v13_1) : S2x512.Idx → EReal) (ix2 0 k)) ((V (Proc.devRef .tc main_v13_1) : S2x512.Idx → EReal) (ix2 1 k))
        ((V (Proc.devRef .tc main_v13_0) : S16384x512.Idx → EReal) (ix2 i k)) ((V (Proc.devRef .tc main_v14) : S1x512.Idx → EReal) (ix2 0 k))
        ((V (Proc.devRef .tc main_v15) : S1x512.Idx → EReal) (ix2 0 k)))
      (fun k c => (V (Proc.devRef .tc main_arg7) : S512x256.Idx → EReal) (ix2 k c)) (fun c => (V (Proc.devRef .tc main_v16) : S1x256.Idx → EReal) (ix2 0 c)) i c := by
  obtain ⟨t, r, rfl⟩ := exists_row i
  refine (array2 V d (pt2 t) r c).trans ((pay2_apply _ _ _ _ _ _ r c).trans ?_)
  simp only [blk2_0, blk2_1, blk2_2, blk2_3, blk2_4, blk2_5]
  rfl

end Cert.Proof.ScKI

end
-- ==== Proof.ScKI.Arr3.lean ====
/-
  The third layer's call at its arrays: the rows it leaves are the dense layer of the normalized rows it is given, and the
  sums it leaves are those of its rows and of their squares.
-/
module

public import proofs.«01_k».proof.Proof.ScKI.Main
public import proofs.«01_k».proof.Proof.Norm
public import Idealize.ShloMosaic.Lib.IdealHost

@[expose] public section

set_option maxRecDepth 16384

noncomputable section

namespace Cert.Proof.ScKI

open Cert.KernelIdeal Cert.KernelIdeal.Gen
open Idealize.ShloMosaic Idealize.ShloMosaic.TcCoe
open Idealize.ShloMosaic.Pipeline (Dat)
open Cert.Proof.Norm

variable (V : Valuation τ sig (Elt Ideal))

/-- There are 32 steps. -/
theorem lt3 (t : Fin cfg3.N) : t.val < 32 := Nat.lt_of_lt_of_eq t.isLt N_3

/-! ## The blocks -/

/-- Which block this window takes at each step. -/
theorem idx3_0 : ∀ t : Fin cfg3.N, (cfg3.win 0).index t = ![t.val, 0] := by decide +kernel

/-- Where window 0's block lies. -/
theorem emb3_0 (t : Fin cfg3.N) (r : Fin 512) (k : Fin 256) :
    (((cfg3.win 0).blk t).view.emb (ix2 r k) : S16384x256.Idx) = ix2 (rowOf t.val (lt3 t) r) k := by
  funext a; apply Fin.ext
  refine ((cfg3.win 0).rect_emb_val t (ix2 r k) a).trans ?_
  rw [idx3_0]
  match a with
  | ⟨0, _⟩ => show t.val * 512 + r.val = 512 * t.val + r.val; omega
  | ⟨1, _⟩ => show 0 * 256 + k.val = k.val; omega

/-- This window's block, read off its array. -/
theorem blk3_0 (t : Fin cfg3.N) (r : Fin 512) (k : Fin 256) : (blk3 V 0 t : S512x256.Idx → EReal) (ix2 r k)
    = (V (Proc.devRef .tc main_v17_0) : S16384x256.Idx → EReal) (ix2 (rowOf t.val (lt3 t) r) k) :=
  congrArg (V (Proc.devRef .tc main_v17_0) : S16384x256.Idx → EReal) (emb3_0 t r k)

/-- Which block this window takes at each step. -/
theorem idx3_1 : ∀ t : Fin cfg3.N, (cfg3.win 1).index t = ![0, 0] := by decide +kernel

/-- This window's block, read off its array. -/
theorem blk3_1 (t : Fin cfg3.N) (y : S2x256.Idx) : (blk3 V 1 t : S2x256.Idx → EReal) y = (V (Proc.devRef .tc main_v17_1) : S2x256.Idx → EReal) y := by
  have he : (((cfg3.win 1).blk t).view.emb y : S2x256.Idx) = y := by
    funext a; apply Fin.ext
    exact (cfg3.win 1).rect_emb_val_of_index_zero t a (by rw [idx3_1]; match a with | ⟨0, _⟩ => rfl | ⟨1, _⟩ => rfl) _
  exact congrArg (V (Proc.devRef .tc main_v17_1) : S2x256.Idx → EReal) he

/-- Which block this window takes at each step. -/
theorem idx3_2 : ∀ t : Fin cfg3.N, (cfg3.win 2).index t = ![0, 0] := by decide +kernel

/-- This window's block, read off its array. -/
theorem blk3_2 (t : Fin cfg3.N) (y : S1x256.Idx) : (blk3 V 2 t : S1x256.Idx → EReal) y = (V (Proc.devRef .tc main_v18) : S1x256.Idx → EReal) y := by
  have he : (((cfg3.win 2).blk t).view.emb y : S1x256.Idx) = y := by
    funext a; apply Fin.ext
    exact (cfg3.win 2).rect_emb_val_of_index_zero t a (by rw [idx3_2]; match a with | ⟨0, _⟩ => rfl | ⟨1, _⟩ => rfl) _
  exact congrArg (V (Proc.devRef .tc main_v18) : S1x256.Idx → EReal) he

/-- Which block this window takes at each step. -/
theorem idx3_3 : ∀ t : Fin cfg3.N, (cfg3.win 3).index t = ![0, 0] := by decide +kernel

/-- This window's block, read off its array. -/
theorem blk3_3 (t : Fin cfg3.N) (y : S1x256.Idx) : (blk3 V 3 t : S1x256.Idx → EReal) y = (V (Proc.devRef .tc main_v19) : S1x256.Idx → EReal) y := by
  have he : (((cfg3.win 3).blk t).view.emb y : S1x256.Idx) = y := by
    funext a; apply Fin.ext
    exact (cfg3.win 3).rect_emb_val_of_index_zero t a (by rw [idx3_3]; match a with | ⟨0, _⟩ => rfl | ⟨1, _⟩ => rfl) _
  exact congrArg (V (Proc.devRef .tc main_v19) : S1x256.Idx → EReal) he

/-- Which block this window takes at each step. -/
theorem idx3_4 : ∀ t : Fin cfg3.N, (cfg3.win 4).index t = ![0, 0] := by decide +kernel

/-- This window's block, read off its array. -/
theorem blk3_4 (t : Fin cfg3.N) (y : S256x128.Idx) : (blk3 V 4 t : S256x128.Idx → EReal) y = (V (Proc.devRef .tc main_arg11) : S256x128.Idx → EReal) y := by
  have he : (((cfg3.win 4).blk t).view.emb y : S256x128.Idx) = y := by
    funext a; apply Fin.ext
    exact (cfg3.win 4).rect_emb_val_of_index_zero t a (by rw [idx3_4]; match a with | ⟨0, _⟩ => rfl | ⟨1, _⟩ => rfl) _
  exact congrArg (V (Proc.devRef .tc main_arg11) : S256x128.Idx → EReal) he

/-- Which block this window takes at each step. -/
theorem idx3_5 : ∀ t : Fin cfg3.N, (cfg3.win 5).index t = ![0, 0] := by decide +kernel

/-- This window's block, read off its array. -/
theorem blk3_5 (t : Fin cfg3.N) (y : S1x128.Idx) : (blk3 V 5 t : S1x128.Idx → EReal) y = (V (Proc.devRef .tc main_v20) : S1x128.Idx → EReal) y := by
  have he : (((cfg3.win 5).blk t).view.emb y : S1x128.Idx) = y := by
    funext a; apply Fin.ext
    exact (cfg3.win 5).rect_emb_val_of_index_zero t a (by rw [idx3_5]; match a with | ⟨0, _⟩ => rfl | ⟨1, _⟩ => rfl) _
  exact congrArg (V (Proc.devRef .tc main_v20) : S1x128.Idx → EReal) he

/-! ## The payloads -/

/-- What a step computes, at a row and a column. -/
theorem pay3_apply (x0 : S512x256.Idx → EReal) (x1 : S2x256.Idx → EReal) (x2 x3 : S1x256.Idx → EReal) (x4 : S256x128.Idx → EReal) (x5 : S1x128.Idx → EReal) (r : Fin 512) (c : Fin 128) : k3_pay3 (F := Ideal) x0 x1 x2 x3 x4 x5 (ix2 r c)
    = (∑ k, bnK (x1 (ix2 0 k)) (x1 (ix2 1 k)) (x0 (ix2 r k)) (x2 (ix2 0 k)) (x3 (ix2 0 k)) * x4 (ix2 k c)) + x5 (ix2 0 c) := by
  unfold k3_pay3 bnK
  pointwise

/-- The sums of a block's columns. -/
theorem own3_0 (x0 : S512x256.Idx → EReal) (x1 : S2x256.Idx → EReal) (x2 x3 : S1x256.Idx → EReal) (x4 : S256x128.Idx → EReal) (x5 : S1x128.Idx → EReal) (c : Fin 128) : own3 (F := Ideal) x0 x1 x2 x3 x4 x5 (ix2 0 c) = ∑ r : Fin 512, k3_pay3 (F := Ideal) x0 x1 x2 x3 x4 x5 (ix2 r c) := by
  unfold own3 k3_pay1 k3_pay4 k3_pay5
  pointwise

/-- The sums of the squares in a block's columns. -/
theorem own3_1 (x0 : S512x256.Idx → EReal) (x1 : S2x256.Idx → EReal) (x2 x3 : S1x256.Idx → EReal) (x4 : S256x128.Idx → EReal) (x5 : S1x128.Idx → EReal) (c : Fin 128) : own3 (F := Ideal) x0 x1 x2 x3 x4 x5 (ix2 1 c)
    = ∑ r : Fin 512, k3_pay3 (F := Ideal) x0 x1 x2 x3 x4 x5 (ix2 r c) * k3_pay3 (F := Ideal) x0 x1 x2 x3 x4 x5 (ix2 r c) := by
  unfold own3 k3_pay1 k3_pay4 k3_pay5
  pointwise

/-- A later point adds its own sums. -/
theorem more3 (x0 : S512x256.Idx → EReal) (x1 : S2x256.Idx → EReal) (x2 x3 : S1x256.Idx → EReal) (x4 : S256x128.Idx → EReal) (x5 : S1x128.Idx → EReal) (p : S2x128.Idx → EReal) (y : S2x128.Idx) :
    k3_pay2 (F := Ideal) (k3_pay4 x0 x1 x2 x3 x4 x5) (k3_pay5 x0 x1 x2 x3 x4 x5) p y = p y + own3 (F := Ideal) x0 x1 x2 x3 x4 x5 y := by
  unfold own3 k3_pay2
  rw [shapeCast_self]
  rfl

/-! ## The arrays -/

/-- The rows the call leaves. -/
def outH3 (d : Dev nD) : S16384x128.Idx → EReal := (dat3 V d).arrAt 6 cfg3.N
/-- The sums the call leaves. -/
def outS3 (d : Dev nD) : S2x128.Idx → EReal := (dat3 V d).arrAt 7 cfg3.N

/-- Which block this window takes at each step. -/
theorem idx3_6 : ∀ t : Fin cfg3.N, (cfg3.win 6).index t = ![t.val, 0] := by decide +kernel

/-- Where window 6's block lies. -/
theorem emb3_6 (t : Fin cfg3.N) (r : Fin 512) (k : Fin 128) :
    (((cfg3.win 6).blk t).view.emb (ix2 r k) : S16384x128.Idx) = ix2 (rowOf t.val (lt3 t) r) k := by
  funext a; apply Fin.ext
  refine ((cfg3.win 6).rect_emb_val t (ix2 r k) a).trans ?_
  rw [idx3_6]
  match a with
  | ⟨0, _⟩ => show t.val * 512 + r.val = 512 * t.val + r.val; omega
  | ⟨1, _⟩ => show 0 * 128 + k.val = k.val; omega

/-- The rows of the array the call leaves are its points' rows. -/
theorem array3 (c : Dev nD) (t : Fin cfg3.N) (r : Fin 512) (k : Fin 128) :
    outH3 V c (ix2 (rowOf t.val (lt3 t) r) k) = (rows3 V t : S512x128.Idx → EReal) (ix2 r k) := by
  have hd : ∀ u u' : Fin cfg3.N, (cfg3.win 6).flush u = true → (cfg3.win 6).flush u' = true → u ≠ u' →
      Disjoint ((cfg3.win 6).blk u).view.set ((cfg3.win 6).blk u').view.set := fun u u' _ _ h =>
    (cfg3.win 6).disjoint_blk fun e => h (Fin.ext (by rw [idx3_6, idx3_6] at e; exact congrFun e 0))
  have h := congrFun ((dat3 V c).read_blk_arrAt_eq_flushed 6 hd cfg3.N t t.isLt (flush3_6 t)) (ix2 r k)
  rw [← emb3_6]
  exact h

/-- The last point. -/
abbrev last3 : Fin cfg3.N := ⟨31, Nat.lt_of_lt_of_eq (by decide) N_3.symm⟩

/-- Which block this window takes at each step. -/
theorem idx3_7 : ∀ t : Fin cfg3.N, (cfg3.win 7).index t = ![0, 0] := by decide +kernel

/-- The sums the call leaves are those after its last point. -/
theorem sums3 (c : Dev nD) (y : S2x128.Idx) : outS3 V c y = (acc3 V 31 : S2x128.Idx → EReal) y := by
  have hl : ∀ u : Fin cfg3.N, (cfg3.win 7).flush u = true → u = last3 := fun u hu => by
    have := (flush3_7 u).mp hu
    have := lt3 u
    exact Fin.ext (by show u.val = 31; omega)
  have h := congrFun ((dat3 V c).read_blk_arrAt_eq_flushed 7 (fun u u' hu hu' hne => absurd ((hl u hu).trans (hl u' hu').symm) hne) cfg3.N last3 last3.isLt
    ((flush3_7 last3).mpr rfl)) y
  have he : (((cfg3.win 7).blk last3).view.emb y : S2x128.Idx) = y := by
    funext a; apply Fin.ext
    exact (cfg3.win 7).rect_emb_val_of_index_zero last3 a (by rw [idx3_7]; match a with | ⟨0, _⟩ => rfl | ⟨1, _⟩ => rfl) _
  exact (congrArg ((dat3 V c).arrAt 7 cfg3.N : S2x128.Idx → EReal) he).symm.trans h

/-- A point, by its number. -/
abbrev pt3 (t : Fin 32) : Fin cfg3.N := ⟨t.val, Nat.lt_of_lt_of_eq t.isLt N_3.symm⟩

/-- The sums after the last step, over the blocks. -/
theorem acc3_0 (c : Fin 128) : (acc3 V 31 : S2x128.Idx → EReal) (ix2 0 c)
    = ∑ t : Fin 32, ∑ r : Fin 512, (rows3 V (pt3 t) : S512x128.Idx → EReal) (ix2 r c) := by
  refine acc_sum (f := fun n => (acc3 V n : S2x128.Idx → EReal) (ix2 0 c)) (g := fun t => ∑ r : Fin 512, (rows3 V (pt3 t) : S512x128.Idx → EReal) (ix2 r c)) ?_ fun n h => ?_
  · exact own3_0 _ _ _ _ _ _ c
  · have hn : n + 1 < cfg3.N := Nat.lt_of_lt_of_eq h N_3.symm
    show acc3 V (n + 1) (ix2 0 c) = _
    rw [acc3, dif_pos hn, more3, own3_0]
    rfl

/-- The sums of squares after the last step, over the blocks. -/
theorem acc3_1 (c : Fin 128) : (acc3 V 31 : S2x128.Idx → EReal) (ix2 1 c)
    = ∑ t : Fin 32, ∑ r : Fin 512, (rows3 V (pt3 t) : S512x128.Idx → EReal) (ix2 r c) * (rows3 V (pt3 t) : S512x128.Idx → EReal) (ix2 r c) := by
  refine acc_sum (f := fun n => (acc3 V n : S2x128.Idx → EReal) (ix2 1 c)) (g := fun t => ∑ r : Fin 512, (rows3 V (pt3 t) : S512x128.Idx → EReal) (ix2 r c) * (rows3 V (pt3 t) : S512x128.Idx → EReal) (ix2 r c)) ?_ fun n h => ?_
  · exact own3_1 _ _ _ _ _ _ c
  · have hn : n + 1 < cfg3.N := Nat.lt_of_lt_of_eq h N_3.symm
    show acc3 V (n + 1) (ix2 1 c) = _
    rw [acc3, dif_pos hn, more3, own3_1]
    rfl

/-- The sums left, as sums over the rows left. -/
theorem total3_0 (d : Dev nD) (c : Fin 128) : outS3 V d (ix2 0 c)
    = ∑ i : Fin 16384, outH3 V d (ix2 i c) := by
  rw [sums3, acc3_0, sum_blocks]
  exact Finset.sum_congr rfl fun t _ => Finset.sum_congr rfl fun r _ => (array3 V d (pt3 t) r c).symm

/-- The sums of squares left are those of the rows left. -/
theorem total3_1 (d : Dev nD) (c : Fin 128) : outS3 V d (ix2 1 c)
    = ∑ i : Fin 16384, outH3 V d (ix2 i c) * outH3 V d (ix2 i c) := by
  rw [sums3, acc3_1, sum_blocks]
  exact Finset.sum_congr rfl fun t _ => Finset.sum_congr rfl fun r _ => by
    rw [array3 V d (pt3 t) r c]

/-- The rows left: the dense layer of the normalized rows. -/
theorem layer3 (d : Dev nD) (i : Fin 16384) (c : Fin 128) : outH3 V d (ix2 i c)
    = lin (fun i k => bnK ((V (Proc.devRef .tc main_v17_1) : S2x256.Idx → EReal) (ix2 0 k)) ((V (Proc.devRef .tc main_v17_1) : S2x256.Idx → EReal) (ix2 1 k))
        ((V (Proc.devRef .tc main_v17_0) : S16384x256.Idx → EReal) (ix2 i k)) ((V (Proc.devRef .tc main_v18) : S1x256.Idx → EReal) (ix2 0 k))
        ((V (Proc.devRef .tc main_v19) : S1x256.Idx → EReal) (ix2 0 k)))
      (fun k c => (V (Proc.devRef .tc main_arg11) : S256x128.Idx → EReal) (ix2 k c)) (fun c => (V (Proc.devRef .tc main_v20) : S1x128.Idx → EReal) (ix2 0 c)) i c := by
  obtain ⟨t, r, rfl⟩ := exists_row i
  refine (array3 V d (pt3 t) r c).trans ((pay3_apply _ _ _ _ _ _ r c).trans ?_)
  simp only [blk3_0, blk3_1, blk3_2, blk3_3, blk3_4, blk3_5]
  rfl

end Cert.Proof.ScKI

end
-- ==== Proof.ScKI.Arr4.lean ====
/-
  The last layer's call at its arrays: the rows it leaves are the dense layer of the normalized rows it is given.
-/
module

public import proofs.«01_k».proof.Proof.ScKI.Main
public import proofs.«01_k».proof.Proof.Norm
public import Idealize.ShloMosaic.Lib.IdealHost

@[expose] public section

set_option maxRecDepth 16384

noncomputable section

namespace Cert.Proof.ScKI

open Cert.KernelIdeal Cert.KernelIdeal.Gen
open Idealize.ShloMosaic Idealize.ShloMosaic.TcCoe
open Idealize.ShloMosaic.Pipeline (Dat)
open Cert.Proof.Norm

variable (V : Valuation τ sig (Elt Ideal))

/-- There are 32 steps. -/
theorem lt4 (t : Fin cfg4.N) : t.val < 32 := Nat.lt_of_lt_of_eq t.isLt N_4

/-! ## The blocks -/

/-- Which block this window takes at each step. -/
theorem idx4_0 : ∀ t : Fin cfg4.N, (cfg4.win 0).index t = ![t.val, 0] := by decide +kernel

/-- Where window 0's block lies. -/
theorem emb4_0 (t : Fin cfg4.N) (r : Fin 512) (k : Fin 128) :
    (((cfg4.win 0).blk t).view.emb (ix2 r k) : S16384x128.Idx) = ix2 (rowOf t.val (lt4 t) r) k := by
  funext a; apply Fin.ext
  refine ((cfg4.win 0).rect_emb_val t (ix2 r k) a).trans ?_
  rw [idx4_0]
  match a with
  | ⟨0, _⟩ => show t.val * 512 + r.val = 512 * t.val + r.val; omega
  | ⟨1, _⟩ => show 0 * 128 + k.val = k.val; omega

/-- This window's block, read off its array. -/
theorem blk4_0 (t : Fin cfg4.N) (r : Fin 512) (k : Fin 128) : (blk4 V 0 t : S512x128.Idx → EReal) (ix2 r k)
    = (V (Proc.devRef .tc main_v21_0) : S16384x128.Idx → EReal) (ix2 (rowOf t.val (lt4 t) r) k) :=
  congrArg (V (Proc.devRef .tc main_v21_0) : S16384x128.Idx → EReal) (emb4_0 t r k)

/-- Which block this window takes at each step. -/
theorem idx4_1 : ∀ t : Fin cfg4.N, (cfg4.win 1).index t = ![0, 0] := by decide +kernel

/-- This window's block, read off its array. -/
theorem blk4_1 (t : Fin cfg4.N) (y : S2x128.Idx) : (blk4 V 1 t : S2x128.Idx → EReal) y = (V (Proc.devRef .tc main_v21_1) : S2x128.Idx → EReal) y := by
  have he : (((cfg4.win 1).blk t).view.emb y : S2x128.Idx) = y := by
    funext a; apply Fin.ext
    exact (cfg4.win 1).rect_emb_val_of_index_zero t a (by rw [idx4_1]; match a with | ⟨0, _⟩ => rfl | ⟨1, _⟩ => rfl) _
  exact congrArg (V (Proc.devRef .tc main_v21_1) : S2x128.Idx → EReal) he

/-- Which block this window takes at each step. -/
theorem idx4_2 : ∀ t : Fin cfg4.N, (cfg4.win 2).index t = ![0, 0] := by decide +kernel

/-- This window's block, read off its array. -/
theorem blk4_2 (t : Fin cfg4.N) (y : S1x128.Idx) : (blk4 V 2 t : S1x128.Idx → EReal) y = (V (Proc.devRef .tc main_v22) : S1x128.Idx → EReal) y := by
  have he : (((cfg4.win 2).blk t).view.emb y : S1x128.Idx) = y := by
    funext a; apply Fin.ext
    exact (cfg4.win 2).rect_emb_val_of_index_zero t a (by rw [idx4_2]; match a with | ⟨0, _⟩ => rfl | ⟨1, _⟩ => rfl) _
  exact congrArg (V (Proc.devRef .tc main_v22) : S1x128.Idx → EReal) he

/-- Which block this window takes at each step. -/
theorem idx4_3 : ∀ t : Fin cfg4.N, (cfg4.win 3).index t = ![0, 0] := by decide +kernel

/-- This window's block, read off its array. -/
theorem blk4_3 (t : Fin cfg4.N) (y : S1x128.Idx) : (blk4 V 3 t : S1x128.Idx → EReal) y = (V (Proc.devRef .tc main_v23) : S1x128.Idx → EReal) y := by
  have he : (((cfg4.win 3).blk t).view.emb y : S1x128.Idx) = y := by
    funext a; apply Fin.ext
    exact (cfg4.win 3).rect_emb_val_of_index_zero t a (by rw [idx4_3]; match a with | ⟨0, _⟩ => rfl | ⟨1, _⟩ => rfl) _
  exact congrArg (V (Proc.devRef .tc main_v23) : S1x128.Idx → EReal) he

/-- Which block this window takes at each step. -/
theorem idx4_4 : ∀ t : Fin cfg4.N, (cfg4.win 4).index t = ![0, 0] := by decide +kernel

/-- This window's block, read off its array. -/
theorem blk4_4 (t : Fin cfg4.N) (y : S128x1.Idx) : (blk4 V 4 t : S128x1.Idx → EReal) y = (V (Proc.devRef .tc main_arg15) : S128x1.Idx → EReal) y := by
  have he : (((cfg4.win 4).blk t).view.emb y : S128x1.Idx) = y := by
    funext a; apply Fin.ext
    exact (cfg4.win 4).rect_emb_val_of_index_zero t a (by rw [idx4_4]; match a with | ⟨0, _⟩ => rfl | ⟨1, _⟩ => rfl) _
  exact congrArg (V (Proc.devRef .tc main_arg15) : S128x1.Idx → EReal) he

/-- Which block this window takes at each step. -/
theorem idx4_5 : ∀ t : Fin cfg4.N, (cfg4.win 5).index t = ![0, 0] := by decide +kernel

/-- This window's block, read off its array. -/
theorem blk4_5 (t : Fin cfg4.N) (y : S1x1.Idx) : (blk4 V 5 t : S1x1.Idx → EReal) y = (V (Proc.devRef .tc main_v24) : S1x1.Idx → EReal) y := by
  have he : (((cfg4.win 5).blk t).view.emb y : S1x1.Idx) = y := by
    funext a; apply Fin.ext
    exact (cfg4.win 5).rect_emb_val_of_index_zero t a (by rw [idx4_5]; match a with | ⟨0, _⟩ => rfl | ⟨1, _⟩ => rfl) _
  exact congrArg (V (Proc.devRef .tc main_v24) : S1x1.Idx → EReal) he

/-! ## The payloads -/

/-- What a step computes, at a row and a column. -/
theorem pay4_apply (x0 : S512x128.Idx → EReal) (x1 : S2x128.Idx → EReal) (x2 x3 : S1x128.Idx → EReal) (x4 : S128x1.Idx → EReal) (x5 : S1x1.Idx → EReal) (r : Fin 512) (c : Fin 1) : k4_pay1 (F := Ideal) x0 x1 x2 x3 x4 x5 (ix2 r c)
    = (∑ k, bnK (x1 (ix2 0 k)) (x1 (ix2 1 k)) (x0 (ix2 r k)) (x2 (ix2 0 k)) (x3 (ix2 0 k)) * x4 (ix2 k c)) + x5 (ix2 0 c) := by
  obtain rfl : c = 0 := Subsingleton.elim _ _
  unfold k4_pay1 bnK
  pointwise

/-! ## The arrays -/

/-- The rows the call leaves. -/
def outH4 (d : Dev nD) : S16384x1.Idx → EReal := (dat4 V d).arrAt 6 cfg4.N

/-- Which block this window takes at each step. -/
theorem idx4_6 : ∀ t : Fin cfg4.N, (cfg4.win 6).index t = ![t.val, 0] := by decide +kernel

/-- Where window 6's block lies. -/
theorem emb4_6 (t : Fin cfg4.N) (r : Fin 512) (k : Fin 1) :
    (((cfg4.win 6).blk t).view.emb (ix2 r k) : S16384x1.Idx) = ix2 (rowOf t.val (lt4 t) r) k := by
  funext a; apply Fin.ext
  refine ((cfg4.win 6).rect_emb_val t (ix2 r k) a).trans ?_
  rw [idx4_6]
  match a with
  | ⟨0, _⟩ => show t.val * 512 + r.val = 512 * t.val + r.val; omega
  | ⟨1, _⟩ => show 0 * 1 + k.val = k.val; omega

/-- The rows of the array the call leaves are its points' rows. -/
theorem array4 (c : Dev nD) (t : Fin cfg4.N) (r : Fin 512) (k : Fin 1) :
    outH4 V c (ix2 (rowOf t.val (lt4 t) r) k) = (rows4 V t : S512x1.Idx → EReal) (ix2 r k) := by
  have hd : ∀ u u' : Fin cfg4.N, (cfg4.win 6).flush u = true → (cfg4.win 6).flush u' = true → u ≠ u' →
      Disjoint ((cfg4.win 6).blk u).view.set ((cfg4.win 6).blk u').view.set := fun u u' _ _ h =>
    (cfg4.win 6).disjoint_blk fun e => h (Fin.ext (by rw [idx4_6, idx4_6] at e; exact congrFun e 0))
  have h := congrFun ((dat4 V c).read_blk_arrAt_eq_flushed 6 hd cfg4.N t t.isLt (flush4_6 t)) (ix2 r k)
  rw [← emb4_6]
  exact h

/-- A point, by its number. -/
abbrev pt4 (t : Fin 32) : Fin cfg4.N := ⟨t.val, Nat.lt_of_lt_of_eq t.isLt N_4.symm⟩

/-- The rows left: the dense layer of the normalized rows. -/
theorem layer4 (d : Dev nD) (i : Fin 16384) (c : Fin 1) : outH4 V d (ix2 i c)
    = lin (fun i k => bnK ((V (Proc.devRef .tc main_v21_1) : S2x128.Idx → EReal) (ix2 0 k)) ((V (Proc.devRef .tc main_v21_1) : S2x128.Idx → EReal) (ix2 1 k))
        ((V (Proc.devRef .tc main_v21_0) : S16384x128.Idx → EReal) (ix2 i k)) ((V (Proc.devRef .tc main_v22) : S1x128.Idx → EReal) (ix2 0 k))
        ((V (Proc.devRef .tc main_v23) : S1x128.Idx → EReal) (ix2 0 k)))
      (fun k c => (V (Proc.devRef .tc main_arg15) : S128x1.Idx → EReal) (ix2 k c)) (fun c => (V (Proc.devRef .tc main_v24) : S1x1.Idx → EReal) (ix2 0 c)) i c := by
  obtain ⟨t, r, rfl⟩ := exists_row i
  refine (array4 V d (pt4 t) r c).trans ((pay4_apply _ _ _ _ _ _ r c).trans ?_)
  simp only [blk4_0, blk4_1, blk4_2, blk4_3, blk4_4, blk4_5]
  rfl

end Cert.Proof.ScKI

end
-- ==== Proof.Ref.lean ====
/-
  The reference at an index: the embedding rows (with every category in range, element `(b, 16 f + k)` is the table's
  element `(f, category (b, f), k)`), and each layer's array as sums, means and quotients of the one before.
-/
module

public import proofs.«01_k».proof.Proof.Gen.ReferenceIdeal.Run
public import proofs.«01_k».proof.Proof.Norm
public import Idealize.ShloMosaic.Lib.IdealHost

@[expose] public section

set_option maxRecDepth 16384

noncomputable section

namespace Cert.Proof.Ref

open Cert.ReferenceIdeal Cert.ReferenceIdeal.Gen Cert.ReferenceIdeal.Value
open Idealize.ShloMosaic Idealize.ShloMosaic.TcCoe
open Cert.Proof.Norm

variable {α : Type}

/-- Where the gather reads: the field and the component of the result's index, the row that the index word names. -/
theorem gather_apply (x : S26x100000x16.Idx → α) (idx : IVec S26x16384x1 32) (f : Fin 26) (b : Fin 16384) (k : Fin 16) :
    Host.gather gather_S26x100000x16_S26x16384x1_S26x16384x16_2_1_0_0_1_2_1116 x idx (ix3 f b k)
      = x (ix3 f (⟨min (idx (ix3 f b (0 : Fin 1))).toInt.toNat 99999, by omega⟩ : Fin 100000) k) := by
  unfold Host.gather
  congr 1
  funext a
  apply Fin.ext
  match a with
  | ⟨0, _⟩ =>
    show 0 + f.val + 0 = f.val
    omega
  | ⟨1, _⟩ =>
    show min (idx _).toInt.toNat 99999 + 0 + 0 = min (idx (ix3 f b (0 : Fin 1))).toInt.toNat 99999
    refine congrArg (fun i => min (idx i).toInt.toNat 99999) ?_
    funext c
    apply Fin.ext
    match c with
    | ⟨0, _⟩ => rfl
    | ⟨1, _⟩ => rfl
    | ⟨2, _⟩ => rfl
  | ⟨2, _⟩ =>
    show 0 + 0 + k.val = k.val
    omega

/-- A category in range is neither wrapped nor clamped. -/
theorem wrap_eq (v : BitVec 32) (h : v.toNat < 100000) :
    min (Scalar.select (IntOp.cmpi .slt v 0#32) (IntOp.addi v 100000#32) v).toInt.toNat 99999 = v.toNat := by
  have e : IntOp.cmpi .slt v 0#32 = 0#1 := by
    have : v.slt 0#32 = false := by
      rw [BitVec.slt_eq_decide, decide_eq_false_iff_not, BitVec.toInt_eq_toNat_cond]
      simp only [BitVec.toInt_zero]
      omega
    simp only [IntOp.cmpi, this]
    rfl
  rw [e]
  show min v.toInt.toNat 99999 = v.toNat
  rw [BitVec.toInt_eq_toNat_cond]
  omega

/-- The reference's rows: the gather at the wrapped categories, laid out by sample. -/
def rows (cat : IVec S16384x26 32) (tab : S26x100000x16.Idx → α) : S16384x416.Idx → α :=
  shapeCast S16384x416 (transpose S16384x26x16 [1, 0, 2] (Host.gather gather_S26x100000x16_S26x16384x1_S26x16384x16_2_1_0_0_1_2_1116 tab
    (broadcastInDim S26x16384x1 ![0, 1] bcast_S26x16384_S26x16384x1_0_1 (transpose S26x16384 [1, 0]
      (select (cmpi .slt cat (broadcastInDim S16384x26 ![] bcast_S_S16384x26 (constantI S_ 32 0#32)))
        (addi cat (broadcastInDim S16384x26 ![] bcast_S_S16384x26 (constantI S_ 32 100000#32))) cat)
      transposes_S16384x26_S26x16384_1_0))) transposes_S26x16384x16_S16384x26x16_1_0_2) shapeCasts_S16384x26x16_S16384x416

/-- Element `(b, c)` of the rows, the category of `(b, c / 16)` in range. -/
theorem rows_apply (cat : IVec S16384x26 32) (tab : S26x100000x16.Idx → α) (hc : ∀ j, (cat j).toNat < 100000) (b : Fin 16384) (c : Fin 416) :
    rows cat tab (ix2 b c) = tab (ix3 (⟨c.val / 16, by omega⟩ : Fin 26)
      (⟨(cat (ix2 b (⟨c.val / 16, by omega⟩ : Fin 26))).toNat, hc _⟩ : Fin 100000) (⟨c.val % 16, by omega⟩ : Fin 16)) := by
  unfold rows
  pointwise
  rw [gather_apply]
  refine congrArg tab ?_
  pointwise
  refine congrArg (fun r => ix3 _ r _) (Fin.ext ?_)
  exact wrap_eq _ (hc _)

/-! ## The layers -/

/-- The number of rows less no degrees of freedom is the number of rows, and it is positive. -/
theorem cnt_sub : cnt - FloatOps.sitofp (F := Ideal) FTy.f32 (0#32 : BitVec 32) = cnt := by
  show cnt - (((0#32 : BitVec 32).toInt : ℝ) : EReal) = cnt
  simp

/-- The number of rows is positive. -/
theorem cnt_pos : (0 : EReal) < cnt := by
  rw [cnt_eq]; exact_mod_cast (by norm_num : (0 : ℝ) < 16384)

variable (V : Valuation τ sig (Elt Ideal))

/-- A matrix by its row and column, and a vector by its place. -/
abbrev mat {a b : ℕ} (x : (⟨2, ![a, b]⟩ : Shape).Idx → EReal) (r : Fin a) (c : Fin b) : EReal := x (ix2 r c)
abbrev vec {a : ℕ} (x : (⟨1, ![a]⟩ : Shape).Idx → EReal) (c : Fin a) : EReal := x (ix1 c)

/-- The first layer's array, from the dense features, the embedding rows, the weights and the bias. -/
def first (num : S16384x13.Idx → EReal) (emb : S16384x416.Idx → EReal) (W : S429x512.Idx → EReal) (b : S512.Idx → EReal)
    (r : Fin 16384) (c : Fin 512) : EReal :=
  ((∑ k : Fin 13, num (ix2 r k) * W (ix2 (⟨k.val, by omega⟩ : Fin 429) c)) + ∑ k : Fin 416, emb (ix2 r k) * W (ix2 (⟨13 + k.val, by omega⟩ : Fin 429) c))
    + b (ix1 c)

/-- The reference's first layer with the embedding rows named. -/
theorem v14_eq : (res_main_v14 V : FVec Ideal S16384x512 .f32) = (addf (Host.dotGeneral (φ₁ := .f32) (φ₂ := .f32) dot_S16384x429_S429x512_S16384x512_1_0_0_1_n_n none (concatenate S16384x429 1 [⟨S16384x13, (V (Proc.devRef .tc main_arg0))⟩, ⟨S16384x416, (rows (α := EReal) (V (Proc.devRef .tc main_arg1)) (V (Proc.devRef .tc main_arg2)))⟩] concatenates_S16384x13_S16384x416_S16384x429_d1) (V (Proc.devRef .tc main_arg3))) (broadcastInDim S16384x512 ![0, 1] bcast_S1x512_S16384x512_0_1 (broadcastInDim S1x512 ![1] bcast_S512_S1x512_1 (V (Proc.devRef .tc main_arg4)))) : FVec Ideal S16384x512 .f32) := rfl

set_option maxHeartbeats 1000000 in
/-- The first layer at a row and a column. -/
theorem layer1 (r : Fin 16384) (c : Fin 512) : (res_main_v14 V : S16384x512.Idx → EReal) (ix2 r c)
    = first (V (Proc.devRef .tc main_arg0)) (rows (V (Proc.devRef .tc main_arg1)) (V (Proc.devRef .tc main_arg2))) (V (Proc.devRef .tc main_arg3))
        (V (Proc.devRef .tc main_arg4)) r c := by
  rw [v14_eq]
  unfold first
  pointwise

set_option maxHeartbeats 1000000 in
/-- The second layer: the dense layer of the normalized first. -/
theorem layer2 (r : Fin 16384) (c : Fin 256) : (res_main_v38 V : S16384x256.Idx → EReal) (ix2 r c)
    = lin (actR (mat (res_main_v14 V)) (vec (V (Proc.devRef .tc main_arg5))) (vec (V (Proc.devRef .tc main_arg6)))) (mat (V (Proc.devRef .tc main_arg7)))
        (vec (V (Proc.devRef .tc main_arg8))) r c := by
  unfold res_main_v38 res_main_call0_v5 res_main_call0_v8
  pointwise
  rw [cnt_sub]
  simp only [cnt_pos, if_true]
  rfl

set_option maxHeartbeats 1000000 in
/-- The third layer: the dense layer of the normalized second. -/
theorem layer3 (r : Fin 16384) (c : Fin 128) : (res_main_v62 V : S16384x128.Idx → EReal) (ix2 r c)
    = lin (actR (mat (res_main_v38 V)) (vec (V (Proc.devRef .tc main_arg9))) (vec (V (Proc.devRef .tc main_arg10)))) (mat (V (Proc.devRef .tc main_arg11)))
        (vec (V (Proc.devRef .tc main_arg12))) r c := by
  unfold res_main_v62 res_main_call2_v5 res_main_call2_v8
  pointwise
  rw [cnt_sub]
  simp only [cnt_pos, if_true]
  rfl

/-- The reference's result. -/
def out : FVec Ideal S16384x1 .f32 :=
  addf (Host.dotGeneral (φ₁ := .f32) (φ₂ := .f32) dot_S16384x128_S128x1_S16384x1_1_0_0_1_n_n none (maximumf (addf (mulf (Host.divf (subf (res_main_v62 V) (broadcastInDim S16384x128 ![0, 1] bcast_S1x128_S16384x128_0_1 (broadcastInDim S1x128 ![1] bcast_S128_S1x128_1 (Host.divf (Host.reduceAdd (res_main_v62 V) (constant S_ .f32 0x00000000#32) reducesTo_S16384x128_S128_d0 h_S_) (broadcastInDim S128 ![] bcast_S_S128 (constant S_ .f32 0x46800000#32)))))) (broadcastInDim S16384x128 ![0, 1] bcast_S1x128_S16384x128_0_1 (broadcastInDim S1x128 ![1] bcast_S128_S1x128_1 (Host.sqrt (addf (select (broadcastInDim S128 ![] bcast_S_S128 (cmpf .ogt (res_main_call4_v8 V) (constant S_ .f32 0x00000000#32))) (Host.divf (Host.reduceAdd (mulf (res_main_call4_v5 V) (res_main_call4_v5 V)) (constant S_ .f32 0x00000000#32) reducesTo_S16384x128_S128_d0 h_S_) (broadcastInDim S128 ![] bcast_S_S128 (res_main_call4_v8 V))) (broadcastInDim S128 ![] bcast_S_S128 (id (constant S_ .f32 0x7FC00000#32)))) (broadcastInDim S128 ![] bcast_S_S128 (constant S_ .f32 0x3727C5AC#32))))))) (broadcastInDim S16384x128 ![0, 1] bcast_S1x128_S16384x128_0_1 (broadcastInDim S1x128 ![1] bcast_S128_S1x128_1 (V (Proc.devRef .tc main_arg13))))) (broadcastInDim S16384x128 ![0, 1] bcast_S1x128_S16384x128_0_1 (broadcastInDim S1x128 ![1] bcast_S128_S1x128_1 (V (Proc.devRef .tc main_arg14))))) (broadcastInDim S16384x128 ![] bcast_S_S16384x128 (constant S_ .f32 0x00000000#32))) (V (Proc.devRef .tc main_arg15))) (broadcastInDim S16384x1 ![0, 1] bcast_S1x1_S16384x1_0_1 (broadcastInDim S1x1 ![1] bcast_S1_S1x1_1 (V (Proc.devRef .tc main_arg16))))

set_option maxHeartbeats 1000000 in
/-- The result: the dense layer of the normalized third. -/
theorem layer4 (r : Fin 16384) (c : Fin 1) : (out V : S16384x1.Idx → EReal) (ix2 r c)
    = lin (actR (mat (res_main_v62 V)) (vec (V (Proc.devRef .tc main_arg13))) (vec (V (Proc.devRef .tc main_arg14)))) (mat (V (Proc.devRef .tc main_arg15)))
        (vec (V (Proc.devRef .tc main_arg16))) r c := by
  obtain rfl : c = 0 := Subsingleton.elim _ _
  unfold out res_main_call4_v5 res_main_call4_v8
  pointwise
  rw [cnt_sub]
  simp only [cnt_pos, if_true]
  rfl

end Cert.Proof.Ref

end
-- ==== Proof.ScKI.Net.lean ====
/-
  The program's result over the reals' extension: each layer's call at the launch memory, the four layers one after another, and
  the reference's result.
-/
module

public import proofs.«01_k».proof.Proof.ScKI.Value
public import proofs.«01_k».proof.Proof.ScKI.Arr1
public import proofs.«01_k».proof.Proof.ScKI.Arr2
public import proofs.«01_k».proof.Proof.ScKI.Arr3
public import proofs.«01_k».proof.Proof.ScKI.Arr4
public import proofs.«01_k».proof.Proof.Ref
public import Idealize.ShloMosaic.Lib.Pointwise

@[expose] public section

set_option maxRecDepth 16384

noncomputable section

namespace Cert.Proof.ScKI

open Cert.KernelIdeal Cert.KernelIdeal.Gen
open Idealize.ShloMosaic Idealize.ShloMosaic.TcCoe
open Idealize.ShloMosaic.StableHlo (after launchContents)
open Cert.Proof.Norm
open Cert.Proof.Ref (mat vec first rows)

variable (m : (ℓ : Loc nD τ sig) → Buf (Elt Ideal) ℓ) (d : Dev nD)

/-! ## The arguments at launch -/

abbrev a0 : S16384x13.Idx → EReal := m ((d.tc : Thread nD τ).loc main_arg0)
abbrev a3 : S429x512.Idx → EReal := m ((d.tc : Thread nD τ).loc main_arg3)
abbrev a4 : S512.Idx → EReal := m ((d.tc : Thread nD τ).loc main_arg4)
abbrev a5 : S512.Idx → EReal := m ((d.tc : Thread nD τ).loc main_arg5)
abbrev a6 : S512.Idx → EReal := m ((d.tc : Thread nD τ).loc main_arg6)
abbrev a7 : S512x256.Idx → EReal := m ((d.tc : Thread nD τ).loc main_arg7)
abbrev a8 : S256.Idx → EReal := m ((d.tc : Thread nD τ).loc main_arg8)
abbrev a9 : S256.Idx → EReal := m ((d.tc : Thread nD τ).loc main_arg9)
abbrev a10 : S256.Idx → EReal := m ((d.tc : Thread nD τ).loc main_arg10)
abbrev a11 : S256x128.Idx → EReal := m ((d.tc : Thread nD τ).loc main_arg11)
abbrev a12 : S128.Idx → EReal := m ((d.tc : Thread nD τ).loc main_arg12)
abbrev a13 : S128.Idx → EReal := m ((d.tc : Thread nD τ).loc main_arg13)
abbrev a14 : S128.Idx → EReal := m ((d.tc : Thread nD τ).loc main_arg14)
abbrev a15 : S128x1.Idx → EReal := m ((d.tc : Thread nD τ).loc main_arg15)
abbrev a16 : S1.Idx → EReal := m ((d.tc : Thread nD τ).loc main_arg16)

/-! ## The first layer -/

/-- The first layer's gathered rows. -/
theorem VA_v9 : (VA m d (Proc.devRef .tc main_v9) : S16384x416.Idx → EReal)
    = shapeCast S16384x416 (gath (xi m d) (xt m d)) shapeCasts_S425984x16_S16384x416 := by
  unfold VA ops1
  after_results
  unfold V2
  rw [Function.update_self]
  rfl

/-- Its weights for the dense features. -/
theorem VA_v10 : (VA m d (Proc.devRef .tc main_v10) : S13x512.Idx → EReal)
    = extractStridedSlice S13x512 ![0, 0] (a3 m d) slices_S429x512_S13x512_0_0 := by
  unfold VA ops1
  after_results
  rw [V2_keep m d (by decide)]

/-- Its weights for the gathered rows. -/
theorem VA_v11 : (VA m d (Proc.devRef .tc main_v11) : S416x512.Idx → EReal)
    = extractStridedSlice S416x512 ![13, 0] (a3 m d) slices_S429x512_S416x512_13_0 := by
  unfold VA ops1
  after_results
  rw [V2_keep m d (by decide)]

/-- Its bias, as a row. -/
theorem VA_v12 : (VA m d (Proc.devRef .tc main_v12) : S1x512.Idx → EReal) = shapeCast S1x512 (a4 m d) shapeCasts_S512_S1x512 := by
  unfold VA ops1
  after_results
  rw [V2_keep m d (by decide)]
  rfl

/-- The array each layer's call leaves, by row and column. -/
def H1 (i : Fin 16384) (c : Fin 512) : EReal := outH1 (VA m d) d (ix2 i c)
def H2 (i : Fin 16384) (c : Fin 256) : EReal := outH2 (VB m d) d (ix2 i c)
def H3 (i : Fin 16384) (c : Fin 128) : EReal := outH3 (VC m d) d (ix2 i c)
def H4 (i : Fin 16384) (c : Fin 1) : EReal := outH4 (VD m d) d (ix2 i c)

/-- The gathered rows are the reference's. -/
theorem rows_eq (hc : ∀ d j, (cat m d j).toNat < 100000) :
    shapeCast S16384x416 (gath (xi m d) (xt m d)) shapeCasts_S425984x16_S16384x416 = rows (cat m d) (tab m d) := by
  funext j
  obtain ⟨b, c, rfl⟩ : ∃ (b : Fin 16384) (c : Fin 416), j = ix2 b c := ⟨j 0, j 1, eq_ix2 j⟩
  exact (out_apply m hc d b c).trans (Ref.rows_apply _ _ (hc d) b c).symm

/-- The first layer's array is the reference's. -/
theorem H1_eq (hc : ∀ d j, (cat m d j).toNat < 100000) : H1 m d = first (a0 m d) (rows (cat m d) (tab m d)) (a3 m d) (a4 m d) := by
  funext i c
  have h := layer1 (VA m d) d (VA_keep m d (by decide)) ((VA_v9 m d).trans (rows_eq m d hc)) (VA_v10 m d) (VA_v11 m d) (VA_v12 m d) i c
  refine h.trans ?_
  unfold first
  refine congrArg₂ (· + ·) (congrArg₂ (· + ·) (Finset.sum_congr rfl fun k _ => congrArg₂ (· * ·) rfl ?_)
    (Finset.sum_congr rfl fun k _ => congrArg₂ (· * ·) rfl ?_)) ?_
  · pointwise
  · pointwise
  · pointwise

/-! ## The second layer -/

/-- The array that this layer reads is the one the layer before left. -/
theorem VB_v13 : (VB m d (Proc.devRef .tc main_v13_0) : S16384x512.Idx → EReal) = outH1 (VA m d) d := by
  refine (StableHlo.after_of_writes_sub (W := [main_v14, main_v15, main_v16]) ops2 _ (by
    simp only [ops2, List.forall_cons, List.Forall, and_true]
    exact ⟨by simp, by simp, by simp⟩) (by decide)).trans ?_
  exact Pipeline.afterRegion_arr (dat1 (VA m d) d) (VA m d) launch1.win.arr_inj 5

/-- The sums that this layer reads are the ones the layer before left. -/
theorem VB_v13_sums : (VB m d (Proc.devRef .tc main_v13_1) : S2x512.Idx → EReal) = outS1 (VA m d) d := by
  refine (StableHlo.after_of_writes_sub (W := [main_v14, main_v15, main_v16]) ops2 _ (by
    simp only [ops2, List.forall_cons, List.Forall, and_true]
    exact ⟨by simp, by simp, by simp⟩) (by decide)).trans ?_
  exact Pipeline.afterRegion_arr (dat1 (VA m d) d) (VA m d) launch1.win.arr_inj 6

/-- The scale of the normalization, as a row. -/
theorem VB_v14 (k : Fin 512) : (VB m d (Proc.devRef .tc main_v14) : S1x512.Idx → EReal) (ix2 0 k) = vec (a5 m d) k := by
  have e : (VB m d (Proc.devRef .tc main_v14) : S1x512.Idx → EReal) = shapeCast S1x512 (a5 m d) shapeCasts_S512_S1x512 := by
    unfold VB ops2
    after_results
    rw [RA_keep m d (by decide)]
    rfl
  rw [e]
  pointwise

/-- The shift of the normalization, as a row. -/
theorem VB_v15 (k : Fin 512) : (VB m d (Proc.devRef .tc main_v15) : S1x512.Idx → EReal) (ix2 0 k) = vec (a6 m d) k := by
  have e : (VB m d (Proc.devRef .tc main_v15) : S1x512.Idx → EReal) = shapeCast S1x512 (a6 m d) shapeCasts_S512_S1x512 := by
    unfold VB ops2
    after_results
    rw [RA_keep m d (by decide)]
    rfl
  rw [e]
  pointwise

/-- The bias, as a row. -/
theorem VB_v16 (k : Fin 256) : (VB m d (Proc.devRef .tc main_v16) : S1x256.Idx → EReal) (ix2 0 k) = vec (a8 m d) k := by
  have e : (VB m d (Proc.devRef .tc main_v16) : S1x256.Idx → EReal) = shapeCast S1x256 (a8 m d) shapeCasts_S256_S1x256 := by
    unfold VB ops2
    after_results
    rw [RA_keep m d (by decide)]
    rfl
  rw [e]
  pointwise

/-- This layer's array: the dense layer of the normalized array before it. -/
theorem H2_eq : H2 m d = lin (actK (H1 m d) (vec (a5 m d)) (vec (a6 m d))) (mat (a7 m d)) (vec (a8 m d)) := by
  funext i c
  refine (layer2 (VB m d) d i c).trans ?_
  have hx : ∀ (i : Fin 16384) (k : Fin 512),
      bnK ((VB m d (Proc.devRef .tc main_v13_1) : S2x512.Idx → EReal) (ix2 0 k)) ((VB m d (Proc.devRef .tc main_v13_1) : S2x512.Idx → EReal) (ix2 1 k))
        ((VB m d (Proc.devRef .tc main_v13_0) : S16384x512.Idx → EReal) (ix2 i k)) ((VB m d (Proc.devRef .tc main_v14) : S1x512.Idx → EReal) (ix2 0 k))
        ((VB m d (Proc.devRef .tc main_v15) : S1x512.Idx → EReal) (ix2 0 k))
        = actK (H1 m d) (vec (a5 m d)) (vec (a6 m d)) i k := fun i k => by
    rw [VB_v14, VB_v15, VB_v13, VB_v13_sums, total1_0, total1_1]
    rfl
  have hW : (VB m d (Proc.devRef .tc main_arg7) : S512x256.Idx → EReal) = a7 m d := VB_keep m d (by decide)
  unfold lin
  refine congrArg₂ (· + ·) (Finset.sum_congr rfl fun k _ => congrArg₂ (· * ·) (hx i k) ?_) (VB_v16 m d c)
  rw [hW]

/-! ## The third layer -/

/-- The array that this layer reads is the one the layer before left. -/
theorem VC_v17 : (VC m d (Proc.devRef .tc main_v17_0) : S16384x256.Idx → EReal) = outH2 (VB m d) d := by
  refine (StableHlo.after_of_writes_sub (W := [main_v18, main_v19, main_v20]) ops3 _ (by
    simp only [ops3, List.forall_cons, List.Forall, and_true]
    exact ⟨by simp, by simp, by simp⟩) (by decide)).trans ?_
  exact Pipeline.afterRegion_arr (dat2 (VB m d) d) (VB m d) launch2.win.arr_inj 6

/-- The sums that this layer reads are the ones the layer before left. -/
theorem VC_v17_sums : (VC m d (Proc.devRef .tc main_v17_1) : S2x256.Idx → EReal) = outS2 (VB m d) d := by
  refine (StableHlo.after_of_writes_sub (W := [main_v18, main_v19, main_v20]) ops3 _ (by
    simp only [ops3, List.forall_cons, List.Forall, and_true]
    exact ⟨by simp, by simp, by simp⟩) (by decide)).trans ?_
  exact Pipeline.afterRegion_arr (dat2 (VB m d) d) (VB m d) launch2.win.arr_inj 7

/-- The scale of the normalization, as a row. -/
theorem VC_v18 (k : Fin 256) : (VC m d (Proc.devRef .tc main_v18) : S1x256.Idx → EReal) (ix2 0 k) = vec (a9 m d) k := by
  have e : (VC m d (Proc.devRef .tc main_v18) : S1x256.Idx → EReal) = shapeCast S1x256 (a9 m d) shapeCasts_S256_S1x256 := by
    unfold VC ops3
    after_results
    rw [RB_keep m d (by decide)]
    rfl
  rw [e]
  pointwise

/-- The shift of the normalization, as a row. -/
theorem VC_v19 (k : Fin 256) : (VC m d (Proc.devRef .tc main_v19) : S1x256.Idx → EReal) (ix2 0 k) = vec (a10 m d) k := by
  have e : (VC m d (Proc.devRef .tc main_v19) : S1x256.Idx → EReal) = shapeCast S1x256 (a10 m d) shapeCasts_S256_S1x256 := by
    unfold VC ops3
    after_results
    rw [RB_keep m d (by decide)]
    rfl
  rw [e]
  pointwise

/-- The bias, as a row. -/
theorem VC_v20 (k : Fin 128) : (VC m d (Proc.devRef .tc main_v20) : S1x128.Idx → EReal) (ix2 0 k) = vec (a12 m d) k := by
  have e : (VC m d (Proc.devRef .tc main_v20) : S1x128.Idx → EReal) = shapeCast S1x128 (a12 m d) shapeCasts_S128_S1x128 := by
    unfold VC ops3
    after_results
    rw [RB_keep m d (by decide)]
    rfl
  rw [e]
  pointwise

/-- This layer's array: the dense layer of the normalized array before it. -/
theorem H3_eq : H3 m d = lin (actK (H2 m d) (vec (a9 m d)) (vec (a10 m d))) (mat (a11 m d)) (vec (a12 m d)) := by
  funext i c
  refine (layer3 (VC m d) d i c).trans ?_
  have hx : ∀ (i : Fin 16384) (k : Fin 256),
      bnK ((VC m d (Proc.devRef .tc main_v17_1) : S2x256.Idx → EReal) (ix2 0 k)) ((VC m d (Proc.devRef .tc main_v17_1) : S2x256.Idx → EReal) (ix2 1 k))
        ((VC m d (Proc.devRef .tc main_v17_0) : S16384x256.Idx → EReal) (ix2 i k)) ((VC m d (Proc.devRef .tc main_v18) : S1x256.Idx → EReal) (ix2 0 k))
        ((VC m d (Proc.devRef .tc main_v19) : S1x256.Idx → EReal) (ix2 0 k))
        = actK (H2 m d) (vec (a9 m d)) (vec (a10 m d)) i k := fun i k => by
    rw [VC_v18, VC_v19, VC_v17, VC_v17_sums, total2_0, total2_1]
    rfl
  have hW : (VC m d (Proc.devRef .tc main_arg11) : S256x128.Idx → EReal) = a11 m d := VC_keep m d (by decide)
  unfold lin
  refine congrArg₂ (· + ·) (Finset.sum_congr rfl fun k _ => congrArg₂ (· * ·) (hx i k) ?_) (VC_v20 m d c)
  rw [hW]

/-! ## The last layer -/

/-- The array that this layer reads is the one the layer before left. -/
theorem VD_v21 : (VD m d (Proc.devRef .tc main_v21_0) : S16384x128.Idx → EReal) = outH3 (VC m d) d := by
  refine (StableHlo.after_of_writes_sub (W := [main_v22, main_v23, main_v24]) ops4 _ (by
    simp only [ops4, List.forall_cons, List.Forall, and_true]
    exact ⟨by simp, by simp, by simp⟩) (by decide)).trans ?_
  exact Pipeline.afterRegion_arr (dat3 (VC m d) d) (VC m d) launch3.win.arr_inj 6

/-- The sums that this layer reads are the ones the layer before left. -/
theorem VD_v21_sums : (VD m d (Proc.devRef .tc main_v21_1) : S2x128.Idx → EReal) = outS3 (VC m d) d := by
  refine (StableHlo.after_of_writes_sub (W := [main_v22, main_v23, main_v24]) ops4 _ (by
    simp only [ops4, List.forall_cons, List.Forall, and_true]
    exact ⟨by simp, by simp, by simp⟩) (by decide)).trans ?_
  exact Pipeline.afterRegion_arr (dat3 (VC m d) d) (VC m d) launch3.win.arr_inj 7

/-- The scale of the normalization, as a row. -/
theorem VD_v22 (k : Fin 128) : (VD m d (Proc.devRef .tc main_v22) : S1x128.Idx → EReal) (ix2 0 k) = vec (a13 m d) k := by
  have e : (VD m d (Proc.devRef .tc main_v22) : S1x128.Idx → EReal) = shapeCast S1x128 (a13 m d) shapeCasts_S128_S1x128 := by
    unfold VD ops4
    after_results
    rw [RC_keep m d (by decide)]
    rfl
  rw [e]
  pointwise

/-- The shift of the normalization, as a row. -/
theorem VD_v23 (k : Fin 128) : (VD m d (Proc.devRef .tc main_v23) : S1x128.Idx → EReal) (ix2 0 k) = vec (a14 m d) k := by
  have e : (VD m d (Proc.devRef .tc main_v23) : S1x128.Idx → EReal) = shapeCast S1x128 (a14 m d) shapeCasts_S128_S1x128 := by
    unfold VD ops4
    after_results
    rw [RC_keep m d (by decide)]
    rfl
  rw [e]
  pointwise

/-- The bias, as a row. -/
theorem VD_v24 (k : Fin 1) : (VD m d (Proc.devRef .tc main_v24) : S1x1.Idx → EReal) (ix2 0 k) = vec (a16 m d) k := by
  have e : (VD m d (Proc.devRef .tc main_v24) : S1x1.Idx → EReal) = shapeCast S1x1 (a16 m d) shapeCasts_S1_S1x1 := by
    unfold VD ops4
    after_results
    rw [RC_keep m d (by decide)]
    rfl
  obtain rfl : k = 0 := Subsingleton.elim _ _
  rw [e]
  pointwise

/-- This layer's array: the dense layer of the normalized array before it. -/
theorem H4_eq : H4 m d = lin (actK (H3 m d) (vec (a13 m d)) (vec (a14 m d))) (mat (a15 m d)) (vec (a16 m d)) := by
  funext i c
  refine (layer4 (VD m d) d i c).trans ?_
  have hx : ∀ (i : Fin 16384) (k : Fin 128),
      bnK ((VD m d (Proc.devRef .tc main_v21_1) : S2x128.Idx → EReal) (ix2 0 k)) ((VD m d (Proc.devRef .tc main_v21_1) : S2x128.Idx → EReal) (ix2 1 k))
        ((VD m d (Proc.devRef .tc main_v21_0) : S16384x128.Idx → EReal) (ix2 i k)) ((VD m d (Proc.devRef .tc main_v22) : S1x128.Idx → EReal) (ix2 0 k))
        ((VD m d (Proc.devRef .tc main_v23) : S1x128.Idx → EReal) (ix2 0 k))
        = actK (H3 m d) (vec (a13 m d)) (vec (a14 m d)) i k := fun i k => by
    rw [VD_v22, VD_v23, VD_v21, VD_v21_sums, total3_0, total3_1]
    rfl
  have hW : (VD m d (Proc.devRef .tc main_arg15) : S128x1.Idx → EReal) = a15 m d := VD_keep m d (by decide)
  unfold lin
  refine congrArg₂ (· + ·) (Finset.sum_congr rfl fun k _ => congrArg₂ (· * ·) (hx i k) ?_) (VD_v24 m d c)
  rw [hW]

/-- The program's result. -/
theorem VE_v25 : (VE m d (Proc.devRef .tc main_v25) : S16384x1.Idx → EReal) = outH4 (VD m d) d :=
  Pipeline.afterRegion_arr (dat4 (VD m d) d) (VD m d) launch4.win.arr_inj 6

/-- Where the arguments before the last dense layer are real numbers, the result is the four layers in the reference's form. -/
theorem result_eq (hc : ∀ d j, (cat m d j).toNat < 100000) (h0 : ∀ j, IsReal (a0 m d j)) (h2 : ∀ j, IsReal (tab m d j))
    (h3 : ∀ j, IsReal (a3 m d j)) (h4 : ∀ j, IsReal (a4 m d j)) (h5 : ∀ j, IsReal (a5 m d j)) (h6 : ∀ j, IsReal (a6 m d j))
    (h7 : ∀ j, IsReal (a7 m d j)) (h8 : ∀ j, IsReal (a8 m d j)) (h9 : ∀ j, IsReal (a9 m d j)) (h10 : ∀ j, IsReal (a10 m d j))
    (h11 : ∀ j, IsReal (a11 m d j)) (h12 : ∀ j, IsReal (a12 m d j)) (h13 : ∀ j, IsReal (a13 m d j)) (i : Fin 16384) (c : Fin 1) :
    (VE m d (Proc.devRef .tc main_v25) : S16384x1.Idx → EReal) (ix2 i c)
      = lin (actR (lin (actR (lin (actR (first (a0 m d) (rows (cat m d) (tab m d)) (a3 m d) (a4 m d)) (vec (a5 m d)) (vec (a6 m d)))
          (mat (a7 m d)) (vec (a8 m d))) (vec (a9 m d)) (vec (a10 m d))) (mat (a11 m d)) (vec (a12 m d))) (vec (a13 m d)) (vec (a14 m d)))
          (mat (a15 m d)) (vec (a16 m d)) i c := by
  have hf : ∀ r k, IsReal (first (a0 m d) (rows (cat m d) (tab m d)) (a3 m d) (a4 m d) r k) := fun r k => by
    unfold first
    refine IsReal.add (IsReal.add (IsReal.sum _ fun k _ => (h0 _).mul (h3 _)) (IsReal.sum _ fun k _ => IsReal.mul ?_ (h3 _))) (h4 _)
    rw [Ref.rows_apply _ _ (hc d)]
    exact h2 _
  rw [VE_v25]
  show H4 m d i c = _
  rw [H4_eq, H3_eq, H2_eq, H1_eq m d hc]
  rw [net_eq hf (fun k => h5 _) (fun k => h6 _) (fun k c => h7 _) (fun c => h8 _) (fun k => h9 _) (fun k => h10 _) (fun k c => h11 _)
    (fun c => h12 _) (fun k => h13 _)]

end Cert.Proof.ScKI

end
-- ==== Proof.Pre.lean ====
/-
  What the preconditions say: every category is below a hundred thousand, and every number is a real one.
-/
module

public import proofs.«01_k».proof.Proof.Gen.Pre_in_range
public import proofs.«01_k».proof.Proof.Norm
public import Idealize.ShloMosaic.Lib.PointwiseCore

@[expose] public section

set_option maxRecDepth 16384

noncomputable section

namespace Cert.Proof.Pre

open Cert.Pre_in_range Cert.Pre_in_range.Gen
open Idealize.ShloMosaic

/-- A truth value as a bit is one where it is true. -/
theorem ofBool_eq_one (p : Bool) : (BitVec.ofBool p = 1#1) ↔ p = true := by cases p <;> decide

/-- The bitwise and of two truth values. -/
theorem andi_ofBool (p q : Bool) : IntOp.andi (BitVec.ofBool p) (BitVec.ofBool q) = BitVec.ofBool (p && q) := by
  cases p <;> cases q <;> decide

/-- The two tests on a word. -/
theorem word_lt (v : BitVec 32) (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The test on the categories, at an index. -/
theorem cat_lt (x : IVec S16384x26 32) {hb hb' : S_.BroadcastsInDim S16384x26 (![] : Fin 0 → Fin S16384x26.rank)}
    (h : andi (cmpi .sge x (broadcastInDim S16384x26 ![] hb (constantI S_ 32 0#32)))
      (cmpi .slt x (broadcastInDim S16384x26 ![] hb' (constantI S_ 32 100000#32))) = fun _ => 1#1) (j : S16384x26.Idx) : (x j).toNat < 100000 := by
  have e := congrFun h j
  simp only [andi, cmpi, broadcastInDim, constantI] at e
  exact word_lt _ e

/-- The test on an array of numbers, at an index: the number is a real one. -/
theorem real_of {s : Shape} (x : FVec Ideal s .f32) {hb : S_.BroadcastsInDim s (![] : Fin 0 → Fin s.rank)}
    (h : cmpf .olt (Host.absf x) (broadcastInDim s ![] hb (constant S_ .f32 0x7F800000#32)) = fun _ => 1#1) (j : s.Idx) :
    Norm.IsReal (x j) := by
  have e := congrFun h j
  have hi : Ideal.ofBits .f32 0x7F800000#32 = (⊤ : EReal) := by simp [Ideal.ofBits, Ideal.ieee]
  have e' : BitVec.ofBool (decide (max (x j : EReal) (-(x j : EReal)) < Ideal.ofBits .f32 0x7F800000#32)) = 1#1 := e
  rw [hi, ofBool_eq_one, decide_eq_true_eq] at e'
  exact Norm.isReal_of_abs_lt e'

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.ScK.Value
public import proofs.«01_k».proof.Proof.ScKI.Net
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_in_range.Facts := Cert.Pre_in_range.Gen.facts
local instance : Cert.Pre_in_range_finite.Facts := Cert.Pre_in_range_finite.Gen.facts

/-- The kernel's frame. -/
theorem frame_P : quiescent_Kernel := fun m g hp =>
  (θ_run _ _ _).mono (fun _ h => ⟨fun d => (h.1 d).2, h.2⟩)
    (ScK.run_value m (fun d j => Pre.cat_lt _ (hp d) j) g)

/-- The idealized kernel's frame. -/
theorem frame_PI : quiescent_KernelIdeal := fun m g hp =>
  (θ_run _ _ _).mono (fun _ h => ⟨fun d => (h.1 d).2, h.2⟩)
    (ScKI.run_value m (fun d j => Pre.cat_lt _ (hp d) j) g)

/-- The idealized kernel's frame under the stronger precondition. -/
theorem frame_PI_finite : quiescent_KernelIdeal_pre_in_range_finite := fun m g hp =>
  (θ_run _ _ _).mono (fun _ h => ⟨fun d => (h.1 d).2, h.2⟩)
    (ScKI.run_value m (fun d j => Pre.cat_lt _ (hp d).1 j) g)

/-- The reference's frame. -/
theorem frame_RI : quiescent_ReferenceIdeal := fun m g _ =>
  (θ_run _ _ _).mono (fun r h => ⟨fun d => (h d).2, sem_eq_zero_of_no_sems (by decide) r.2⟩) (Cert.ReferenceIdeal.Value.run m g)

/-- The reference's frame under the precondition. -/
theorem frame_RI_finite : quiescent_ReferenceIdeal_pre_in_range_finite := fun m g _ => frame_RI m g trivial

/-- The kernel and the reference give equal results. -/
theorem value : algebraic_KernelIdeal_ReferenceIdeal_pre_in_range_finite := by
  intro m g m' g' hp hm
  have hc : ∀ d j, (ScKI.cat m d j).toNat < 100000 := fun d j => Pre.cat_lt _ (hp d).1 j
  refine ⟨fun d => Ref.out (StableHlo.launchContents m' d), (θ_run _ _ _).mono (fun _ h d => ?_) (ScKI.run_value m hc g),
    (θ_run _ _ _).mono (fun _ h d => ?_) (Cert.ReferenceIdeal.Value.run m' g')⟩
  · refine ⟨(h.1 d).1.trans ?_, (h.1 d).2⟩
    obtain ⟨p1, p0, p2, p3, p4, p5, p6, p7, p8, p9, p10, p11, p12, p13⟩ := hp d
    obtain ⟨e0, e1, e2, e3, e4, e5, e6, e7, e8, e9, e10, e11, e12, e13, e14, e15, e16⟩ := hm d
    funext j
    obtain ⟨i, c, rfl⟩ : ∃ (i : Fin 16384) (c : Fin 1), j = ix2 i c := ⟨j 0, j 1, eq_ix2 j⟩
    refine (ScKI.result_eq m d hc (Pre.real_of _ p0) (Pre.real_of _ p2) (Pre.real_of _ p3) (Pre.real_of _ p4) (Pre.real_of _ p5)
      (Pre.real_of _ p6) (Pre.real_of _ p7) (Pre.real_of _ p8) (Pre.real_of _ p9) (Pre.real_of _ p10) (Pre.real_of _ p11)
      (Pre.real_of _ p12) (Pre.real_of _ p13) i c).trans ?_
    refine Eq.symm ((Ref.layer4 (StableHlo.launchContents m' d) i c).trans ?_)
    have s3 : Ref.mat (Cert.ReferenceIdeal.Value.res_main_v62 (StableHlo.launchContents m' d)) = _ :=
      funext fun r => funext fun c => Ref.layer3 (StableHlo.launchContents m' d) r c
    have s2 : Ref.mat (Cert.ReferenceIdeal.Value.res_main_v38 (StableHlo.launchContents m' d)) = _ :=
      funext fun r => funext fun c => Ref.layer2 (StableHlo.launchContents m' d) r c
    have s1 : Ref.mat (Cert.ReferenceIdeal.Value.res_main_v14 (StableHlo.launchContents m' d)) = _ :=
      funext fun r => funext fun c => Ref.layer1 (StableHlo.launchContents m' d) r c
    rw [s3, s2, s1]
    change _ = Norm.lin _ _ _ i c
    simp only [ScKI.a0, ScKI.a3, ScKI.a4, ScKI.a5, ScKI.a6, ScKI.a7, ScKI.a8, ScKI.a9, ScKI.a10, ScKI.a11, ScKI.a12, ScKI.a13, ScKI.a14,
      ScKI.a15, ScKI.a16, ScKI.cat, ScKI.tab, ← e0, ← e1, ← e2, ← e3, ← e4, ← e5, ← e6, ← e7, ← e8, ← e9, ← e10, ← e11, ← e12, ← e13,
      ← e14, ← e15, ← e16]
  · exact ⟨(h d).1, (h d).2⟩

/-- All the claims. -/
theorem claim : Cert.Claim := ⟨Cert.Kernel.Gen.facts, Cert.KernelIdeal.Gen.facts, Cert.ReferenceIdeal.Gen.facts, Cert.Pre_in_range.Gen.facts,
  Cert.Pre_in_range_finite.Gen.facts, frame_P, frame_PI, frame_PI_finite, frame_RI, frame_RI_finite, trivial, value⟩

end Cert.Proof

end
